-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x1024 : Shape := ⟨3, ![2, 512, 1024]⟩
abbrev S1024x1024 : Shape := ⟨2, ![1024, 1024]⟩
abbrev S_ : Shape := ⟨0, ![]⟩

class Facts : Prop where
  bcast_S_S2x512x1024 : S_.BroadcastsInDim S2x512x1024 (![] : Fin 0 → Fin S2x512x1024.rank)
  bcast_S_S1024x1024 : S_.BroadcastsInDim S1024x1024 (![] : Fin 0 → Fin S1024x1024.rank)

variable [Facts]

def fn {F : FTy → Type} [FloatOps F] (main_arg0 : FVec F S2x512x1024 .f32) (main_arg1 : FVec F S1024x1024 .f32) (main_arg2 : FVec F S1024x1024 .f32) (main_arg3 : FVec F S1024x1024 .f32) (main_arg4 : FVec F S1024x1024 .f32) : IVec S2x512x1024 1 × IVec S1024x1024 1 × IVec S1024x1024 1 :=
  let main_v0 : FVec F S2x512x1024 .f32 := Host.absf main_arg0
  let main_cst : FVec F S_ .f32 := constant S_ .f32 0x7F800000#32
  let main_v1 : FVec F S2x512x1024 .f32 := broadcastInDim S2x512x1024 ![] bcast_S_S2x512x1024 main_cst
  let main_v2 : IVec S2x512x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  (main_v2, main_v5, main_v8)
-- ==== Pre_finite_ReferenceIdeal.lean ====
abbrev S2x512x1024 : Shape := ⟨3, ![2, 512, 1024]⟩
abbrev S1024x16384 : Shape := ⟨2, ![1024, 16384]⟩
abbrev S16384x1024 : Shape := ⟨2, ![16384, 1024]⟩
abbrev S_ : Shape := ⟨0, ![]⟩

class Facts : Prop where
  bcast_S_S2x512x1024 : S_.BroadcastsInDim S2x512x1024 (![] : Fin 0 → Fin S2x512x1024.rank)
  bcast_S_S1024x16384 : S_.BroadcastsInDim S1024x16384 (![] : Fin 0 → Fin S1024x16384.rank)

variable [Facts]

def fn {F : FTy → Type} [FloatOps F] (main_arg0 : FVec F S2x512x1024 .f32) (main_arg1 : FVec F S1024x16384 .f32) (main_arg2 : FVec F S1024x16384 .f32) (main_arg3 : FVec F S1024x16384 .f32) (main_arg4 : FVec F S16384x1024 .f32) : IVec S2x512x1024 1 × IVec S1024x16384 1 × IVec S1024x16384 1 :=
  let main_v0 : FVec F S2x512x1024 .f32 := Host.absf main_arg0
  let main_cst : FVec F S_ .f32 := constant S_ .f32 0x7F800000#32
  let main_v1 : FVec F S2x512x1024 .f32 := broadcastInDim S2x512x1024 ![] bcast_S_S2x512x1024 main_cst
  let main_v2 : IVec S2x512x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  let main_v6 : FVec F S1024x16384 .f32 := Host.absf main_arg2
  let main_cst_1 : FVec F S_ .f32 := constant S_ .f32 0x7F800000#32
  let main_v7 : FVec F S1024x16384 .f32 := broadcastInDim S1024x16384 ![] bcast_S_S1024x16384 main_cst_1
  let main_v8 : IVec S1024x16384 1 := cmpf .olt main_v6 main_v7
  (main_v2, main_v5, main_v8)
-- ==== Kernel.lean ====
abbrev S2x512x1024 : Shape := ⟨3, ![2, 512, 1024]⟩
abbrev S1024x1024 : Shape := ⟨2, ![1024, 1024]⟩
abbrev S2 : Shape := ⟨1, ![2]⟩
abbrev S64 : Shape := ⟨1, ![64]⟩
abbrev S_ : Shape := ⟨0, ![]⟩
abbrev S512 : Shape := ⟨1, ![512]⟩
abbrev S512x1 : Shape := ⟨2, ![512, 1]⟩
abbrev S1x64 : Shape := ⟨2, ![1, 64]⟩
abbrev S512x64 : Shape := ⟨2, ![512, 64]⟩
abbrev S512x64x2 : Shape := ⟨3, ![512, 64, 2]⟩
abbrev S512x128 : Shape := ⟨2, ![512, 128]⟩
abbrev S1x512x1x128 : Shape := ⟨4, ![1, 512, 1, 128]⟩
abbrev S1x512x8x128 : Shape := ⟨4, ![1, 512, 8, 128]⟩
abbrev S512x1024 : Shape := ⟨2, ![512, 1024]⟩
abbrev S1x2 : Shape := ⟨2, ![1, 2]⟩
abbrev S512x2 : Shape := ⟨2, ![512, 2]⟩
abbrev S1024 : Shape := ⟨1, ![1024]⟩
abbrev S1x1024 : Shape := ⟨2, ![1, 1024]⟩
abbrev S64x1024 : Shape := ⟨2, ![64, 1024]⟩
abbrev S2x64x1024 : Shape := ⟨3, ![2, 64, 1024]⟩
abbrev S8x64x1024 : Shape := ⟨3, ![8, 64, 1024]⟩
abbrev S16 : Shape := ⟨1, ![16]⟩
abbrev S1x512x1024 : Shape := ⟨3, ![1, 512, 1024]⟩
abbrev S512x512 : Shape := ⟨2, ![512, 512]⟩
abbrev S32x1024 : Shape := ⟨2, ![32, 1024]⟩
abbrev S1x32x1024 : Shape := ⟨3, ![1, 32, 1024]⟩
abbrev S1 : Shape := ⟨1, ![1]⟩

abbrev nBuf : Space → Nat
  | .hbm => 50
  | .vmem => 17
  | .smem => 0
  | _ => 0

abbrev bufTy : (tb : Table) → Fin (tcTables nBuf tb) → BufTy
  | .hbm, ⟨0, _⟩ => ⟨S2x512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2, .f32⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S512, .i32⟩
  | .hbm, ⟨24, _⟩ => ⟨S512x1, .i32⟩
  | .hbm, ⟨25, _⟩ => ⟨S1x64, .f32⟩
  | .hbm, ⟨26, _⟩ => ⟨S512x1, .f32⟩
  | .hbm, ⟨27, _⟩ => ⟨S512x64, .f32⟩
  | .hbm, ⟨28, _⟩ => ⟨S512x64, .f32⟩
  | .hbm, ⟨29, _⟩ => ⟨S512x64, .f32⟩
  | .hbm, ⟨30, _⟩ => ⟨S512x64, .f32⟩
  | .hbm, ⟨31, _⟩ => ⟨S512x64x2, .f32⟩
  | .hbm, ⟨32, _⟩ => ⟨S512x128, .f32⟩
  | .hbm, ⟨33, _⟩ => ⟨S512x64, .f32⟩
  | .hbm, ⟨34, _⟩ => ⟨S512x64x2, .f32⟩
  | .hbm, ⟨35, _⟩ => ⟨S512x128, .f32⟩
  | .hbm, ⟨36, _⟩ => ⟨S1x512x1x128, .f32⟩
  | .hbm, ⟨37, _⟩ => ⟨S1x512x8x128, .f32⟩
  | .hbm, ⟨38, _⟩ => ⟨S512x1024, .f32⟩
  | .hbm, ⟨39, _⟩ => ⟨S1x512x1x128, .f32⟩
  | .hbm, ⟨40, _⟩ => ⟨S1x512x8x128, .f32⟩
  | .hbm, ⟨41, _⟩ => ⟨S512x1024, .f32⟩
  | .hbm, ⟨42, _⟩ => ⟨S1x2, .f32⟩
  | .hbm, ⟨43, _⟩ => ⟨S512x2, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1x1024, .f32⟩
  | .hbm, ⟨48, _⟩ => ⟨S1x1024, .f32⟩
  | .hbm, ⟨49, _⟩ => ⟨S2x512x1024, .f32⟩
  | .local _ .vmem, ⟨0, _⟩ => ⟨S2x512x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S2x512x1024, .f32⟩
  | .local _ .vmem, ⟨10, _⟩ => ⟨S1024x1024, .f32⟩
  | .local _ .vmem, ⟨11, _⟩ => ⟨S64x1024, .bf16⟩
  | .local _ .vmem, ⟨12, _⟩ => ⟨S2x64x1024, .bf16⟩
  | .local _ .vmem, ⟨13, _⟩ => ⟨S8x64x1024, .bf16⟩
  | .local _ .vmem, ⟨14, _⟩ => ⟨S8x64x1024, .bf16⟩
  | .local _ .vmem, ⟨15, _⟩ => ⟨S8x64x1024, .bf16⟩
  | .local _ .vmem, ⟨16, _⟩ => ⟨S8x64x1024, .bf16⟩
  | _, _ => ⟨S2x512x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 138 → Bool
  | ⟨i, _⟩ => dmaSemScopedAt i

abbrev sig : RefSig :=
  (ofTc nBuf bufTy 1 138 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8 : BitVec 32 := 1#32
  let v11 : BitVec 32 := Scalar.muli v4 c1_i32_8
  let v12 : BitVec 32 := Scalar.addi c0_i32_9 v11
  v12.toNat
def k0_off1 (d0 : Dev nD) (c8_i32 : BitVec 32) (c0_i32_120 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v289 : BitVec 32 := Scalar.addi v2 c8_i32
  let c32_i32 : BitVec 32 := 32#32
  let v290 : BitVec 32 := Scalar.addi v289 c32_i32
  let c16_i32_119 : BitVec 32 := 16#32
  let v291 : BitVec 32 := Scalar.remsi v290 c16_i32_119
  let c64_i32 : BitVec 32 := 64#32
  let v292 : BitVec 32 := Scalar.muli v291 c64_i32
  let v293 : BitVec 32 := Scalar.addi v292 c0_i32_120
  let v294 : Index := Scalar.indexCast v293
  let c0_121 : Index := 0#32
  ![v294.toNat, 0]
def k0_off1_at (r : Fin 32) : BitVec 32 × BitVec 32 :=
  if r.val < 16 then
    if r.val < 8 then
      if r.val < 4 then
        if r.val < 2 then
          if r.val < 1 then
            (8#32, 0#32)
          else
            (9#32, 0#32)
        else
          if r.val < 3 then
            (8#32, 32#32)
          else
            (9#32, 32#32)
      else
        if r.val < 6 then
          if r.val < 5 then
            (7#32, 0#32)
          else
            (7#32, 32#32)
        else
          if r.val < 7 then
            (4294967290#32, 0#32)
          else
            (4294967290#32, 32#32)
    else
      if r.val < 12 then
        if r.val < 10 then
          if r.val < 9 then
            (6#32, 0#32)
          else
            (6#32, 32#32)
        else
          if r.val < 11 then
            (4294967291#32, 0#32)
          else
            (4294967291#32, 32#32)
      else
        if r.val < 14 then
          if r.val < 13 then
            (5#32, 0#32)
          else
            (5#32, 32#32)
        else
          if r.val < 15 then
            (4294967292#32, 0#32)
          else
            (4294967292#32, 32#32)
  else
    if r.val < 24 then
      if r.val < 20 then
        if r.val < 18 then
          if r.val < 17 then
            (4#32, 0#32)
          else
            (4#32, 32#32)
        else
          if r.val < 19 then
            (4294967293#32, 0#32)
          else
            (4294967293#32, 32#32)
      else
        if r.val < 22 then
          if r.val < 21 then
            (3#32, 0#32)
          else
            (3#32, 32#32)
        else
          if r.val < 23 then
            (4294967294#32, 0#32)
          else
            (4294967294#32, 32#32)
    else
      if r.val < 28 then
        if r.val < 26 then
          if r.val < 25 then
            (2#32, 0#32)
          else
            (2#32, 32#32)
        else
          if r.val < 27 then
            (4294967295#32, 0#32)
          else
            (4294967295#32, 32#32)
      else
        if r.val < 30 then
          if r.val < 29 then
            (1#32, 0#32)
          else
            (1#32, 32#32)
        else
          if r.val < 31 then
            (0#32, 0#32)
          else
            (0#32, 32#32)
def k0_dev3 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_129 : BitVec 32 := 1#32
  let v300 : BitVec 32 := Scalar.muli v4 c1_i32_129
  let v301 : BitVec 32 := Scalar.addi c0_i32_130 v300
  v301.toNat
def k0_dev4 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_147 : BitVec 32 := 1#32
  let v321 : BitVec 32 := Scalar.muli v7 c1_i32_147
  let v322 : BitVec 32 := Scalar.addi c0_i32_148 v321
  v322.toNat
def k0_dev5 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_165 : BitVec 32 := 1#32
  let v342 : BitVec 32 := Scalar.muli v4 c1_i32_165
  let v343 : BitVec 32 := Scalar.addi c0_i32_166 v342
  v343.toNat
def k0_dev6 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_184 : BitVec 32 := 1#32
  let v363 : BitVec 32 := Scalar.muli v7 c1_i32_184
  let v364 : BitVec 32 := Scalar.addi c0_i32_185 v363
  v364.toNat
def k0_dev7 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_215 : BitVec 32 := 1#32
  let v396 : BitVec 32 := Scalar.muli v4 c1_i32_215
  let v397 : BitVec 32 := Scalar.addi c0_i32_216 v396
  v397.toNat
def k0_dev8 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_246 : BitVec 32 := 1#32
  let v429 : BitVec 32 := Scalar.muli v4 c1_i32_246
  let v430 : BitVec 32 := Scalar.addi c0_i32_247 v429
  v430.toNat
def k0_dev9 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_277 : BitVec 32 := 1#32
  let v462 : BitVec 32 := Scalar.muli v7 c1_i32_277
  let v463 : BitVec 32 := Scalar.addi c0_i32_278 v462
  v463.toNat
def k0_dev10 (d0 : Dev nD) : Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_309 : BitVec 32 := 1#32
  let v495 : BitVec 32 := Scalar.muli v7 c1_i32_309
  let v496 : BitVec 32 := Scalar.addi c0_i32_310 v495
  v496.toNat
def k0_dev11 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_339 : BitVec 32 := 1#32
  let v528 : BitVec 32 := Scalar.muli v4 c1_i32_339
  let v529 : BitVec 32 := Scalar.addi c0_i32_340 v528
  v529.toNat
def k0_dev12 (d0 : Dev nD) : Nat :=
  let c0_i32_371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_370 : BitVec 32 := 1#32
  let v561 : BitVec 32 := Scalar.muli v4 c1_i32_370
  let v562 : BitVec 32 := Scalar.addi c0_i32_371 v561
  v562.toNat
def k0_dev13 (d0 : Dev nD) : Nat :=
  let c0_i32_402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_401 : BitVec 32 := 1#32
  let v594 : BitVec 32 := Scalar.muli v7 c1_i32_401
  let v595 : BitVec 32 := Scalar.addi c0_i32_402 v594
  v595.toNat
def k0_dev14 (d0 : Dev nD) : Nat :=
  let c0_i32_434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_433 : BitVec 32 := 1#32
  let v627 : BitVec 32 := Scalar.muli v7 c1_i32_433
  let v628 : BitVec 32 := Scalar.addi c0_i32_434 v627
  v628.toNat
def k0_dev15 (d0 : Dev nD) : Nat :=
  let c0_i32_465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_464 : BitVec 32 := 1#32
  let v660 : BitVec 32 := Scalar.muli v4 c1_i32_464
  let v661 : BitVec 32 := Scalar.addi c0_i32_465 v660
  v661.toNat
def k0_dev16 (d0 : Dev nD) : Nat :=
  let c0_i32_497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_496 : BitVec 32 := 1#32
  let v693 : BitVec 32 := Scalar.muli v4 c1_i32_496
  let v694 : BitVec 32 := Scalar.addi c0_i32_497 v693
  v694.toNat
def k0_dev17 (d0 : Dev nD) : Nat :=
  let c0_i32_528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_527 : BitVec 32 := 1#32
  let v726 : BitVec 32 := Scalar.muli v7 c1_i32_527
  let v727 : BitVec 32 := Scalar.addi c0_i32_528 v726
  v727.toNat
def k0_dev18 (d0 : Dev nD) : Nat :=
  let c0_i32_560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_559 : BitVec 32 := 1#32
  let v759 : BitVec 32 := Scalar.muli v7 c1_i32_559
  let v760 : BitVec 32 := Scalar.addi c0_i32_560 v759
  v760.toNat
def k0_dev19 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_590 : BitVec 32 := 1#32
  let v792 : BitVec 32 := Scalar.muli v4 c1_i32_590
  let v793 : BitVec 32 := Scalar.addi c0_i32_591 v792
  v793.toNat
def k0_dev20 (d0 : Dev nD) : Nat :=
  let c0_i32_623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_622 : BitVec 32 := 1#32
  let v825 : BitVec 32 := Scalar.muli v4 c1_i32_622
  let v826 : BitVec 32 := Scalar.addi c0_i32_623 v825
  v826.toNat
def k0_dev21 (d0 : Dev nD) : Nat :=
  let c0_i32_654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_653 : BitVec 32 := 1#32
  let v858 : BitVec 32 := Scalar.muli v7 c1_i32_653
  let v859 : BitVec 32 := Scalar.addi c0_i32_654 v858
  v859.toNat
def k0_dev22 (d0 : Dev nD) : Nat :=
  let c0_i32_686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_685 : BitVec 32 := 1#32
  let v891 : BitVec 32 := Scalar.muli v7 c1_i32_685
  let v892 : BitVec 32 := Scalar.addi c0_i32_686 v891
  v892.toNat
def k0_dev23 (d0 : Dev nD) : Nat :=
  let c0_i32_716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_715 : BitVec 32 := 1#32
  let v924 : BitVec 32 := Scalar.muli v4 c1_i32_715
  let v925 : BitVec 32 := Scalar.addi c0_i32_716 v924
  v925.toNat
def k0_dev24 (d0 : Dev nD) : Nat :=
  let c0_i32_747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_746 : BitVec 32 := 1#32
  let v957 : BitVec 32 := Scalar.muli v4 c1_i32_746
  let v958 : BitVec 32 := Scalar.addi c0_i32_747 v957
  v958.toNat
def k0_dev25 (d0 : Dev nD) : Nat :=
  let c0_i32_778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_777 : BitVec 32 := 1#32
  let v990 : BitVec 32 := Scalar.muli v7 c1_i32_777
  let v991 : BitVec 32 := Scalar.addi c0_i32_778 v990
  v991.toNat
def k0_dev26 (d0 : Dev nD) : Nat :=
  let c0_i32_810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_809 : BitVec 32 := 1#32
  let v1023 : BitVec 32 := Scalar.muli v7 c1_i32_809
  let v1024 : BitVec 32 := Scalar.addi c0_i32_810 v1023
  v1024.toNat
def k0_dev27 (d0 : Dev nD) : Nat :=
  let c0_i32_840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_839 : BitVec 32 := 1#32
  let v1056 : BitVec 32 := Scalar.muli v4 c1_i32_839
  let v1057 : BitVec 32 := Scalar.addi c0_i32_840 v1056
  v1057.toNat
def k0_dev28 (d0 : Dev nD) : Nat :=
  let c0_i32_871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_870 : BitVec 32 := 1#32
  let v1089 : BitVec 32 := Scalar.muli v4 c1_i32_870
  let v1090 : BitVec 32 := Scalar.addi c0_i32_871 v1089
  v1090.toNat
def k0_dev29 (d0 : Dev nD) : Nat :=
  let c0_i32_902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_901 : BitVec 32 := 1#32
  let v1122 : BitVec 32 := Scalar.muli v7 c1_i32_901
  let v1123 : BitVec 32 := Scalar.addi c0_i32_902 v1122
  v1123.toNat
def k0_dev30 (d0 : Dev nD) : Nat :=
  let c0_i32_934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_933 : BitVec 32 := 1#32
  let v1155 : BitVec 32 := Scalar.muli v7 c1_i32_933
  let v1156 : BitVec 32 := Scalar.addi c0_i32_934 v1155
  v1156.toNat
def k0_dev31 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_963 : BitVec 32 := 1#32
  let v1188 : BitVec 32 := Scalar.muli v4 c1_i32_963
  let v1189 : BitVec 32 := Scalar.addi c0_i32_964 v1188
  v1189.toNat
def k0_dev32 (d0 : Dev nD) : Nat :=
  let c0_i32_995 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_994 : BitVec 32 := 1#32
  let v1221 : BitVec 32 := Scalar.muli v4 c1_i32_994
  let v1222 : BitVec 32 := Scalar.addi c0_i32_995 v1221
  v1222.toNat
def k0_off2 (d0 : Dev nD) (c0_i32_1051 : BitVec 32) (c0_i32_1057 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1278 : BitVec 32 := Scalar.addi v2 c0_i32_1051
  let c32_i32_1052 : BitVec 32 := 32#32
  let v1279 : BitVec 32 := Scalar.addi v1278 c32_i32_1052
  let c16_i32_1053 : BitVec 32 := 16#32
  let v1280 : BitVec 32 := Scalar.remsi v1279 c16_i32_1053
  let c8_i32_1054 : BitVec 32 := 8#32
  let v1281 : BitVec 32 := Scalar.divsi v1280 c8_i32_1054
  let v1285 : Index := Scalar.indexCast v1281
  let c8_i32_1055 : BitVec 32 := 8#32
  let v1282 : BitVec 32 := Scalar.remsi v1280 c8_i32_1055
  let c64_i32_1056 : BitVec 32 := 64#32
  let v1283 : BitVec 32 := Scalar.muli v1282 c64_i32_1056
  let v1284 : BitVec 32 := Scalar.addi v1283 c0_i32_1057
  let v1286 : Index := Scalar.indexCast v1284
  let c0_1058 : Index := 0#32
  ![v1285.toNat, v1286.toNat, 0]
def k0_off2_at (r : Fin 32) : BitVec 32 × BitVec 32 :=
  if r.val < 16 then
    if r.val < 8 then
      if r.val < 4 then
        if r.val < 2 then
          if r.val < 1 then
            (0#32, 0#32)
          else
            (0#32, 32#32)
        else
          if r.val < 3 then
            (4294967295#32, 0#32)
          else
            (4294967295#32, 32#32)
      else
        if r.val < 6 then
          if r.val < 5 then
            (1#32, 0#32)
          else
            (1#32, 32#32)
        else
          if r.val < 7 then
            (4294967294#32, 0#32)
          else
            (4294967294#32, 32#32)
    else
      if r.val < 12 then
        if r.val < 10 then
          if r.val < 9 then
            (2#32, 0#32)
          else
            (2#32, 32#32)
        else
          if r.val < 11 then
            (4294967293#32, 0#32)
          else
            (4294967293#32, 32#32)
      else
        if r.val < 14 then
          if r.val < 13 then
            (3#32, 0#32)
          else
            (3#32, 32#32)
        else
          if r.val < 15 then
            (4294967292#32, 0#32)
          else
            (4294967292#32, 32#32)
  else
    if r.val < 24 then
      if r.val < 20 then
        if r.val < 18 then
          if r.val < 17 then
            (4#32, 0#32)
          else
            (4#32, 32#32)
        else
          if r.val < 19 then
            (4294967291#32, 0#32)
          else
            (4294967291#32, 32#32)
      else
        if r.val < 22 then
          if r.val < 21 then
            (5#32, 0#32)
          else
            (5#32, 32#32)
        else
          if r.val < 23 then
            (4294967290#32, 0#32)
          else
            (4294967290#32, 32#32)
    else
      if r.val < 28 then
        if r.val < 26 then
          if r.val < 25 then
            (6#32, 0#32)
          else
            (6#32, 32#32)
        else
          if r.val < 27 then
            (4294967289#32, 0#32)
          else
            (4294967289#32, 32#32)
      else
        if r.val < 30 then
          if r.val < 29 then
            (7#32, 0#32)
          else
            (7#32, 32#32)
        else
          if r.val < 31 then
            (4294967288#32, 0#32)
          else
            (4294967288#32, 32#32)
def k0_dev33 (d0 : Dev nD) : Nat :=
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1064 : BitVec 32 := 1#32
  let v1294 : BitVec 32 := Scalar.muli v4 c1_i32_1064
  let v1295 : BitVec 32 := Scalar.addi c0_i32_1065 v1294
  v1295.toNat
def k0_dev34 (d0 : Dev nD) : Nat :=
  let c0_i32_1074 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1073 : BitVec 32 := 1#32
  let v1303 : BitVec 32 := Scalar.muli v7 c1_i32_1073
  let v1304 : BitVec 32 := Scalar.addi c0_i32_1074 v1303
  v1304.toNat
def k0_dev35 (d0 : Dev nD) : Nat :=
  let c0_i32_1105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1104 : BitVec 32 := 1#32
  let v1343 : BitVec 32 := Scalar.muli v4 c1_i32_1104
  let v1344 : BitVec 32 := Scalar.addi c0_i32_1105 v1343
  v1344.toNat
def k0_dev36 (d0 : Dev nD) : Nat :=
  let c0_i32_1114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1113 : BitVec 32 := 1#32
  let v1352 : BitVec 32 := Scalar.muli v7 c1_i32_1113
  let v1353 : BitVec 32 := Scalar.addi c0_i32_1114 v1352
  v1353.toNat
def k0_dev37 (d0 : Dev nD) : Nat :=
  let c0_i32_1134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1133 : BitVec 32 := 1#32
  let v1369 : BitVec 32 := Scalar.muli v4 c1_i32_1133
  let v1370 : BitVec 32 := Scalar.addi c0_i32_1134 v1369
  v1370.toNat
def k0_dev38 (d0 : Dev nD) : Nat :=
  let c0_i32_1165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1164 : BitVec 32 := 1#32
  let v1402 : BitVec 32 := Scalar.muli v4 c1_i32_1164
  let v1403 : BitVec 32 := Scalar.addi c0_i32_1165 v1402
  v1403.toNat
def k0_dev39 (d0 : Dev nD) : Nat :=
  let c0_i32_1196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1195 : BitVec 32 := 1#32
  let v1435 : BitVec 32 := Scalar.muli v7 c1_i32_1195
  let v1436 : BitVec 32 := Scalar.addi c0_i32_1196 v1435
  v1436.toNat
def k0_dev40 (d0 : Dev nD) : Nat :=
  let c0_i32_1227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1226 : BitVec 32 := 1#32
  let v1468 : BitVec 32 := Scalar.muli v7 c1_i32_1226
  let v1469 : BitVec 32 := Scalar.addi c0_i32_1227 v1468
  v1469.toNat
def k0_dev41 (d0 : Dev nD) : Nat :=
  let c0_i32_1258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1257 : BitVec 32 := 1#32
  let v1501 : BitVec 32 := Scalar.muli v4 c1_i32_1257
  let v1502 : BitVec 32 := Scalar.addi c0_i32_1258 v1501
  v1502.toNat
def k0_dev42 (d0 : Dev nD) : Nat :=
  let c0_i32_1289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1288 : BitVec 32 := 1#32
  let v1534 : BitVec 32 := Scalar.muli v4 c1_i32_1288
  let v1535 : BitVec 32 := Scalar.addi c0_i32_1289 v1534
  v1535.toNat
def k0_dev43 (d0 : Dev nD) : Nat :=
  let c0_i32_1320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1319 : BitVec 32 := 1#32
  let v1567 : BitVec 32 := Scalar.muli v7 c1_i32_1319
  let v1568 : BitVec 32 := Scalar.addi c0_i32_1320 v1567
  v1568.toNat
def k0_dev44 (d0 : Dev nD) : Nat :=
  let c0_i32_1351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1350 : BitVec 32 := 1#32
  let v1600 : BitVec 32 := Scalar.muli v7 c1_i32_1350
  let v1601 : BitVec 32 := Scalar.addi c0_i32_1351 v1600
  v1601.toNat
def k0_dev45 (d0 : Dev nD) : Nat :=
  let c0_i32_1382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1381 : BitVec 32 := 1#32
  let v1633 : BitVec 32 := Scalar.muli v4 c1_i32_1381
  let v1634 : BitVec 32 := Scalar.addi c0_i32_1382 v1633
  v1634.toNat
def k0_dev46 (d0 : Dev nD) : Nat :=
  let c0_i32_1413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1412 : BitVec 32 := 1#32
  let v1666 : BitVec 32 := Scalar.muli v4 c1_i32_1412
  let v1667 : BitVec 32 := Scalar.addi c0_i32_1413 v1666
  v1667.toNat
def k0_dev47 (d0 : Dev nD) : Nat :=
  let c0_i32_1444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1443 : BitVec 32 := 1#32
  let v1699 : BitVec 32 := Scalar.muli v7 c1_i32_1443
  let v1700 : BitVec 32 := Scalar.addi c0_i32_1444 v1699
  v1700.toNat
def k0_dev48 (d0 : Dev nD) : Nat :=
  let c0_i32_1475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1474 : BitVec 32 := 1#32
  let v1732 : BitVec 32 := Scalar.muli v7 c1_i32_1474
  let v1733 : BitVec 32 := Scalar.addi c0_i32_1475 v1732
  v1733.toNat
def k0_dev49 (d0 : Dev nD) : Nat :=
  let c0_i32_1506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1505 : BitVec 32 := 1#32
  let v1765 : BitVec 32 := Scalar.muli v4 c1_i32_1505
  let v1766 : BitVec 32 := Scalar.addi c0_i32_1506 v1765
  v1766.toNat
def k0_dev50 (d0 : Dev nD) : Nat :=
  let c0_i32_1537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1536 : BitVec 32 := 1#32
  let v1798 : BitVec 32 := Scalar.muli v4 c1_i32_1536
  let v1799 : BitVec 32 := Scalar.addi c0_i32_1537 v1798
  v1799.toNat
def k0_dev51 (d0 : Dev nD) : Nat :=
  let c0_i32_1568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1567 : BitVec 32 := 1#32
  let v1831 : BitVec 32 := Scalar.muli v7 c1_i32_1567
  let v1832 : BitVec 32 := Scalar.addi c0_i32_1568 v1831
  v1832.toNat
def k0_dev52 (d0 : Dev nD) : Nat :=
  let c0_i32_1599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1598 : BitVec 32 := 1#32
  let v1864 : BitVec 32 := Scalar.muli v7 c1_i32_1598
  let v1865 : BitVec 32 := Scalar.addi c0_i32_1599 v1864
  v1865.toNat
def k0_dev53 (d0 : Dev nD) : Nat :=
  let c0_i32_1630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1629 : BitVec 32 := 1#32
  let v1897 : BitVec 32 := Scalar.muli v4 c1_i32_1629
  let v1898 : BitVec 32 := Scalar.addi c0_i32_1630 v1897
  v1898.toNat
def k0_dev54 (d0 : Dev nD) : Nat :=
  let c0_i32_1661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1660 : BitVec 32 := 1#32
  let v1930 : BitVec 32 := Scalar.muli v4 c1_i32_1660
  let v1931 : BitVec 32 := Scalar.addi c0_i32_1661 v1930
  v1931.toNat
def k0_dev55 (d0 : Dev nD) : Nat :=
  let c0_i32_1692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1691 : BitVec 32 := 1#32
  let v1963 : BitVec 32 := Scalar.muli v7 c1_i32_1691
  let v1964 : BitVec 32 := Scalar.addi c0_i32_1692 v1963
  v1964.toNat
def k0_dev56 (d0 : Dev nD) : Nat :=
  let c0_i32_1723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1722 : BitVec 32 := 1#32
  let v1996 : BitVec 32 := Scalar.muli v7 c1_i32_1722
  let v1997 : BitVec 32 := Scalar.addi c0_i32_1723 v1996
  v1997.toNat
def k0_dev57 (d0 : Dev nD) : Nat :=
  let c0_i32_1754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1753 : BitVec 32 := 1#32
  let v2029 : BitVec 32 := Scalar.muli v4 c1_i32_1753
  let v2030 : BitVec 32 := Scalar.addi c0_i32_1754 v2029
  v2030.toNat
def k0_dev58 (d0 : Dev nD) : Nat :=
  let c0_i32_1785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1784 : BitVec 32 := 1#32
  let v2062 : BitVec 32 := Scalar.muli v4 c1_i32_1784
  let v2063 : BitVec 32 := Scalar.addi c0_i32_1785 v2062
  v2063.toNat
def k0_dev59 (d0 : Dev nD) : Nat :=
  let c0_i32_1816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1815 : BitVec 32 := 1#32
  let v2095 : BitVec 32 := Scalar.muli v7 c1_i32_1815
  let v2096 : BitVec 32 := Scalar.addi c0_i32_1816 v2095
  v2096.toNat
def k0_dev60 (d0 : Dev nD) : Nat :=
  let c0_i32_1847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1846 : BitVec 32 := 1#32
  let v2128 : BitVec 32 := Scalar.muli v7 c1_i32_1846
  let v2129 : BitVec 32 := Scalar.addi c0_i32_1847 v2128
  v2129.toNat
def k0_dev61 (d0 : Dev nD) : Nat :=
  let c0_i32_1878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1877 : BitVec 32 := 1#32
  let v2161 : BitVec 32 := Scalar.muli v4 c1_i32_1877
  let v2162 : BitVec 32 := Scalar.addi c0_i32_1878 v2161
  v2162.toNat
def k0_dev62 (d0 : Dev nD) : Nat :=
  let c0_i32_1908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1907 : BitVec 32 := 1#32
  let v2194 : BitVec 32 := Scalar.muli v4 c1_i32_1907
  let v2195 : BitVec 32 := Scalar.addi c0_i32_1908 v2194
  v2195.toNat
abbrev stage0_0 : Fin 1 → Memref sig .tc .vmem S2x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S2x512x1024 : Shape := ⟨3, ![2, 512, 1024]⟩
abbrev S1024x16384 : Shape := ⟨2, ![1024, 16384]⟩
abbrev S16384x1024 : Shape := ⟨2, ![16384, 1024]⟩
abbrev S64 : Shape := ⟨1, ![64]⟩
abbrev S_ : Shape := ⟨0, ![]⟩
abbrev S512 : Shape := ⟨1, ![512]⟩
abbrev S512x1 : Shape := ⟨2, ![512, 1]⟩
abbrev S1x64 : Shape := ⟨2, ![1, 64]⟩
abbrev S512x64 : Shape := ⟨2, ![512, 64]⟩
abbrev S512x64x2 : Shape := ⟨3, ![512, 64, 2]⟩
abbrev S512x128 : Shape := ⟨2, ![512, 128]⟩
abbrev S2x512x16384 : Shape := ⟨3, ![2, 512, 16384]⟩
abbrev S2x512x128x128 : Shape := ⟨4, ![2, 512, 128, 128]⟩
abbrev S2x512x128x64x2 : Shape := ⟨5, ![2, 512, 128, 64, 2]⟩
abbrev S2x512x128x64x1 : Shape := ⟨5, ![2, 512, 128, 64, 1]⟩
abbrev S2x512x128x64 : Shape := ⟨4, ![2, 512, 128, 64]⟩
abbrev S1x512x1x128 : Shape := ⟨4, ![1, 512, 1, 128]⟩
abbrev S2x128x512x512 : Shape := ⟨4, ![2, 128, 512, 512]⟩
abbrev S2x128x512 : Shape := ⟨3, ![2, 128, 512]⟩
abbrev S2x128x512x1 : Shape := ⟨4, ![2, 128, 512, 1]⟩
abbrev S2x128x128x512 : Shape := ⟨4, ![2, 128, 128, 512]⟩

abbrev nBuf : Space → Nat
  | .hbm => 94
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S1024x16384, .f32⟩
  | .hbm, ⟨2, _⟩ => ⟨S1024x16384, .f32⟩
  | .hbm, ⟨3, _⟩ => ⟨S1024x16384, .f32⟩
  | .hbm, ⟨4, _⟩ => ⟨S16384x1024, .f32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S512, .i32⟩
  | .hbm, ⟨23, _⟩ => ⟨S512x1, .i32⟩
  | .hbm, ⟨24, _⟩ => ⟨S1x64, .f32⟩
  | .hbm, ⟨25, _⟩ => ⟨S512x1, .f32⟩
  | .hbm, ⟨26, _⟩ => ⟨S512x64, .f32⟩
  | .hbm, ⟨27, _⟩ => ⟨S512x64, .f32⟩
  | .hbm, ⟨28, _⟩ => ⟨S512x64, .f32⟩
  | .hbm, ⟨29, _⟩ => ⟨S512x64, .f32⟩
  | .hbm, ⟨30, _⟩ => ⟨S512x64x2, .f32⟩
  | .hbm, ⟨31, _⟩ => ⟨S512x128, .f32⟩
  | .hbm, ⟨32, _⟩ => ⟨S512x64, .f32⟩
  | .hbm, ⟨33, _⟩ => ⟨S512x64x2, .f32⟩
  | .hbm, ⟨34, _⟩ => ⟨S512x128, .f32⟩
  | .hbm, ⟨35, _⟩ => ⟨S2x512x16384, .f32⟩
  | .hbm, ⟨36, _⟩ => ⟨S2x512x128x128, .f32⟩
  | .hbm, ⟨37, _⟩ => ⟨S2x512x128x64x2, .f32⟩
  | .hbm, ⟨38, _⟩ => ⟨S2x512x128x64x1, .f32⟩
  | .hbm, ⟨39, _⟩ => ⟨S2x512x128x64, .f32⟩
  | .hbm, ⟨40, _⟩ => ⟨S2x512x128x64, .f32⟩
  | .hbm, ⟨41, _⟩ => ⟨S2x512x128x64x1, .f32⟩
  | .hbm, ⟨42, _⟩ => ⟨S2x512x128x64, .f32⟩
  | .hbm, ⟨43, _⟩ => ⟨S2x512x128x64x1, .f32⟩
  | .hbm, ⟨44, _⟩ => ⟨S2x512x128x64x1, .f32⟩
  | .hbm, ⟨45, _⟩ => ⟨S2x512x128x64x2, .f32⟩
  | .hbm, ⟨46, _⟩ => ⟨S2x512x128x128, .f32⟩
  | .hbm, ⟨47, _⟩ => ⟨S1x512x1x128, .f32⟩
  | .hbm, ⟨48, _⟩ => ⟨S2x512x128x128, .f32⟩
  | .hbm, ⟨49, _⟩ => ⟨S2x512x128x128, .f32⟩
  | .hbm, ⟨50, _⟩ => ⟨S1x512x1x128, .f32⟩
  | .hbm, ⟨51, _⟩ => ⟨S2x512x128x128, .f32⟩
  | .hbm, ⟨52, _⟩ => ⟨S2x512x128x128, .f32⟩
  | .hbm, ⟨53, _⟩ => ⟨S2x512x128x128, .f32⟩
  | .hbm, ⟨54, _⟩ => ⟨S2x512x16384, .f32⟩
  | .hbm, ⟨55, _⟩ => ⟨S2x512x128x128, .f32⟩
  | .hbm, ⟨56, _⟩ => ⟨S2x512x128x64x2, .f32⟩
  | .hbm, ⟨57, _⟩ => ⟨S2x512x128x64x1, .f32⟩
  | .hbm, ⟨58, _⟩ => ⟨S2x512x128x64, .f32⟩
  | .hbm, ⟨59, _⟩ => ⟨S2x512x128x64, .f32⟩
  | .hbm, ⟨60, _⟩ => ⟨S2x512x128x64x1, .f32⟩
  | .hbm, ⟨61, _⟩ => ⟨S2x512x128x64, .f32⟩
  | .hbm, ⟨62, _⟩ => ⟨S2x512x128x64x1, .f32⟩
  | .hbm, ⟨63, _⟩ => ⟨S2x512x128x64x1, .f32⟩
  | .hbm, ⟨64, _⟩ => ⟨S2x512x128x64x2, .f32⟩
  | .hbm, ⟨65, _⟩ => ⟨S2x512x128x128, .f32⟩
  | .hbm, ⟨66, _⟩ => ⟨S1x512x1x128, .f32⟩
  | .hbm, ⟨67, _⟩ => ⟨S2x512x128x128, .f32⟩
  | .hbm, ⟨68, _⟩ => ⟨S2x512x128x128, .f32⟩
  | .hbm, ⟨69, _⟩ => ⟨S1x512x1x128, .f32⟩
  | .hbm, ⟨70, _⟩ => ⟨S2x512x128x128, .f32⟩
  | .hbm, ⟨71, _⟩ => ⟨S2x512x128x128, .f32⟩
  | .hbm, ⟨72, _⟩ => ⟨S2x512x128x128, .f32⟩
  | .hbm, ⟨73, _⟩ => ⟨S2x512x16384, .f32⟩
  | .hbm, ⟨74, _⟩ => ⟨S2x512x128x128, .f32⟩
  | .hbm, ⟨75, _⟩ => ⟨S2x128x512x512, .f32⟩
  | .hbm, ⟨76, _⟩ => ⟨S_, .f32⟩
  | .hbm, ⟨77, _⟩ => ⟨S2x128x512x512, .f32⟩
  | .hbm, ⟨78, _⟩ => ⟨S2x128x512x512, .f32⟩
  | .hbm, ⟨79, _⟩ => ⟨S_, .f32⟩
  | .hbm, ⟨80, _⟩ => ⟨S2x128x512, .f32⟩
  | .hbm, ⟨81, _⟩ => ⟨S2x128x512x1, .f32⟩
  | .hbm, ⟨82, _⟩ => ⟨S2x128x512x512, .f32⟩
  | .hbm, ⟨83, _⟩ => ⟨S2x128x512x512, .f32⟩
  | .hbm, ⟨84, _⟩ => ⟨S2x128x512x512, .f32⟩
  | .hbm, ⟨85, _⟩ => ⟨S_, .f32⟩
  | .hbm, ⟨86, _⟩ => ⟨S2x128x512, .f32⟩
  | .hbm, ⟨87, _⟩ => ⟨S2x128x512x1, .f32⟩
  | .hbm, ⟨88, _⟩ => ⟨S2x128x512x512, .f32⟩
  | .hbm, ⟨89, _⟩ => ⟨S2x128x512x512, .f32⟩
  | .hbm, ⟨90, _⟩ => ⟨S2x128x128x512, .f32⟩
  | .hbm, ⟨91, _⟩ => ⟨S2x512x128x128, .f32⟩
  | .hbm, ⟨92, _⟩ => ⟨S2x512x16384, .f32⟩
  | .hbm, ⟨93, _⟩ => ⟨S2x512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.AttnMath.lean ====
/-
  The mathematics of one attention head on the extended reals: the weighted rows over the sum of the weights are the rows weighted by
  the normalised weights, with or without the row's maximum taken off the scores, as soon as the scores are real numbers.
-/
module

public import Idealize.ShloMosaic.PureOps.Ideal.Laws

@[expose] public section

noncomputable section

namespace Cert.Attn

open Idealize.ShloMosaic

/-- The value is a real number. -/
def Real' (x : EReal) : Prop := ∃ r : ℝ, x = (r : EReal)

theorem Real'.coe (r : ℝ) : Real' (r : EReal) := ⟨r, rfl⟩
theorem Real'.add {x y : EReal} : Real' x → Real' y → Real' (x + y) := by
  rintro ⟨a, rfl⟩ ⟨b, rfl⟩; exact ⟨a + b, (EReal.coe_add a b).symm⟩
theorem Real'.sub {x y : EReal} : Real' x → Real' y → Real' (x - y) := by
  rintro ⟨a, rfl⟩ ⟨b, rfl⟩; exact ⟨a - b, (EReal.coe_sub a b).symm⟩
theorem Real'.mul {x y : EReal} : Real' x → Real' y → Real' (x * y) := by
  rintro ⟨a, rfl⟩ ⟨b, rfl⟩; exact ⟨a * b, (EReal.coe_mul a b).symm⟩
theorem Real'.neg {x : EReal} : Real' x → Real' (-x) := by
  rintro ⟨a, rfl⟩; exact ⟨-a, (EReal.coe_neg a).symm⟩
theorem Real'.sum {ι : Type*} (s : Finset ι) {f : ι → EReal} (h : ∀ i, Real' (f i)) : Real' (∑ i ∈ s, f i) := by
  classical
  induction s using Finset.induction_on with
  | empty => exact ⟨0, by simp⟩
  | insert a s ha ih => rw [Finset.sum_insert ha]; exact (h a).add ih

/-- A value whose magnitude is below the top is a real number. -/
theorem Real'.of_abs_lt {x : EReal} (h : max x (-x) < ⊤) : Real' x := by
  induction x with
  | bot => simp at h
  | top => simp at h
  | coe r => exact ⟨r, rfl⟩

/-- The maximum of a row of real numbers is one. -/
theorem real_foldMax {n : ℕ} (f : Fin (n + 1) → EReal) (h : ∀ i, Real' (f i)) : Real' (Finset.univ.fold max ⊥ f) := by
  have hlt : Finset.univ.fold max ⊥ f < ⊤ :=
    (Finset.fold_max_lt _).mpr ⟨bot_lt_top, fun i _ => by obtain ⟨r, hr⟩ := h i; rw [hr]; exact EReal.coe_lt_top r⟩
  have hgt : ⊥ < Finset.univ.fold max ⊥ f :=
    (Finset.lt_fold_max _).mpr (.inr ⟨0, Finset.mem_univ _, by obtain ⟨r, hr⟩ := h 0; rw [hr]; exact EReal.bot_lt_coe r⟩)
  exact ⟨_, (EReal.coe_toReal hlt.ne hgt.ne').symm⟩

/-- A sum times a nonnegative real number is the sum of the products. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The head as the kernel computes it: the weighted rows over the weights' sum. -/
def headK {n : ℕ} (s v : Fin n → EReal) : EReal := Ideal.div (∑ j, Ideal.exp (s j) * v j) (∑ j, Ideal.exp (s j))

/-- The head as the reference computes it: the rows under the normalised weights of the scores less their maximum. -/
def headR {n : ℕ} (s v : Fin n → EReal) : EReal :=
  ∑ j, v j * Ideal.div (Ideal.exp (s j - Finset.univ.fold max ⊥ s)) (0 + ∑ k, Ideal.exp (s k - Finset.univ.fold max ⊥ s))

/-- For real scores the two are one, whatever the rows hold. -/
theorem headK_eq_headR {n : ℕ} (s v : Fin (n + 1) → EReal) (hs : ∀ j, Real' (s j)) : headK s v = headR s v := by
  obtain ⟨μ, hμ⟩ := real_foldMax s hs
  choose σ hσ using hs
  unfold headK headR
  rw [hμ]
  have e1 : ∀ j, Ideal.exp (s j) = ((Real.exp (σ j) : ℝ) : EReal) := fun j => by rw [hσ j]; rfl
  have e2 : ∀ j, Ideal.exp (s j - (μ : EReal)) = ((Real.exp (σ j) * Real.exp (-μ) : ℝ) : EReal) := fun j => by
    rw [hσ j, ← EReal.coe_sub, sub_eq_add_neg, ← Real.exp_add]; rfl
  simp only [e1, e2, zero_add, coe_sum]
  have hD : 0 < ∑ j, Real.exp (σ j) := Finset.sum_pos (fun j _ => Real.exp_pos _) ⟨0, Finset.mem_univ _⟩
  rw [← Finset.sum_mul, Ideal.div_coe hD.ne', sum_mul_coe _ _ (by positivity)]
  refine Finset.sum_congr rfl fun j _ => ?_
  rw [Ideal.div_coe (mul_pos hD (Real.exp_pos _)).ne', ← EReal.coe_mul, mul_comm _ (v j), mul_assoc, ← EReal.coe_mul]
  congr 2
  have := (Real.exp_pos (-μ)).ne'
  field_simp

/-- Two columns of a pair turned: the first takes the second's negative, the second the first. -/
def rope (cos sin t : Fin 128 → EReal) (d : Fin 128) : EReal :=
  t d * cos d + (if h : d.val % 2 = 0 then -t ⟨d.val + 1, by omega⟩ else t ⟨d.val - 1, by omega⟩) * sin d

theorem rope_real {cos sin t : Fin 128 → EReal} (hc : ∀ d, Real' (cos d)) (hs : ∀ d, Real' (sin d)) (ht : ∀ d, Real' (t d)) (d : Fin 128) :
    Real' (rope cos sin t d) := by
  unfold rope
  refine ((ht d).mul (hc d)).add (Real'.mul ?_ (hs d))
  split
  · exact (ht _).neg
  · exact ht _

/-- A scaled score. -/
def score (c : EReal) (q k : Fin 128 → EReal) : EReal := (∑ d, q d * k d) * c

theorem score_real {c : EReal} {q k : Fin 128 → EReal} (hc : Real' c) (hq : ∀ d, Real' (q d)) (hk : ∀ d, Real' (k d)) : Real' (score c q k) :=
  (Real'.sum _ fun d => (hq d).mul (hk d)).mul hc

/-- The scale of a score, the reciprocal of the square root of a head's size as the program writes it. -/
def scale : EReal := Ideal.ofBits .f32 0x3DB504F3#32

theorem scale_real : Real' scale := by
  unfold scale
  simp only [Ideal.ofBits, Ideal.ieee]
  rw [if_neg (by decide), if_neg (by decide)]
  exact .coe _

/-- The score of a row against another, of the turned projections. -/
def scores (cos sin q k : Fin 512 → Fin 128 → EReal) (i j : Fin 512) : EReal :=
  score scale (rope (cos i) (sin i) (q i)) (rope (cos j) (sin j) (k j))

theorem scores_real {cos sin q k : Fin 512 → Fin 128 → EReal} (hc : ∀ i d, Real' (cos i d)) (hs : ∀ i d, Real' (sin i d))
    (hq : ∀ i d, Real' (q i d)) (hk : ∀ i d, Real' (k i d)) (i j : Fin 512) : Real' (scores cos sin q k i j) :=
  score_real scale_real (rope_real (hc i) (hs i) (hq i)) (rope_real (hc j) (hs j) (hk j))

end Cert.Attn

end
-- ==== Proof.ReferenceValue.lean ====
/-
  The reference read at an index: a column of its result is the sum, over the columns of the heads, of the head's row times the output
  projection.
-/
module

public import proofs.«01_k».proof.Proof.Gen.ReferenceIdeal.Read
public import proofs.«01_k».proof.Proof.AttnMath

@[expose] public section

noncomputable section

namespace Cert.ReferenceIdeal.Attn

open Cert.ReferenceIdeal Cert.ReferenceIdeal.Gen Cert.ReferenceIdeal.Read
open Idealize.ShloMosaic Idealize.ShloMosaic.ValueIdx
open Cert.Attn

/-- The cosine and the sine of a row and a column of a head. -/
def cosT (i : Fin 512) (d : Fin 128) : EReal := val_main_v21 (F := Ideal) (ix2 i d)
def sinT (i : Fin 512) (d : Fin 128) : EReal := val_main_v24 (F := Ideal) (ix2 i d)

/-! ## The tables are real numbers -/

theorem real_cos {x : EReal} : Real' x → Real' (Ideal.cos x) := by rintro ⟨r, rfl⟩; exact .coe _
theorem real_sin {x : EReal} : Real' x → Real' (Ideal.sin x) := by rintro ⟨r, rfl⟩; exact .coe _

theorem real_div {x y : EReal} (hx : Real' x) (hy : ∃ r : ℝ, r ≠ 0 ∧ y = (r : EReal)) : Real' (Ideal.div x y) := by
  obtain ⟨r, hr, rfl⟩ := hy
  rw [Ideal.div_coe hr]
  exact hx.mul (.coe _)

theorem ofBits_one : Ideal.ofBits .f32 0x3F800000#32 = ((1 : ℝ) : EReal) := by
  simp [Ideal.ofBits, Ideal.ieee]
  rw [← EReal.coe_mul]
  norm_num
theorem ofBits_128 : Ideal.ofBits .f32 0x43000000#32 = ((128 : ℝ) : EReal) := by
  simp [Ideal.ofBits, Ideal.ieee]
  rw [← EReal.coe_mul]
  norm_num
theorem ofBits_10000 : Ideal.ofBits .f32 0x461C4000#32 = ((10000 : ℝ) : EReal) := by
  simp [Ideal.ofBits, Ideal.ieee]
  rw [← EReal.coe_mul]
  norm_num
theorem ofBits_bot : Ideal.ofBits .f32 0xFF800000#32 = ⊥ := by
  simp [Ideal.ofBits, Ideal.ieee]

theorem angle_real (i : S512x64.Idx) : Real' (val_main_v18 (F := Ideal) i) := by
  rw [val_main_v18_apply, val_main_v16_apply, val_main_v15_apply, val_main_v17_apply, val_main_v14_apply, val_main_v11_apply,
    val_main_v10_apply, val_main_cst_2_apply, val_main_v9_apply, val_main_v8_apply, val_main_cst_1_apply, val_main_v7_apply,
    val_main_v6_apply, val_main_cst_apply, val_main_v5_apply]
  refine Real'.mul (Real'.coe _) (real_div ?_ ?_)
  · exact ⟨1, ofBits_one⟩
  · obtain ⟨y, hy⟩ := real_div (x := FloatOps.sitofp (F := Ideal) .f32 (val_main_v4 (F := Ideal) (idx_main_v14 (idx_main_v17 i))))
      (y := Ideal.ofBits .f32 0x43000000#32) (.coe _) ⟨128, by norm_num, ofBits_128⟩
    refine ⟨Real.rpow 10000 y, (Real.rpow_pos_of_pos (by norm_num) y).ne', ?_⟩
    show Ideal.pow (Ideal.ofBits .f32 0x461C4000#32) (Ideal.div _ _) = _
    rw [ofBits_10000]
    exact congrArg (Ideal.pow ((10000 : ℝ) : EReal)) hy

theorem cosT_real (i : Fin 512) (d : Fin 128) : Real' (cosT i d) := by
  unfold cosT
  rw [val_main_v21_apply, val_main_v20_apply, val_main_v19_apply]
  exact real_cos (angle_real _)
theorem sinT_real (i : Fin 512) (d : Fin 128) : Real' (sinT i d) := by
  unfold sinT
  rw [val_main_v24_apply, val_main_v23_apply, val_main_v22_apply]
  exact real_sin (angle_real _)

/-! ## The projections and the rotary embedding -/

variable (x : S2x512x1024.Idx → EReal) (W Wq Wk Wv : S1024x16384.Idx → EReal) (Wo : S16384x1024.Idx → EReal)

/-- A column of a head among all. -/
def colOf (H d : Fin 128) : Fin 16384 := ⟨H.val * 128 + d.val, by omega⟩

/-- A row of a projection. -/
def proj (b : Fin 2) (i : Fin 512) (E : Fin 16384) : EReal := ∑ k : Fin 1024, x (ix3 b i k) * W (ix2 k E)

theorem v25_at (b : Fin 2) (i : Fin 512) (E : Fin 16384) : val_main_v25 (F := Ideal) x W (ix3 b i E) = proj x W b i E := by
  rw [val_main_v25_apply]
  refine Finset.sum_congr rfl fun k _ => ?_
  exact congrArg₂ (· * ·)
    (congrArg x (funext fun a => match a with | ⟨0, _⟩ => rfl | ⟨1, _⟩ => rfl | ⟨2, _⟩ => rfl))
    (congrArg W (funext fun a => match a with | ⟨0, _⟩ => rfl | ⟨1, _⟩ => rfl))

theorem v26_at (b : Fin 2) (i : Fin 512) (H d : Fin 128) : val_main_v26 (F := Ideal) x W (ix4 b i H d) = proj x W b i (colOf H d) := by
  rw [val_main_v26_apply, ← v25_at]
  refine congrArg _ (funext fun a => ?_)
  match a with
  | ⟨0, _⟩ => exact Fin.ext (by show (((b.val * 512 + i.val) * 128 + H.val) * 128 + d.val) / 8388608 = b.val; omega)
  | ⟨1, _⟩ => exact Fin.ext (by show (((b.val * 512 + i.val) * 128 + H.val) * 128 + d.val) / 16384 % 512 = i.val; omega)
  | ⟨2, _⟩ => exact Fin.ext (by show (((b.val * 512 + i.val) * 128 + H.val) * 128 + d.val) % 16384 = H.val * 128 + d.val; omega)

theorem v27_at (b : Fin 2) (i : Fin 512) (H : Fin 128) (p : Fin 64) (e : Fin 2) :
    val_main_v27 (F := Ideal) x W (ix5 b i H p e) = proj x W b i (colOf H ⟨p.val * 2 + e.val, by omega⟩) := by
  rw [val_main_v27_apply, ← v26_at]
  refine congrArg _ (funext fun a => ?_)
  match a with
  | ⟨0, _⟩ => exact Fin.ext (by show ((((b.val * 512 + i.val) * 128 + H.val) * 64 + p.val) * 2 + e.val) / 8388608 = b.val; omega)
  | ⟨1, _⟩ => exact Fin.ext (by show ((((b.val * 512 + i.val) * 128 + H.val) * 64 + p.val) * 2 + e.val) / 16384 % 512 = i.val; omega)
  | ⟨2, _⟩ => exact Fin.ext (by show ((((b.val * 512 + i.val) * 128 + H.val) * 64 + p.val) * 2 + e.val) / 128 % 128 = H.val; omega)
  | ⟨3, _⟩ => exact Fin.ext (by show ((((b.val * 512 + i.val) * 128 + H.val) * 64 + p.val) * 2 + e.val) % 128 = p.val * 2 + e.val; omega)

theorem dropLast (b : Fin 2) (i : Fin 512) (H : Fin 128) (p : Fin 64) : idx_main_v29 (ix4 b i H p) = ix5 b i H p (0 : Fin 1) := by
  funext a
  match a with
  | ⟨0, _⟩ => exact Fin.ext (by show (((b.val * 512 + i.val) * 128 + H.val) * 64 + p.val) / 4194304 = b.val; omega)
  | ⟨1, _⟩ => exact Fin.ext (by show (((b.val * 512 + i.val) * 128 + H.val) * 64 + p.val) / 8192 % 512 = i.val; omega)
  | ⟨2, _⟩ => exact Fin.ext (by show (((b.val * 512 + i.val) * 128 + H.val) * 64 + p.val) / 64 % 128 = H.val; omega)
  | ⟨3, _⟩ => exact Fin.ext (by show (((b.val * 512 + i.val) * 128 + H.val) * 64 + p.val) / 1 % 64 = p.val; omega)
  | ⟨4, _⟩ => rfl

theorem v30_at (b : Fin 2) (i : Fin 512) (H : Fin 128) (p : Fin 64) :
    val_main_v30 (F := Ideal) x W (ix4 b i H p) = -proj x W b i (colOf H ⟨p.val * 2 + 1, by omega⟩) := by
  rw [val_main_v30_apply, val_main_v29_apply, dropLast, val_main_v28_apply]
  refine Eq.trans ?_ (congrArg Neg.neg (v27_at x W b i H p 1))
  refine congrArg (fun j => -val_main_v27 (F := Ideal) x W j) (funext fun a => ?_)
  match a with
  | ⟨0, _⟩ => rfl
  | ⟨1, _⟩ => rfl
  | ⟨2, _⟩ => rfl
  | ⟨3, _⟩ => rfl
  | ⟨4, _⟩ => rfl

theorem v32_at (b : Fin 2) (i : Fin 512) (H : Fin 128) (p : Fin 64) :
    val_main_v32 (F := Ideal) x W (ix4 b i H p) = proj x W b i (colOf H ⟨p.val * 2, by omega⟩) := by
  rw [val_main_v32_apply, show idx_main_v32 (ix4 b i H p) = ix5 b i H p (0 : Fin 1) from dropLast b i H p, val_main_v31_apply]
  refine Eq.trans ?_ (v27_at x W b i H p 0)
  refine congrArg (val_main_v27 (F := Ideal) x W) (funext fun a => ?_)
  match a with
  | ⟨0, _⟩ => rfl
  | ⟨1, _⟩ => rfl
  | ⟨2, _⟩ => rfl
  | ⟨3, _⟩ => rfl
  | ⟨4, _⟩ => rfl

theorem v35_at_0 (b : Fin 2) (i : Fin 512) (H : Fin 128) (p : Fin 64) :
    val_main_v35 (F := Ideal) x W (ix5 b i H p (0 : Fin 2)) = -proj x W b i (colOf H ⟨p.val * 2 + 1, by omega⟩) := by
  rw [← v30_at]
  unfold val_main_v35
  rw [concatenate_pair_apply_left (s₁ := S2x512x128x64x1) (s₂ := S2x512x128x64x1) 4 _ _ _ (ix5 b i H p (0 : Fin 2)) rfl (ix5 b i H p (0 : Fin 1)) (fun a => match a with
    | ⟨0, _⟩ => rfl | ⟨1, _⟩ => rfl | ⟨2, _⟩ => rfl | ⟨3, _⟩ => rfl | ⟨4, _⟩ => rfl), val_main_v33_apply]
  refine congrArg (val_main_v30 (F := Ideal) x W) (funext fun a => ?_)
  match a with
  | ⟨0, _⟩ => rfl
  | ⟨1, _⟩ => rfl
  | ⟨2, _⟩ => rfl
  | ⟨3, _⟩ => rfl

theorem v35_at_1 (b : Fin 2) (i : Fin 512) (H : Fin 128) (p : Fin 64) :
    val_main_v35 (F := Ideal) x W (ix5 b i H p (1 : Fin 2)) = proj x W b i (colOf H ⟨p.val * 2, by omega⟩) := by
  rw [← v32_at]
  unfold val_main_v35
  rw [concatenate_pair_apply_right (s₁ := S2x512x128x64x1) (s₂ := S2x512x128x64x1) 4 _ _ _ (ix5 b i H p (1 : Fin 2)) rfl rfl (ix5 b i H p (0 : Fin 1)) (fun a => match a with
    | ⟨0, _⟩ => fun _ => rfl | ⟨1, _⟩ => fun _ => rfl | ⟨2, _⟩ => fun _ => rfl | ⟨3, _⟩ => fun _ => rfl
    | ⟨4, _⟩ => fun h => absurd rfl h) rfl, val_main_v34_apply]
  refine congrArg (val_main_v32 (F := Ideal) x W) (funext fun a => ?_)
  match a with
  | ⟨0, _⟩ => rfl
  | ⟨1, _⟩ => rfl
  | ⟨2, _⟩ => rfl
  | ⟨3, _⟩ => rfl

theorem v36_at (b : Fin 2) (i : Fin 512) (H d : Fin 128) :
    val_main_v36 (F := Ideal) x W (ix4 b i H d)
      = if h : d.val % 2 = 0 then -proj x W b i (colOf H ⟨d.val + 1, by omega⟩) else proj x W b i (colOf H ⟨d.val - 1, by omega⟩) := by
  have hd := d.isLt
  have split : ∀ e : Fin 2, d.val % 2 = e.val → idx_main_v36 (ix4 b i H d) = ix5 b i H (⟨d.val / 2, by omega⟩ : Fin 64) e := by
    intro e he
    funext a
    match a with
    | ⟨0, _⟩ => exact Fin.ext (by show (((b.val * 512 + i.val) * 128 + H.val) * 128 + d.val) / 8388608 = b.val; omega)
    | ⟨1, _⟩ => exact Fin.ext (by show (((b.val * 512 + i.val) * 128 + H.val) * 128 + d.val) / 16384 % 512 = i.val; omega)
    | ⟨2, _⟩ => exact Fin.ext (by show (((b.val * 512 + i.val) * 128 + H.val) * 128 + d.val) / 128 % 128 = H.val; omega)
    | ⟨3, _⟩ => exact Fin.ext (by show (((b.val * 512 + i.val) * 128 + H.val) * 128 + d.val) / 2 % 64 = d.val / 2; omega)
    | ⟨4, _⟩ => exact Fin.ext (by show (((b.val * 512 + i.val) * 128 + H.val) * 128 + d.val) % 2 = e.val; omega)
  rw [val_main_v36_apply]
  by_cases h : d.val % 2 = 0
  · rw [dif_pos h, split 0 h, v35_at_0]
    exact congrArg (fun e => -proj x W b i (colOf H e)) (Fin.ext (by show d.val / 2 * 2 + 1 = d.val + 1; omega))
  · rw [dif_neg h, split 1 (by show d.val % 2 = 1; omega), v35_at_1]
    exact congrArg (fun e => proj x W b i (colOf H e)) (Fin.ext (by show d.val / 2 * 2 = d.val - 1; omega))

theorem v38_at (b : Fin 2) (i : Fin 512) (H d : Fin 128) : val_main_v38 (F := Ideal) (ix4 b i H d) = cosT i d := by
  rw [val_main_v38_apply, val_main_v37_apply]
  exact congrArg (val_main_v21 (F := Ideal)) (funext fun a => match a with | ⟨0, _⟩ => rfl | ⟨1, _⟩ => rfl)
theorem v41_at (b : Fin 2) (i : Fin 512) (H d : Fin 128) : val_main_v41 (F := Ideal) (ix4 b i H d) = sinT i d := by
  rw [val_main_v41_apply, val_main_v40_apply]
  exact congrArg (val_main_v24 (F := Ideal)) (funext fun a => match a with | ⟨0, _⟩ => rfl | ⟨1, _⟩ => rfl)

/-- A head's rows of a projection. -/
def headProj (b : Fin 2) (H : Fin 128) (i : Fin 512) (d : Fin 128) : EReal := proj x W b i (colOf H d)

/-- The turned projection. -/
theorem v43_at (b : Fin 2) (i : Fin 512) (H d : Fin 128) :
    val_main_v43 (F := Ideal) x W (ix4 b i H d) = rope (cosT i) (sinT i) (headProj x W b H i) d := by
  rw [val_main_v43_apply, val_main_v39_apply, val_main_v42_apply, v26_at, v36_at, v38_at, v41_at]
  rfl
theorem v62_at (b : Fin 2) (i : Fin 512) (H d : Fin 128) :
    val_main_v62 (F := Ideal) x W (ix4 b i H d) = rope (cosT i) (sinT i) (headProj x W b H i) d :=
  v43_at x W b i H d
theorem v64_at (b : Fin 2) (i : Fin 512) (H d : Fin 128) : val_main_v64 (F := Ideal) x W (ix4 b i H d) = headProj x W b H i d :=
  v26_at x W b i H d

/-! ## The heads -/

/-- The scores of a head. -/
def headScores (b : Fin 2) (H : Fin 128) : Fin 512 → Fin 512 → EReal := scores cosT sinT (headProj x Wq b H) (headProj x Wk b H)

theorem v67_at (b : Fin 2) (H : Fin 128) (i j : Fin 512) :
    val_main_v67 (F := Ideal) x Wq Wk (ix4 b H i j) = headScores x Wq Wk b H i j := by
  rw [val_main_v67_apply, val_main_v66_apply, val_main_cst_3_apply, val_main_v65_apply]
  refine congrArg (· * scale) (Finset.sum_congr rfl fun d _ => ?_)
  rw [← v43_at, ← v62_at]
  exact congrArg₂ (· * ·)
    (congrArg (val_main_v43 (F := Ideal) x Wq) (funext fun a => match a with | ⟨0, _⟩ => rfl | ⟨1, _⟩ => rfl | ⟨2, _⟩ => rfl | ⟨3, _⟩ => rfl))
    (congrArg (val_main_v62 (F := Ideal) x Wk) (funext fun a => match a with | ⟨0, _⟩ => rfl | ⟨1, _⟩ => rfl | ⟨2, _⟩ => rfl | ⟨3, _⟩ => rfl))

theorem reduces_last : S2x128x512x512.Reduces [3] S2x128x512 := by decide

theorem v68_at (b : Fin 2) (H : Fin 128) (i : Fin 512) :
    val_main_v68 (F := Ideal) x Wq Wk (ix3 b H i) = Finset.univ.fold max ⊥ (headScores x Wq Wk b H i) := by
  unfold val_main_v68
  refine (Host.reduce_eq_fold_single (FloatOps.maximumf (F := Ideal) (φ := .f32)) _ _ _ reduces_last _ _).trans ?_
  have e : (val_main_v67 (F := Ideal) x Wq Wk ∘ reduces_last.lift (ix3 b H i)) = headScores x Wq Wk b H i := by
    funext j
    refine Eq.trans ?_ (v67_at x Wq Wk b H i j)
    exact congrArg (val_main_v67 (F := Ideal) x Wq Wk) (funext fun a => Fin.ext (by
      match a with | ⟨0, _⟩ => rfl | ⟨1, _⟩ => rfl | ⟨2, _⟩ => rfl | ⟨3, _⟩ => rfl))
  rw [e]
  show Finset.univ.fold max (Ideal.ofBits .f32 0xFF800000#32) _ = _
  rw [ofBits_bot]
  rfl

theorem v72_at (b : Fin 2) (H : Fin 128) (i j : Fin 512) :
    val_main_v72 (F := Ideal) x Wq Wk (ix4 b H i j)
      = Ideal.exp (headScores x Wq Wk b H i j - Finset.univ.fold max ⊥ (headScores x Wq Wk b H i)) := by
  rw [val_main_v72_apply, val_main_v71_apply, v67_at, val_main_v70_apply, val_main_v69_apply, ← v68_at]
  exact congrArg (fun k => Ideal.exp (headScores x Wq Wk b H i j - val_main_v68 (F := Ideal) x Wq Wk k))
    (funext fun a => match a with | ⟨0, _⟩ => rfl | ⟨1, _⟩ => rfl | ⟨2, _⟩ => rfl)

theorem v73_at (b : Fin 2) (H : Fin 128) (i : Fin 512) :
    val_main_v73 (F := Ideal) x Wq Wk (ix3 b H i)
      = 0 + ∑ j, Ideal.exp (headScores x Wq Wk b H i j - Finset.univ.fold max ⊥ (headScores x Wq Wk b H i)) := by
  rw [val_main_v73_apply, val_main_cst_5_apply]
  congr 1
  · exact Ideal.ofBits_zero_f32
  · refine Finset.sum_congr rfl fun j _ => ?_
    rw [← v72_at]
    exact congrArg (val_main_v72 (F := Ideal) x Wq Wk) (funext fun a => match a with | ⟨0, _⟩ => rfl | ⟨1, _⟩ => rfl | ⟨2, _⟩ => rfl | ⟨3, _⟩ => rfl)

theorem v76_at (b : Fin 2) (H : Fin 128) (i j : Fin 512) :
    val_main_v76 (F := Ideal) x Wq Wk (ix4 b H i j)
      = Ideal.div (Ideal.exp (headScores x Wq Wk b H i j - Finset.univ.fold max ⊥ (headScores x Wq Wk b H i)))
          (0 + ∑ j, Ideal.exp (headScores x Wq Wk b H i j - Finset.univ.fold max ⊥ (headScores x Wq Wk b H i))) := by
  rw [val_main_v76_apply, v72_at, val_main_v75_apply, val_main_v74_apply, ← v73_at]
  exact congrArg (fun k => Ideal.div _ (val_main_v73 (F := Ideal) x Wq Wk k)) (funext fun a => match a with | ⟨0, _⟩ => rfl | ⟨1, _⟩ => rfl | ⟨2, _⟩ => rfl)

/-- A head's row: its rows of the values under the normalised weights. -/
theorem v77_at (b : Fin 2) (H d : Fin 128) (i : Fin 512) :
    val_main_v77 (F := Ideal) x Wq Wk Wv (ix4 b H d i) = headR (headScores x Wq Wk b H i) (fun j => headProj x Wv b H j d) := by
  rw [val_main_v77_apply]
  refine Finset.sum_congr rfl fun j _ => ?_
  show _ = headProj x Wv b H j d * _
  rw [← v76_at, ← v64_at]
  exact congrArg₂ (· * ·)
    (congrArg (val_main_v64 (F := Ideal) x Wv) (funext fun a => match a with | ⟨0, _⟩ => rfl | ⟨1, _⟩ => rfl | ⟨2, _⟩ => rfl | ⟨3, _⟩ => rfl))
    (congrArg (val_main_v76 (F := Ideal) x Wq Wk) (funext fun a => match a with | ⟨0, _⟩ => rfl | ⟨1, _⟩ => rfl | ⟨2, _⟩ => rfl | ⟨3, _⟩ => rfl))

theorem v79_at (b : Fin 2) (i : Fin 512) (H d : Fin 128) :
    val_main_v79 (F := Ideal) x Wq Wk Wv (ix3 b i (colOf H d)) = headR (headScores x Wq Wk b H i) (fun j => headProj x Wv b H j d) := by
  rw [val_main_v79_apply, val_main_v78_apply, ← v77_at]
  refine congrArg (val_main_v77 (F := Ideal) x Wq Wk Wv) (funext fun a => ?_)
  match a with
  | ⟨0, _⟩ => exact Fin.ext (by show ((b.val * 512 + i.val) * 16384 + (H.val * 128 + d.val)) / 8388608 = b.val; omega)
  | ⟨1, _⟩ => exact Fin.ext (by show ((b.val * 512 + i.val) * 16384 + (H.val * 128 + d.val)) / 128 % 128 = H.val; omega)
  | ⟨2, _⟩ => exact Fin.ext (by show ((b.val * 512 + i.val) * 16384 + (H.val * 128 + d.val)) % 128 = d.val; omega)
  | ⟨3, _⟩ => exact Fin.ext (by show ((b.val * 512 + i.val) * 16384 + (H.val * 128 + d.val)) / 16384 % 512 = i.val; omega)

/-- The reference's result: the heads' columns times the output projection. -/
theorem result_at (b : Fin 2) (i : Fin 512) (y : Fin 1024) :
    val_main_v80 (F := Ideal) x Wq Wk Wv Wo (ix3 b i y)
      = ∑ E : Fin 16384, val_main_v79 (F := Ideal) x Wq Wk Wv (ix3 b i E) * Wo (ix2 E y) := by
  rw [val_main_v80_apply]
  refine Finset.sum_congr rfl fun E _ => ?_
  exact congrArg₂ (· * ·)
    (congrArg (val_main_v79 (F := Ideal) x Wq Wk Wv) (funext fun a => match a with | ⟨0, _⟩ => rfl | ⟨1, _⟩ => rfl | ⟨2, _⟩ => rfl))
    (congrArg Wo (funext fun a => match a with | ⟨0, _⟩ => rfl | ⟨1, _⟩ => rfl))

end Cert.ReferenceIdeal.Attn

end
-- ==== Proof.KernelIdealSteps.lean ====
/-
  The kernel's body as a short list of steps. The printed body spells every hop of the two rings out; here each kind of
  hop is written once, over its direction, its slot and its half, and the body is shown to be the attention part followed
  by the list of hops.
-/
module

public import proofs.«01_k».proof.Proof.Gen.KernelIdeal.Skeleton
public import proofs.«01_k».proof.Proof.Gen.KernelIdeal.Points

@[expose] public section

noncomputable section

namespace Cert.KernelIdeal.Ring

open Cert.KernelIdeal Cert.KernelIdeal.Gen
open Idealize.ShloMosaic Idealize.SL.Sem

variable {F : FTy → Type} [FloatOps F]

/-! ## The buffers and the semaphores by direction -/

/-- A hop of a ring: its direction (`true` to the right), its slot and its half. -/
abbrev Hop : Type := Bool × Fin 8 × Fin 2

/-- The landing slots of the reduce-scatter, by direction. -/
def rsBuf : Bool → Ref sig .tc | true => cc0_scratch3 | false => cc0_scratch4
/-- The landing slots of the all-gather, by direction. -/
def agBuf : Bool → Ref sig .tc | true => cc0_scratch5 | false => cc0_scratch6
def rsM : Bool → Memref sig .tc .vmem S8x64x1024 .bf16
  | true => Memref.whole cc0_scratch3 | false => Memref.whole cc0_scratch4
def agM : Bool → Memref sig .tc .vmem S8x64x1024 .bf16
  | true => Memref.whole cc0_scratch5 | false => Memref.whole cc0_scratch6

theorem rsM_whole : ∀ d, (rsM d).IsWhole | true => Memref.isWhole_whole _ | false => Memref.isWhole_whole _
theorem agM_whole : ∀ d, (agM d).IsWhole | true => Memref.isWhole_whole _ | false => Memref.isWhole_whole _

/-- The semaphores a hop's read-out and its landing complete on: reduce-scatter, -/
def rsSendA : Bool → DmaSems sig S16 | true => cc0_scratch7 | false => cc0_scratch9
def rsRecvA : Bool → DmaSems sig S16 | true => cc0_scratch8 | false => cc0_scratch10
/-- and all-gather. -/
def agSendA : Bool → DmaSems sig S16 | true => cc0_scratch11 | false => cc0_scratch13
def agRecvA : Bool → DmaSems sig S16 | true => cc0_scratch12 | false => cc0_scratch14

theorem inb16 (s : Fin 8) (r : Fin 2) : ∀ a, (![s.val * 2 + r.val] : Fin 1 → Nat) a + S1.size a ≤ S16.size a := by
  revert s r; decide
theorem inb8 (s : Fin 8) (r : Fin 2) : ∀ a, (![s.val, r.val * 32, 0] : Fin 3 → Nat) a + S1x32x1024.size a ≤ S8x64x1024.size a := by
  revert s r; decide
theorem inb2 (s : Fin 2) (r : Fin 2) : ∀ a, (![s.val, r.val * 32, 0] : Fin 3 → Nat) a + S1x32x1024.size a ≤ S2x64x1024.size a := by
  revert s r; decide
theorem inb64 (r : Fin 2) : ∀ a, (![r.val * 32, 0] : Fin 2 → Nat) a + S32x1024.size a ≤ S64x1024.size a := by
  revert r; decide

/-- A slot's half as a rectangle of the landing buffer, -/
abbrev rect8 (s : Fin 8) (r : Fin 2) : Rect S8x64x1024 := Rect.unit (s := S8x64x1024) ![s.val, r.val * 32, 0] S1x32x1024.size (inb8 s r)
/-- of the seeds' buffer, -/
abbrev rect2 (s : Fin 2) (r : Fin 2) : Rect S2x64x1024 := Rect.unit (s := S2x64x1024) ![s.val, r.val * 32, 0] S1x32x1024.size (inb2 s r)
/-- of the reduced chunk's buffer. -/
abbrev rect64 (r : Fin 2) : Rect S64x1024 := Rect.unit (s := S64x1024) ![r.val * 32, 0] S32x1024.size (inb64 r)

theorem words8 (s : Fin 8) (r : Fin 2) : (rect8 s r).WholeWords (EltTy.packing .bf16) := by revert s r; decide
theorem packed8 (s : Fin 8) (r : Fin 2) : (rect8 s r).PackedRows (EltTy.packing .bf16) := by revert s r; decide
theorem words2 (s : Fin 2) (r : Fin 2) : (rect2 s r).WholeWords (EltTy.packing .bf16) := by revert s r; decide
theorem packed2 (s : Fin 2) (r : Fin 2) : (rect2 s r).PackedRows (EltTy.packing .bf16) := by revert s r; decide
theorem words64 (r : Fin 2) : (rect64 r).WholeWords (EltTy.packing .bf16) := by revert r; decide
theorem packed64 (r : Fin 2) : (rect64 r).PackedRows (EltTy.packing .bf16) := by revert r; decide

/-- The semaphore of a slot's half in an array of sixteen. -/
def semAt (A : DmaSems sig S16) (s : Fin 8) (r : Fin 2) : DmaSem sig :=
  ((A.slice (Rect.unit (s := S16) ![s.val * 2 + r.val] S1.size (inb16 s r))).squeeze S_ squeezes_S1_S_).sem

/-- A slot's half of a landing buffer. -/
abbrev slot8 (M : Memref sig .tc .vmem S8x64x1024 .bf16) (s : Fin 8) (r : Fin 2) : Memref sig .tc .vmem S32x1024 .bf16 :=
  (M.slice (rect8 s r) (fun _ => rfl)).squeeze S32x1024 squeezes_S1x32x1024_S32x1024
abbrev seedM : Memref sig .tc .vmem S2x64x1024 .bf16 := Memref.whole cc0_scratch2
abbrev partM : Memref sig .tc .vmem S1024x1024 .f32 := Memref.whole cc0_scratch0
abbrev myM : Memref sig .tc .vmem S64x1024 .bf16 := Memref.whole cc0_scratch1
abbrev outM : Memref sig .tc .vmem S2x512x1024 .f32 := Memref.whole cc0_stg9_0
/-- A half of a seed: the first seed goes right, the second left. -/
abbrev slot2 (s : Fin 2) (r : Fin 2) : Memref sig .tc .vmem S32x1024 .bf16 :=
  (seedM.slice (rect2 s r) (fun _ => rfl)).squeeze S32x1024 squeezes_S1x32x1024_S32x1024
/-- A half of the reduced chunk. -/
abbrev slot64 (r : Fin 2) : Memref sig .tc .vmem S32x1024 .bf16 := myM.slice (rect64 r) (fun _ => rfl)

/-- The neighbour a direction sends to, by the kernel's own words. -/
def dirDev : Bool → Dev nD → Dev nD
  | true, d0 => ⟨k0_dev2 d0, k0_dev2_lt d0⟩ | false, d0 => ⟨k0_dev1 d0, k0_dev1_lt d0⟩

/-- Which seed a direction sends. -/
def seedIx : Bool → Fin 2 | true => 0 | false => 1

/-- The word that names the chunk of the partial product a hop adds: the seeds' `8` and `9`, then `7 - s` and `s - 6`. -/
def rsWord : Bool → Fin 8 → BitVec 32
  | true, s => BitVec.ofNat 32 (8 - s.val)
  | false, ⟨0, _⟩ => 9#32
  | false, ⟨s + 1, _⟩ => BitVec.ofNat 32 (4294967290 + s)
/-- The word that names the chunk of the result a gathered slot holds: `-1 - u` and `1 + u`. -/
def agWord : Bool → Fin 8 → BitVec 32
  | true, u => BitVec.ofNat 32 (4294967295 - u.val)
  | false, u => BitVec.ofNat 32 (1 + u.val)

def halfWord (r : Fin 2) : BitVec 32 := BitVec.ofNat 32 (r.val * 32)

theorem part_inb (d0 : Dev nD) (d : Bool) (s : Fin 8) (r : Fin 2) :
    ∀ a, (k0_off1 d0 (rsWord d s) (halfWord r)) a + S32x1024.size a ≤ S1024x1024.size a := by
  revert d0 d s r; decide +kernel
theorem part0_inb (d0 : Dev nD) (r : Fin 2) :
    ∀ a, (k0_off1 d0 0#32 (halfWord r)) a + S32x1024.size a ≤ S1024x1024.size a := by
  revert d0 r; decide +kernel
theorem out_inb (d0 : Dev nD) (d : Bool) (u : Fin 8) (r : Fin 2) :
    ∀ a, (k0_off2 d0 (agWord d u) (halfWord r)) a + S1x32x1024.size a ≤ S2x512x1024.size a := by
  revert d0 d u r; decide +kernel
theorem out0_inb (d0 : Dev nD) (r : Fin 2) :
    ∀ a, (k0_off2 d0 0#32 (halfWord r)) a + S1x32x1024.size a ≤ S2x512x1024.size a := by
  revert d0 r; decide +kernel

abbrev partRect (d0 : Dev nD) (d : Bool) (s : Fin 8) (r : Fin 2) : Rect S1024x1024 :=
  Rect.unit (s := S1024x1024) (k0_off1 d0 (rsWord d s) (halfWord r)) S32x1024.size (part_inb d0 d s r)
abbrev partRect0 (d0 : Dev nD) (r : Fin 2) : Rect S1024x1024 :=
  Rect.unit (s := S1024x1024) (k0_off1 d0 0#32 (halfWord r)) S32x1024.size (part0_inb d0 r)
abbrev outRect (d0 : Dev nD) (d : Bool) (u : Fin 8) (r : Fin 2) : Rect S2x512x1024 :=
  Rect.unit (s := S2x512x1024) (k0_off2 d0 (agWord d u) (halfWord r)) S1x32x1024.size (out_inb d0 d u r)
abbrev outRect0 (d0 : Dev nD) (r : Fin 2) : Rect S2x512x1024 :=
  Rect.unit (s := S2x512x1024) (k0_off2 d0 0#32 (halfWord r)) S1x32x1024.size (out0_inb d0 r)

/-! ## The values a hop computes -/

/-- A half chunk of the partial product, rounded to the wire's format. -/
def seedVal (p : Vec F S32x1024 .f32) : FVec F S1x32x1024 .bf16 :=
  shapeCast S1x32x1024 (truncf .bf16 p bitsLt_bf16_f32) shapeCasts_S32x1024_S1x32x1024
/-- What a hop forwards: the received half chunk plus the device's own, rounded. -/
def addVal (v : Vec F S1x32x1024 .bf16) (p : Vec F S32x1024 .f32) : FVec F S1x32x1024 .bf16 :=
  shapeCast S1x32x1024 (truncf .bf16 (addf (extf .f32 (shapeCast S32x1024 v shapeCasts_S1x32x1024_S32x1024 : FVec F S32x1024 .bf16) bitsLt_bf16_f32) p) bitsLt_bf16_f32)
    shapeCasts_S32x1024_S1x32x1024
/-- The reduced half chunk: what came from the left, the device's own, what came from the right. -/
def redVal (v : Vec F S1x32x1024 .bf16) (p : Vec F S32x1024 .f32) (w : Vec F S1x32x1024 .bf16) : FVec F S32x1024 .f32 :=
  addf (addf (extf .f32 (shapeCast S32x1024 v shapeCasts_S1x32x1024_S32x1024 : FVec F S32x1024 .bf16) bitsLt_bf16_f32) p)
    (extf .f32 (shapeCast S32x1024 w shapeCasts_S1x32x1024_S32x1024 : FVec F S32x1024 .bf16) bitsLt_bf16_f32)
/-- The reduced half chunk as the result's rows, -/
def redOut (x : FVec F S32x1024 .f32) : FVec F S1x32x1024 .f32 := shapeCast S1x32x1024 x shapeCasts_S32x1024_S1x32x1024
/-- and as what the all-gather sends. -/
def redBf (x : FVec F S32x1024 .f32) : FVec F S32x1024 .bf16 :=
  shapeCast S32x1024 (truncf .bf16 x bitsLt_bf16_f32) shapeCasts_S32x1024_S32x1024
/-- A gathered half chunk as the result's rows. -/
def agOut (v : Vec F S1x32x1024 .bf16) : FVec F S1x32x1024 .f32 :=
  shapeCast S1x32x1024 (extf .f32 (shapeCast S32x1024 v shapeCasts_S1x32x1024_S32x1024 : FVec F S32x1024 .bf16) bitsLt_bf16_f32 : FVec F S32x1024 .f32)
    shapeCasts_S32x1024_S1x32x1024

/-! ## The steps -/

theorem wordExact8 {M : Memref sig .tc .vmem S8x64x1024 .bf16} (hM : M.IsWhole) (s : Fin 8) (r : Fin 2) :
    (slot8 M s r).view.WordExact := (hM.wordExact_slice rfl _ (words8 s r)).reshape _ _
theorem wordExact2 (s : Fin 2) (r : Fin 2) : (slot2 s r).view.WordExact :=
  ((Memref.isWhole_whole _).wordExact_slice rfl _ (words2 s r)).reshape _ _
theorem wordExact64 (r : Fin 2) : (slot64 r).view.WordExact := (Memref.isWhole_whole _).wordExact_slice rfl _ (words64 r)

/-- Start the transfer of `src` to slot `s`, half `r` of the neighbour's landing buffer. -/
def sendTo (dst : Memref sig .tc .vmem S8x64x1024 .bf16) (hd : dst.IsWhole) (AS AR : DmaSems sig S16)
    (dev : Dev nD) (src : Memref sig .tc .vmem S32x1024 .bf16) (hs : src.view.WordExact) (s : Fin 8) (r : Fin 2) : Prog (TpuEff nD τ sig (Elt F) Λ₀ .tc) PUnit :=
  Prog.lift (.enqueueDma src (.remote (Dev.tc dev) (slot8 dst s r) (.dma (semAt AS s r))) (.dma (semAt AR s r)) hs (wordExact8 hd s r)
    ⟨⟨rfl, Or.inl rfl⟩, trivial⟩)

/-- Wait for the landing in slot `s`, half `r`. -/
def waitSlot (buf : Memref sig .tc .vmem S8x64x1024 .bf16) (hb : buf.IsWhole) (A : DmaSems sig S16) (s : Fin 8) (r : Fin 2) : Prog (TpuEff nD τ sig (Elt F) Λ₀ .tc) PUnit :=
  Prog.lift (.waitDma2 (semAt A s r) (slot8 buf s r) (slot8 buf s r) (wordExact8 hb s r) (wordExact8 hb s r))

/-- Read a half slot of a landing buffer. -/
def loadSlot (buf : Memref sig .tc .vmem S8x64x1024 .bf16) (s : Fin 8) (r : Fin 2) : Prog (TpuEff nD τ sig (Elt F) Λ₀ .tc) (Vec F S1x32x1024 .bf16) :=
  Prog.lift (.load buf (rect8 s r).toLoadRect (View.loadsAt_vmem h_S1x32x1024))

/-- Send the seed of a direction. -/
def seedStep (d0 : Dev nD) (d : Bool) (r : Fin 2) : Prog (TpuEff nD τ sig (Elt F) Λ₀ .tc) PUnit := do
  let p ← Prog.lift (.load partM (partRect d0 d 0 r).toLoadRect (View.loadsAt_vmem h_S32x1024))
  let _ ← Prog.lift (.load seedM (rect2 (seedIx d) r).toLoadRect (View.loadsAt_vmem h_S1x32x1024))
  Prog.lift (.store seedM (rect2 (seedIx d) r) (seedVal p) Finset.univ
    (View.stores_vmem h_S1x32x1024 ((Memref.isWhole_whole _).storeExact_slice rfl _ (packed2 (seedIx d) r)) (fun _ => rfl)) (.inl rfl))
  sendTo (rsM d) (rsM_whole d) (rsSendA d) (rsRecvA d) (dirDev d d0) (slot2 (seedIx d) r) (wordExact2 (seedIx d) r) 0 r

/-- Receive slot `s`, add the device's own half chunk, send it on to slot `s + 1`. -/
def fwdStep (d0 : Dev nD) (d : Bool) (s s' : Fin 8) (r : Fin 2) : Prog (TpuEff nD τ sig (Elt F) Λ₀ .tc) PUnit := do
  waitSlot (rsM d) (rsM_whole d) (rsRecvA d) s r
  let v ← loadSlot (rsM d) s r
  let p ← Prog.lift (.load partM (partRect d0 d s' r).toLoadRect (View.loadsAt_vmem h_S32x1024))
  let _ ← loadSlot (rsM d) s r
  Prog.lift (.store (rsM d) (rect8 s r) (addVal v p) Finset.univ
    (View.stores_vmem h_S1x32x1024 ((rsM_whole d).storeExact_slice rfl _ (packed8 s r)) (fun _ => rfl)) (.inl rfl))
  sendTo (rsM d) (rsM_whole d) (rsSendA d) (rsRecvA d) (dirDev d d0) (slot8 (rsM d) s r) (wordExact8 (rsM_whole d) s r) s' r

/-- The step that sends a hop of the reduce-scatter. -/
def rsStep (d0 : Dev nD) : Hop → Prog (TpuEff nD τ sig (Elt F) Λ₀ .tc) PUnit
  | (d, ⟨0, _⟩, r) => seedStep d0 d r
  | (d, ⟨s + 1, h⟩, r) => fwdStep d0 d ⟨s, Nat.lt_of_succ_lt h⟩ ⟨s + 1, h⟩ r

/-- Wait for a last hop of the reduce-scatter. -/
def lastStep : Hop → Prog (TpuEff nD τ sig (Elt F) Λ₀ .tc) PUnit
  | (d, s, r) => waitSlot (rsM d) (rsM_whole d) (rsRecvA d) s r

/-- Reduce the device's own half chunk, store it and start it both ways. -/
def finStep (d0 : Dev nD) (r : Fin 2) : Prog (TpuEff nD τ sig (Elt F) Λ₀ .tc) PUnit := do
  let v ← loadSlot (rsM true) 7 r
  let p ← Prog.lift (.load partM (partRect0 d0 r).toLoadRect (View.loadsAt_vmem h_S32x1024))
  let w ← loadSlot (rsM false) 6 r
  let _ ← Prog.lift (.load outM (outRect0 d0 r).toLoadRect (View.loadsAt_vmem h_S1x32x1024))
  Prog.lift (.store outM (outRect0 d0 r) (redOut (redVal v p w)) Finset.univ (View.stores_vmem_bits_univ h_S1x32x1024 rfl) (.inl rfl))
  let _ ← Prog.lift (.load myM (rect64 r).toLoadRect (View.loadsAt_vmem h_S32x1024))
  Prog.lift (.store myM (rect64 r) (redBf (redVal v p w)) Finset.univ
    (View.stores_vmem h_S32x1024 ((Memref.isWhole_whole _).storeExact_slice rfl _ (packed64 r)) (fun _ => rfl)) (.inl rfl))
  sendTo (agM true) (agM_whole true) (agSendA true) (agRecvA true) (dirDev true d0) (slot64 r) (wordExact64 r) 0 r
  sendTo (agM false) (agM_whole false) (agSendA false) (agRecvA false) (dirDev false d0) (slot64 r) (wordExact64 r) 0 r

/-- Store a gathered half chunk into the result. -/
def agStore (d0 : Dev nD) (d : Bool) (u : Fin 8) (r : Fin 2) : Prog (TpuEff nD τ sig (Elt F) Λ₀ .tc) PUnit := do
  let v ← loadSlot (agM d) u r
  let _ ← Prog.lift (.load outM (outRect d0 d u r).toLoadRect (View.loadsAt_vmem h_S1x32x1024))
  Prog.lift (.store outM (outRect d0 d u r) (agOut v) Finset.univ (View.stores_vmem_bits_univ h_S1x32x1024 rfl) (.inl rfl))

/-- The slot a direction's ring ends in. -/
def lastIx : Bool → Nat | true => 7 | false => 6

/-- Receive a gathered half chunk, send it on unless it is the ring's last, store it. -/
def agStep (d0 : Dev nD) : Hop → Prog (TpuEff nD τ sig (Elt F) Λ₀ .tc) PUnit
  | (d, u, r) => do
    waitSlot (agM d) (agM_whole d) (agRecvA d) u r
    match Nat.ble (lastIx d) u.val with
    | true => pure ⟨⟩
    | false => sendTo (agM d) (agM_whole d) (agSendA d) (agRecvA d) (dirDev d d0) (slot8 (agM d) u r) (wordExact8 (agM_whole d) u r) (u + 1) r
    agStore d0 d u r

/-- Wait for the read-out of a transfer from `src` to slot `s`, half `r`. -/
def waitSent (dst : Memref sig .tc .vmem S8x64x1024 .bf16) (hd : dst.IsWhole) (AS : DmaSems sig S16)
    (src : Memref sig .tc .vmem S32x1024 .bf16) (hs : src.view.WordExact) (s : Fin 8) (r : Fin 2) : Prog (TpuEff nD τ sig (Elt F) Λ₀ .tc) PUnit :=
  Prog.lift (.waitDma2 (semAt AS s r) (slot8 dst s r) src (wordExact8 hd s r) hs)

/-- Where a hop of the reduce-scatter is sent from. -/
def rsSrc : Hop → Memref sig .tc .vmem S32x1024 .bf16
  | (d, ⟨0, _⟩, r) => slot2 (seedIx d) r
  | (d, ⟨s + 1, h⟩, r) => slot8 (rsM d) ⟨s, Nat.lt_of_succ_lt h⟩ r
theorem rsSrc_wordExact : ∀ h : Hop, (rsSrc h).view.WordExact
  | (d, ⟨0, _⟩, r) => wordExact2 (seedIx d) r
  | (d, ⟨s + 1, h⟩, r) => wordExact8 (rsM_whole d) ⟨s, Nat.lt_of_succ_lt h⟩ r
/-- Where a hop of the all-gather is sent from. -/
def agSrc : Hop → Memref sig .tc .vmem S32x1024 .bf16
  | (_, ⟨0, _⟩, r) => slot64 r
  | (d, ⟨s + 1, h⟩, r) => slot8 (agM d) ⟨s, Nat.lt_of_succ_lt h⟩ r
theorem agSrc_wordExact : ∀ h : Hop, (agSrc h).view.WordExact
  | (_, ⟨0, _⟩, r) => wordExact64 r
  | (d, ⟨s + 1, h⟩, r) => wordExact8 (agM_whole d) ⟨s, Nat.lt_of_succ_lt h⟩ r

/-- The wait that ends a hop's transfer at its sender: reduce-scatter, -/
def rsDone : Hop → Prog (TpuEff nD τ sig (Elt F) Λ₀ .tc) PUnit
  | (d, s, r) => waitSent (rsM d) (rsM_whole d) (rsSendA d) (rsSrc (d, s, r)) (rsSrc_wordExact (d, s, r)) s r
/-- and all-gather. -/
def agDone : Hop → Prog (TpuEff nD τ sig (Elt F) Λ₀ .tc) PUnit
  | (d, s, r) => waitSent (agM d) (agM_whole d) (agSendA d) (agSrc (d, s, r)) (agSrc_wordExact (d, s, r)) s r

/-- Run a step for each item of a list, in order. -/
def runList {α : Type} (f : α → Prog (TpuEff nD τ sig (Elt F) Λ₀ .tc) PUnit) : List α → Prog (TpuEff nD τ sig (Elt F) Λ₀ .tc) PUnit
  | [] => pure ⟨⟩
  | a :: l => f a >>= fun _ => runList f l

/-- The two rings' hops in the order both phases start them. -/
def hops : List Hop :=
  [(true, 0, 0), (false, 0, 0), (true, 0, 1), (false, 0, 1),
   (true, 1, 0), (true, 1, 1), (false, 1, 0), (false, 1, 1),
   (true, 2, 0), (true, 2, 1), (false, 2, 0), (false, 2, 1),
   (true, 3, 0), (true, 3, 1), (false, 3, 0), (false, 3, 1),
   (true, 4, 0), (true, 4, 1), (false, 4, 0), (false, 4, 1),
   (true, 5, 0), (true, 5, 1), (false, 5, 0), (false, 5, 1),
   (true, 6, 0), (true, 6, 1), (false, 6, 0), (false, 6, 1),
   (true, 7, 0), (true, 7, 1)]
/-- The last hops of the reduce-scatter, in the order they are waited for. -/
def lasts : List Hop := [(false, 6, 0), (false, 6, 1), (true, 7, 0), (true, 7, 1)]
/-- The hops of the all-gather in the order they are received. -/
def gathers : List Hop :=
  [(true, 0, 0), (true, 0, 1), (false, 0, 0), (false, 0, 1),
   (true, 1, 0), (true, 1, 1), (false, 1, 0), (false, 1, 1),
   (true, 2, 0), (true, 2, 1), (false, 2, 0), (false, 2, 1),
   (true, 3, 0), (true, 3, 1), (false, 3, 0), (false, 3, 1),
   (true, 4, 0), (true, 4, 1), (false, 4, 0), (false, 4, 1),
   (true, 5, 0), (true, 5, 1), (false, 5, 0), (false, 5, 1),
   (true, 6, 0), (true, 6, 1), (false, 6, 0), (false, 6, 1),
   (true, 7, 0), (true, 7, 1)]

/-- The rings: everything after the partial product is computed. -/
def rings (d0 : Dev nD) : Prog (TpuEff nD τ sig (Elt F) Λ₀ .tc) PUnit := do
  runList (rsStep d0) hops
  runList lastStep lasts
  finStep d0 0
  finStep d0 1
  runList (agStep d0) gathers
  runList rsDone hops
  runList agDone hops
  pure ⟨⟩

end Cert.KernelIdeal.Ring

end
-- ==== Proof.KernelIdealHead.lean ====
/-
  The kernel's body before its rings: the barrier with both neighbours and a device's part of the attention, and the
  printed body as that followed by the rings.
-/
module

public import proofs.«01_k».proof.Proof.KernelIdealSteps

@[expose] public section

noncomputable section

namespace Cert.KernelIdeal.Ring

open Cert.KernelIdeal Cert.KernelIdeal.Gen
open Idealize.ShloMosaic Idealize.SL.Sem

variable {F : FTy → Type} [FloatOps F]

/-! ## A device's part of the attention -/

/-- A projection of a batch's rows. -/
def projVal (x : Vec F S1x512x1024 .f32) (w : Vec F S1024x1024 .f32) : FVec F S512x1024 .f32 :=
  matmul dot_S512x1024_S1024x1024_S512x1024_1_0_0_1_n_n none (shapeCast S512x1024 x shapeCasts_S1x512x1024_S512x1024 : FVec F S512x1024 .f32)
    (shapeCast S1024x1024 w shapeCasts_S1024x1024_S1024x1024 : FVec F S1024x1024 .f32) (constant S512x1024 .f32 0x00000000#32)

/-- The rotary embedding: the pairs turned by two rotations of the row and the masks of the odd and the even columns. -/
def rotVal (cos sin : Vec F S512x1024 .f32) (ev od : Vec F S1x1024 .f32) (t : FVec F S512x1024 .f32) : FVec F S512x1024 .f32 :=
  addf (mulf t (shapeCast S512x1024 cos shapeCasts_S512x1024_S512x1024 : FVec F S512x1024 .f32))
    (mulf (subf
        (mulf (dynamicRotate 1 1#32 none t rotates_S512x1024_d1)
          (broadcastTo S512x1024 (shapeCast S1x1024 od shapeCasts_S1x1024_S1x1024 : FVec F S1x1024 .f32) broadcasts_S1x1024_S512x1024))
        (mulf (dynamicRotate 1 1023#32 none t rotates_S512x1024_d1)
          (broadcastTo S512x1024 (shapeCast S1x1024 ev shapeCasts_S1x1024_S1x1024 : FVec F S1x1024 .f32) broadcasts_S1x1024_S512x1024)))
      (shapeCast S512x1024 sin shapeCasts_S512x1024_S512x1024 : FVec F S512x1024 .f32))

/-- The exponentials of one head's scaled scores. -/
def expVal (q k : FVec F S512x128 .f32) : FVec F S512x512 .f32 :=
  exp (mulf (matmul dot_S512x128_S512x128_S512x512_1_1_0_0_n_n none q k (constant S512x512 .f32 0x00000000#32))
    (broadcast S512x512 (Scalar.ofBits .f32 0x3DB504F3#32)))

/-- One head: the weighted rows over the weights' sum. -/
def headVal (q k v : FVec F S512x128 .f32) : FVec F S512x128 .f32 :=
  divf (matmul dot_S512x512_S512x128_S512x128_1_0_0_1_n_n none (expVal q k) v (constant S512x128 .f32 0x00000000#32))
    (broadcastTo S512x128
      (shapeCast S512x1 (multiReduction .add [1] S512 (expVal q k) 0x00000000#32 reduces_S512x512_S512 (.inl rfl) rfl) shapeCasts_S512_S512x1 : FVec F S512x1 .f32)
      broadcasts_S512x1_S512x128)

theorem headSlices (h : Fin 8) : S512x1024.Slices ![0, h.val * 128] S512x128 := by
  revert h; decide

/-- The columns of a head. -/
def colsOf (t : FVec F S512x1024 .f32) (h : Fin 8) : FVec F S512x128 .f32 :=
  extractStridedSlice S512x128 ![0, h.val * 128] t (headSlices h)

/-- The heads of a device side by side. -/
def ctxVal (q k v : FVec F S512x1024 .f32) : FVec F S512x1024 .f32 :=
  concatenate S512x1024 1
    [⟨S512x128, headVal (colsOf q 0) (colsOf k 0) (colsOf v 0)⟩, ⟨S512x128, headVal (colsOf q 1) (colsOf k 1) (colsOf v 1)⟩,
     ⟨S512x128, headVal (colsOf q 2) (colsOf k 2) (colsOf v 2)⟩, ⟨S512x128, headVal (colsOf q 3) (colsOf k 3) (colsOf v 3)⟩,
     ⟨S512x128, headVal (colsOf q 4) (colsOf k 4) (colsOf v 4)⟩, ⟨S512x128, headVal (colsOf q 5) (colsOf k 5) (colsOf v 5)⟩,
     ⟨S512x128, headVal (colsOf q 6) (colsOf k 6) (colsOf v 6)⟩, ⟨S512x128, headVal (colsOf q 7) (colsOf k 7) (colsOf v 7)⟩]
    concatenates_S512x128_S512x128_S512x128_S512x128_S512x128_S512x128_S512x128_S512x128_S512x1024_d1

/-- A batch's rows of the device's partial product. -/
def partVal (cos sin : Vec F S512x1024 .f32) (ev od : Vec F S1x1024 .f32) (x : Vec F S1x512x1024 .f32) (wq wk wv wo : Vec F S1024x1024 .f32) :
    FVec F S512x1024 .f32 :=
  shapeCast S512x1024 (matmul dot_S512x1024_S1024x1024_S512x1024_1_0_0_1_n_n none
    (ctxVal (rotVal cos sin ev od (projVal x wq)) (rotVal cos sin ev od (projVal x wk)) (projVal x wv))
    (shapeCast S1024x1024 wo shapeCasts_S1024x1024_S1024x1024 : FVec F S1024x1024 .f32) (constant S512x1024 .f32 0x00000000#32) : FVec F S512x1024 .f32)
    shapeCasts_S512x1024_S512x1024

/-! ## The part of the body before the rings -/

abbrev barSem : Sem sig := (SemArray.scalar (sig.barrier 0 rfl) : Sems sig S_).sem

theorem batch_inb (b : Fin 2) : ∀ a, (![b.val, 0, 0] : Fin 3 → Nat) a + S1x512x1024.size a ≤ S2x512x1024.size a := by
  revert b; decide
theorem rows_inb (b : Fin 2) : ∀ a, (![b.val * 512, 0] : Fin 2 → Nat) a + S512x1024.size a ≤ S1024x1024.size a := by
  revert b; decide

abbrev rectFull2 : Rect S512x1024 := Rect.unit (s := S512x1024) ![0, 0] S512x1024.size inb_S512x1024_S512x1024_0_0
abbrev rectMask : Rect S1x1024 := Rect.unit (s := S1x1024) ![0, 0] S1x1024.size inb_S1x1024_S1x1024_0_0
abbrev rectW : Rect S1024x1024 := Rect.unit (s := S1024x1024) ![0, 0] S1024x1024.size inb_S1024x1024_S1024x1024_0_0
abbrev rectX (b : Fin 2) : Rect S2x512x1024 := Rect.unit (s := S2x512x1024) ![b.val, 0, 0] S1x512x1024.size (batch_inb b)
abbrev rectP (b : Fin 2) : Rect S1024x1024 := Rect.unit (s := S1024x1024) ![b.val * 512, 0] S512x1024.size (rows_inb b)

/-- One batch: the four products and the heads, stored into the partial product's rows. -/
def batchStep (cos sin : Vec F S512x1024 .f32) (ev od : Vec F S1x1024 .f32) (b : Fin 2) : Prog (TpuEff nD τ sig (Elt F) Λ₀ .tc) PUnit := do
  let x ← Prog.lift (.load (Memref.whole cc0_stg0_0 : Memref sig .tc .vmem S2x512x1024 .f32) (rectX b).toLoadRect (View.loadsAt_vmem h_S1x512x1024))
  let wq ← Prog.lift (.load (Memref.whole cc0_stg1_0 : Memref sig .tc .vmem S1024x1024 .f32) rectW.toLoadRect (View.loadsAt_vmem h_S1024x1024))
  let wk ← Prog.lift (.load (Memref.whole cc0_stg2_0 : Memref sig .tc .vmem S1024x1024 .f32) rectW.toLoadRect (View.loadsAt_vmem h_S1024x1024))
  let wv ← Prog.lift (.load (Memref.whole cc0_stg3_0 : Memref sig .tc .vmem S1024x1024 .f32) rectW.toLoadRect (View.loadsAt_vmem h_S1024x1024))
  let wo ← Prog.lift (.load (Memref.whole cc0_stg4_0 : Memref sig .tc .vmem S1024x1024 .f32) rectW.toLoadRect (View.loadsAt_vmem h_S1024x1024))
  let _ ← Prog.lift (.load partM (rectP b).toLoadRect (View.loadsAt_vmem h_S512x1024))
  Prog.lift (.store partM (rectP b) (partVal cos sin ev od x wq wk wv wo) Finset.univ (View.stores_vmem_bits_univ h_S512x1024 rfl) (.inl rfl))

/-- Meet both neighbours, then compute the partial product. -/
def head (d0 : Dev nD) : Prog (TpuEff nD τ sig (Elt F) Λ₀ .tc) PUnit := do
  semSignalWord (dirDev false d0) barSem 1#32
  semSignalWord (dirDev true d0) barSem 1#32
  semWaitWord barSem 2#32
  let cos ← Prog.lift (.load (Memref.whole cc0_stg5_0 : Memref sig .tc .vmem S512x1024 .f32) rectFull2.toLoadRect (View.loadsAt_vmem h_S512x1024))
  let sin ← Prog.lift (.load (Memref.whole cc0_stg6_0 : Memref sig .tc .vmem S512x1024 .f32) rectFull2.toLoadRect (View.loadsAt_vmem h_S512x1024))
  let ev ← Prog.lift (.load (Memref.whole cc0_stg7_0 : Memref sig .tc .vmem S1x1024 .f32) rectMask.toLoadRect (View.loadsAt_vmem h_S1x1024))
  let od ← Prog.lift (.load (Memref.whole cc0_stg8_0 : Memref sig .tc .vmem S1x1024 .f32) rectMask.toLoadRect (View.loadsAt_vmem h_S1x1024))
  batchStep cos sin ev od 0
  batchStep cos sin ev od 1

universe v

theorem op_congr {E : Type → Type v} {α β : Type} (e : E β) {k k' : β → Prog E α} (h : ∀ x, k x = k' x) : Prog.op e k = Prog.op e k' :=
  congrArg _ (funext h)

set_option maxRecDepth 200000 in
/-- The printed body is the part before the rings, then the rings: effect by effect. -/
theorem body_eq (t : Fin cfg0.N) :
    bodyAt0 (F := F) t = (Prog.lift .deviceId >>= fun d0 => head d0 >>= fun _ => rings d0) := by
  repeat refine op_congr _ fun _ => ?_
  rfl

end Cert.KernelIdeal.Ring

end
-- ==== Proof.KernelIdealCells.lean ====
/-
  The semaphores of the two rings as cells, what travels, and the schedule: who pays which cell what, and with which
  contents.
-/
module

public import proofs.«01_k».proof.Proof.KernelIdealHead
public import proofs.«01_k».proof.Proof.Gen.KernelIdeal.Launch
public import Idealize.ShloMosaic.Lib.Pipeline.Regions
public import Idealize.ShloMosaic.Lib.Pipeline.Kit
public import Idealize.ShloMosaic.Lib.Pipeline.BigSepL
public import Idealize.ShloMosaic.Lib.Pipeline.Value
public import Idealize.ShloMosaic.Lib.Rounds
public import Idealize.ShloMosaic.Lib.StableHlo
public import Idealize.ShloMosaic.Lib.Tactic
public import Idealize.ShloMosaic.Lib.Memref
public import Idealize.ShloMosaic.Lib.MemrefSat
public import Idealize.ShloMosaic.Lib.Ring
public import Idealize.ShloMosaic.Lib.ViewIndex
public import Idealize.ShloMosaic.Lib.VecWindow
public import Idealize.ShloMosaic.Lib.Transfers
public import Idealize.ShloMosaic.Lib.Pipeline.RegionTalk

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The neighbours -/

/-- Sending one way and then the other comes back. -/
theorem dirDev_dirDev (d : Bool) (c : Dev nD) : dirDev d (dirDev (!d) c) = c := by
  revert d c; decide +kernel
theorem dirDev_dirDev' (d : Bool) (c : Dev nD) : dirDev (!d) (dirDev d c) = c := by
  revert d c; decide +kernel

/-- A direction's neighbours, device by device. -/
def ring (d : Bool) : Dev nD ≃ Dev nD := ⟨dirDev d, dirDev (!d), dirDev_dirDev' d, dirDev_dirDev d⟩

/-! ## The semaphores -/

/-- A semaphore of the rings: its phase (`true` for the gather), its direction, whether it counts landings, its slot, its half. -/
abbrev Cix : Type := Bool × Bool × Bool × Fin 8 × Fin 2

def semArr : Bool → Bool → Bool → DmaSems sig S16
  | false, d, false => rsSendA d
  | false, d, true => rsRecvA d
  | true, d, false => agSendA d
  | true, d, true => agRecvA d

def dmaOf (x : Cix) : DmaSem sig := semAt (semArr x.1 x.2.1 x.2.2.1) x.2.2.2.1 x.2.2.2.2

/-- The semaphore of the rings with a number, read off the number. -/
def decode (n : Nat) : Option Cix :=
  if n < 10 then none
  else some (decide (64 ≤ n - 10), decide ((n - 10) / 32 % 2 = 0), decide ((n - 10) / 16 % 2 = 1),
    ⟨(n - 10) % 16 / 2, by omega⟩, ⟨(n - 10) % 2, by omega⟩)

theorem decode_dmaOf (x : Cix) : decode (dmaOf x).val = some x := by
  revert x; decide +kernel

theorem dmaOf_inj : Function.Injective dmaOf := fun x y h => by
  have := (decode_dmaOf x).symm.trans ((congrArg (fun s : DmaSem sig => decode s.val) h).trans (decode_dmaOf y))
  exact Option.some.inj this

/-- The hops there are: the ring to the left ends one slot earlier. -/
def live (d : Bool) (s : Fin 8) : Bool := d || decide (s ≠ 7)

abbrev barCell (c : Dev nD) : GSem nD τ sig := ((c : Thread nD τ), .reg barSem)
abbrev dmaCell (c : Dev nD) (x : Cix) : GSem nD τ sig := ((c : Thread nD τ), .dma (dmaOf x))
abbrev sendCell (c : Dev nD) (ag d : Bool) (s : Fin 8) (r : Fin 2) : GSem nD τ sig := dmaCell c (ag, d, false, s, r)
abbrev recvCell (c : Dev nD) (ag d : Bool) (s : Fin 8) (r : Fin 2) : GSem nD τ sig := dmaCell c (ag, d, true, s, r)

/-! ## The buffers by phase -/

def bufM : Bool → Bool → Memref sig .tc .vmem S8x64x1024 .bf16
  | false, d => rsM d | true, d => agM d
def srcM : Bool → Hop → Memref sig .tc .vmem S32x1024 .bf16
  | false, h => rsSrc h | true, h => agSrc h

/-- The units of one transfer. -/
def N : ℕ := (slot8 (bufM false true) 0 0).view.dmaCredit
theorem N_pos : 0 < N := View.dmaCredit_pos _ (by decide)
theorem amount_slot (ag d : Bool) (s : Fin 8) (r : Fin 2) (sm : DmaSem sig) : (slot8 (bufM ag d) s r).view.amount (.dma sm) = N := by
  cases ag <;> cases d <;> rfl

/-! ## What travels -/

section Values

variable (P : Dev nD → (cc0_scratch0 : Ref sig .tc).ty.Contents (Elt F))

/-- The half chunk of a device's partial product that its hop adds, -/
def partAt (c : Dev nD) (d : Bool) (s : Fin 8) (r : Fin 2) : Vec F S32x1024 .f32 :=
  partM.view.readAt (Elt F) (partRect c d s r).toLoadRect (P c)
/-- and the one it keeps. -/
def part0At (c : Dev nD) (r : Fin 2) : Vec F S32x1024 .f32 :=
  partM.view.readAt (Elt F) (partRect0 c r).toLoadRect (P c)

/-- What lands on device `c` in a slot of the reduce-scatter: the sender's half chunk added to what the sender received. -/
def rsVal (d : Bool) : (n : Nat) → n < 8 → Dev nD → Fin 2 → FVec F S32x1024 .bf16
  | 0, h, c, r => truncf .bf16 (partAt P (dirDev (!d) c) d ⟨0, h⟩ r : FVec F S32x1024 .f32) bitsLt_bf16_f32
  | n + 1, h, c, r => truncf .bf16 (addf (extf .f32 (rsVal d n (Nat.lt_of_succ_lt h) (dirDev (!d) c) r) bitsLt_bf16_f32)
      (partAt P (dirDev (!d) c) d ⟨n + 1, h⟩ r : FVec F S32x1024 .f32)) bitsLt_bf16_f32

/-- The chunk device `c` reduces. -/
def redAt (c : Dev nD) (r : Fin 2) : FVec F S32x1024 .f32 :=
  addf (addf (extf .f32 (rsVal P true 7 (by decide) c r) bitsLt_bf16_f32) (part0At P c r : FVec F S32x1024 .f32))
    (extf .f32 (rsVal P false 6 (by decide) c r) bitsLt_bf16_f32)
/-- The same, rounded for the gather. -/
def myAt (c : Dev nD) (r : Fin 2) : FVec F S32x1024 .bf16 := truncf .bf16 (redAt P c r) bitsLt_bf16_f32

/-- The device whose chunk lands on device `c` in a slot of the gather. -/
def agFrom (d : Bool) : Nat → Dev nD → Dev nD
  | 0, c => dirDev (!d) c
  | n + 1, c => agFrom d n (dirDev (!d) c)

/-- What lands in a slot, by phase. -/
def val : Bool → Bool → Fin 8 → Dev nD → Fin 2 → FVec F S32x1024 .bf16
  | false, d, s, c, r => rsVal P d s.val s.isLt c r
  | true, d, s, c, r => myAt P (agFrom d s.val c) r

end Values

/-! ## The resource algebra -/

/-- The pipeline library's copy and the rings' own; a cell's payers are named by a direction. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

section Sched

variable (P : Dev nD → (cc0_scratch0 : Ref sig .tc).ty.Contents (Elt F))

/-- A half slot at some contents. -/
def slotAny (c : Dev nD) (ag d : Bool) (s : Fin 8) (r : Fin 2) : sProp 𝕄 :=
  iprop(∃ f, (slot8 (bufM ag d) s r).view.loc (c : Thread nD τ) ↦[(slot8 (bufM ag d) s r).view.set]{fullShare} f)

instance slotAny_storable (c : Dev nD) (ag d : Bool) (s : Fin 8) (r : Fin 2) :
    BI.Storable (upEmb : UEmb _ 𝕄) (slotAny (F := F) c ag d s r) := by unfold slotAny; infer_instance

/-- The share of a transfer's source that rides with it: the gather's sources are read while they are sent. -/
def shareOf : Bool → Bool → PosShare TreeShare
  | false, _ => fullShare
  | true, true => fullShare.left
  | true, false => fullShare.right

/-- The slots of a direction on device `c`, and that their landings can be paid: what `c`'s sender gets at the barrier. -/
def barPay (c : Dev nD) (d : Bool) : sProp 𝕄 :=
  bigSep (Finset.univ.filter fun x : Bool × Fin 8 × Fin 2 => live d x.2.1 = true)
    fun x => iprop(slotAny c x.1 d x.2.1 x.2.2 ∗ reached ER (recvCell c x.1 d x.2.1 x.2.2) 0)

/-- What a transfer's read-out gives back: its source; -/
def sendPay (c : Dev nD) (ag d : Bool) (s : Fin 8) (r : Fin 2) : sProp 𝕄 :=
  owns (c : Thread nD τ) (srcM ag (d, s, r)) (shareOf ag d) (val P ag d s (dirDev d c) r)
/-- its landing: the slot, at what was sent. -/
def recvPay (c : Dev nD) (ag d : Bool) (s : Fin 8) (r : Fin 2) : sProp 𝕄 :=
  owns (c : Thread nD τ) (slot8 (bufM ag d) s r) fullShare (val P ag d s c r)

/-- A ring's semaphore's payload. -/
def dmaPay (c : Dev nD) : Cix → sProp 𝕄
  | (ag, d, false, s, r) => sendPay P c ag d s r
  | (ag, d, true, s, r) => recvPay P c ag d s r

instance dmaPay_storable (c : Dev nD) : ∀ x, BI.Storable (upEmb : UEmb _ 𝕄) (dmaPay P c x)
  | (_, _, false, _, _) => by unfold dmaPay sendPay; infer_instance
  | (_, _, true, _, _) => by unfold dmaPay recvPay; infer_instance

def dutiesOf : SemLoc sig → Finset Bool
  | .reg s => if s = barSem then Finset.univ else ∅
  | .dma s => match decode s.val with
    | none => ∅
    | some (_, d, _, s, _) => if live d s = true then {true} else ∅

def payOf (c : Dev nD) : SemLoc sig → Bool → sProp 𝕄
  | .reg _, d => barPay (dirDev d c) d
  | .dma s, _ => match decode s.val with
    | none => iprop(emp)
    | some x => dmaPay P c x

/-- One round on every cell: the barrier's two units from the two neighbours, one transfer on every other. -/
def Rd : Rounds.Schedule (GSem nD τ sig) Bool 𝕄 where
  duties g r := if r = 0 ∧ g.1.2 = .tc then dutiesOf g.2 else ∅
  unitless _ := False
  amount g _ _ := match g.2 with | .reg _ => 1 | .dma _ => N
  payload g _ d := payOf P g.1.1 g.2 d
  amount_pos g _ _ _ := by
    split
    · exact Nat.one_pos
    · exact N_pos

instance Rd_storable (g : GSem nD τ sig) (r : ℕ) (d : Bool) : BI.Storable (upEmb : UEmb _ 𝕄) ((Rd P).payload g r d) := by
  show BI.Storable upEmb (payOf P g.1.1 g.2 d)
  unfold payOf barPay
  (repeat' split) <;> infer_instance

theorem duties_bar (c : Dev nD) : (Rd P).duties (barCell c) 0 = Finset.univ := by
  dsimp only [Rd]; rw [if_pos ⟨rfl, rfl⟩]; dsimp only [dutiesOf]; exact if_pos rfl
theorem duties_dma (c : Dev nD) (ag d v : Bool) (s : Fin 8) (r : Fin 2) (h : live d s = true) :
    (Rd P).duties (dmaCell c (ag, d, v, s, r)) 0 = {true} := by
  dsimp only [Rd]; rw [if_pos ⟨rfl, rfl⟩]; dsimp only [dutiesOf]; rw [decode_dmaOf]; exact if_pos h
theorem duties_dead (c : Dev nD) (ag d v : Bool) (s : Fin 8) (r : Fin 2) (h : ¬ live d s = true) :
    ∀ n, 0 ≤ n → (Rd P).duties (dmaCell c (ag, d, v, s, r)) n = ∅ := fun n _ => by
  dsimp only [Rd]; dsimp only [dutiesOf]; rw [decode_dmaOf]; dsimp only; rw [if_neg h]; split <;> rfl
theorem duties_later (g : GSem nD τ sig) : ∀ n, 1 ≤ n → (Rd P).duties g n = ∅ := fun n hn => by
  dsimp only [Rd]; exact if_neg fun h => by omega

theorem amount_bar (c : Dev nD) (d : Bool) : (Rd P).amount (barCell c) 0 d = 1 := rfl
theorem amount_dma (c : Dev nD) (x : Cix) (d : Bool) : (Rd P).amount (dmaCell c x) 0 d = N := rfl

theorem expect_bar (c : Dev nD) : (Rd P).expect (barCell c) 0 = 2 := by
  unfold Schedule.expect Schedule.amountOf; rw [duties_bar]; rfl
theorem expect_dma (c : Dev nD) (ag d v : Bool) (s : Fin 8) (r : Fin 2) (h : live d s = true) :
    (Rd P).expect (dmaCell c (ag, d, v, s, r)) 0 = N := by
  unfold Schedule.expect Schedule.amountOf; rw [duties_dma P c ag d v s r h, Finset.sum_singleton, amount_dma]

theorem payload_bar (c : Dev nD) (d : Bool) : (Rd P).payload (barCell c) 0 d = barPay (dirDev d c) d := rfl
theorem payload_dma (c : Dev nD) (x : Cix) (d : Bool) : (Rd P).payload (dmaCell c x) 0 d = dmaPay P c x := by
  dsimp only [Rd, payOf]; rw [decode_dmaOf]

theorem rest_bar (c : Dev nD) : bigSep ((Rd P).duties (barCell c) 0 \ ∅) (fun u => (Rd P).payload (barCell c) 0 u)
    = iprop(barPay (dirDev true c) true ∗ barPay (dirDev false c) false) := by
  rw [Finset.sdiff_empty, duties_bar, bigSep_univ_eq_bigSepL [true, false] (by decide) (by decide)]; rfl
theorem rest_dma (c : Dev nD) (ag d v : Bool) (s : Fin 8) (r : Fin 2) (h : live d s = true) :
    bigSep ((Rd P).duties (dmaCell c (ag, d, v, s, r)) 0 \ ∅) (fun u => (Rd P).payload (dmaCell c (ag, d, v, s, r)) 0 u)
      = dmaPay P c (ag, d, v, s, r) := by
  rw [Finset.sdiff_empty, duties_dma P c ag d v s r h, bigSep_singleton, payload_dma]

end Sched

/-! ## The levels, and what is owed -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a landing: the gather's above the reduce-scatter's, a later slot's above an earlier one's. -/
def hopLv : Bool → Fin 8 → ℕ
  | false, s => 2 + s.val | true, s => 10 + s.val

def semLv : SemLoc sig → ℕ
  | .reg s => if s = barSem then 1 else 0
  | .dma s => match decode s.val with
    | some (ag, _, true, s, _) => hopLv ag s
    | _ => 0
def lv (g : GSem nD τ sig) (_ : Unit) : ℕ := semLv g.2

theorem lv_bar (c : Dev nD) (u : Unit) : lv (barCell c) u = 1 := by
  dsimp only [lv, semLv]; exact if_pos rfl
theorem lv_recv (c : Dev nD) (ag d : Bool) (s : Fin 8) (r : Fin 2) (u : Unit) : lv (recvCell c ag d s r) u = hopLv ag s := by
  dsimp only [lv, semLv]; rw [decode_dmaOf]

/-- The landings a list of hops still owes the neighbours. -/
def owed (c : Dev nD) (ag : Bool) : List Hop → CellTallies nD τ sig Unit
  | [] => 0
  | h :: l => owed c ag l + tallyAt (recvCell (dirDev h.1 c) ag h.1 h.2.1 h.2.2) () N

/-- What is owed of a list of hops is owed at one of their landings. -/
theorem owed_pos {c : Dev nD} {ag : Bool} {g : GSem nD τ sig} {u : Unit} : ∀ {l : List Hop}, 0 < owed c ag l g u →
    ∃ h ∈ l, g = recvCell (dirDev h.1 c) ag h.1 h.2.1 h.2.2
  | [], h => absurd h (Nat.lt_irrefl 0)
  | x :: l, h => by
    unfold owed at h
    rw [Pi.add_apply, Finsupp.add_apply] at h
    rcases Nat.add_pos_iff_pos_or_pos.mp h with h | h
    · obtain ⟨y, hy, e⟩ := owed_pos h
      exact ⟨y, List.mem_cons_of_mem _ hy, e⟩
    · rw [tallyAt_apply] at h
      split at h
      · next hg => exact ⟨x, List.mem_cons_self, hg.1⟩
      · exact absurd h (Nat.lt_irrefl 0)

/-- What a device owes at launch: every landing, and each neighbour's unit at the barrier. -/
def O₀ (c : Dev nD) : CellTallies nD τ sig Unit :=
  owed c false hops + owed c true hops + tallyAt (barCell (dirDev true c)) () 1 + tallyAt (barCell (dirDev false c)) () 1

/-- A wait below every landing that is still owed may be made. -/
theorem mayWait (c : Dev nD) (sm : SemLoc sig) (l₁ l₂ : List Hop)
    (h₁ : ∀ h ∈ l₁, semLv sm < hopLv false h.2.1) (h₂ : ∀ h ∈ l₂, semLv sm < hopLv true h.2.1) :
    (levAts L lv : sProp 𝕄) ⊢ MayWait (c : Thread nD τ) sm () (owed c false l₁ + owed c true l₂) := by
  have key : ∀ g u, 0 < (owed c false l₁ + owed c true l₂) g u → u ∈ L g ∧ semLv sm < lv g u := fun g u h => by
    rw [Pi.add_apply, Finsupp.add_apply] at h
    rcases Nat.add_pos_iff_pos_or_pos.mp h with h | h
    · obtain ⟨x, hx, rfl⟩ := owed_pos h
      exact ⟨by rw [L_tc]; exact Finset.mem_singleton_self _, by rw [lv_recv]; exact h₁ x hx⟩
    · obtain ⟨x, hx, rfl⟩ := owed_pos h
      exact ⟨by rw [L_tc]; exact Finset.mem_singleton_self _, by rw [lv_recv]; exact h₂ x hx⟩
  exact MayOwe.of_cut (L := L) (lev := lv) (semLv sm) (fun p hp => by rw [Finset.mem_singleton.mp hp, L_tc]; exact Finset.mem_singleton_self _)
    (fun g u hg => (key g u hg).1)
    (fun p hp => by rw [Finset.mem_singleton.mp hp]; exact le_refl _)
    (fun g u hg => (key g u hg).2)

end Cert.KernelIdeal.Ring

end
-- ==== Proof.KernelIdealAccess.lean ====
/-
  What one access of the rings does: the load and the store of a half slot, the start of a transfer, the two waits that
  end it.
-/
module

public import proofs.«01_k».proof.Proof.KernelIdealCells

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Loads and stores of a half slot -/

section Mem

variable {s : Shape} {e : EltTy} (M : Memref sig .tc .vmem s e) (R : Rect s) (hr : ∀ a, R.stride a = 1) (t : Shape)
  (hq : R.shape.Squeezes t) (h₁ : R.shape.ShapeCasts t) (h₂ : t.ShapeCasts R.shape)

theorem squeeze_set : ((M.slice R hr).squeeze t hq).view.set = M.view.setOn R.set :=
  (View.set_reshape (v := (M.slice R hr).view) hq.numel_eq).trans (View.set_slice ..)

theorem squeeze_read (f : M.view.ty.Contents (Elt F)) : ((M.slice R hr).squeeze t hq).view.read (Elt F) f
    = shapeCast t (M.view.readAt (Elt F) R.toLoadRect f) h₁ := rfl

include h₁ in
/-- A load through a slot's rectangle reads what the slot holds. -/
theorem wp_load_slot (c : Dev nD) {q : PosShare TreeShare} {X : t.Idx → Elt F e} {hl : M.view.LoadsAt R.toLoadRect} {α : Type}
    {k : (R.shape.Idx → Elt F e) → Prog (TpuEff nD τ sig (Elt F) Λ₀ .tc) α} {Q : α → sProp 𝕄} :
    (owns (c : Thread nD τ) ((M.slice R hr).squeeze t hq) q X : sProp 𝕄)
      ⊢ iprop((owns (c : Thread nD τ) ((M.slice R hr).squeeze t hq) q X
          -∗ wp frame (wpE (defs₀ (F := F)) 𝒱₀ (c : Thread nD τ) none) Set.univ (k (shapeCast R.shape X h₂)) Q)
        -∗ wp frame (wpE (defs₀ (F := F)) 𝒱₀ (c : Thread nD τ) none) Set.univ (.op (.load M R.toLoadRect hl) k) Q) := by
  unfold owns
  iintro ⟨%f, %hf, H⟩ Hk
  iapply (wp_load 𝒱₀ (c : Thread nD τ) none Set.univ (m := M) (squeeze_set M R hr t hq).ge) $$ H
  iintro H
  rw [show M.view.readAt (Elt F) R.toLoadRect f = shapeCast R.shape X h₂ from by
    rw [← hf, squeeze_read M R hr t hq h₁, shapeCast_shapeCast]]
  iapply Hk
  iexists f
  isplitr; · ipureintro; exact hf
  iexact H

/-- A store through a slot's rectangle leaves the slot at what was stored. -/
theorem wp_store_slot (c : Dev nD) {w : R.shape.Idx → Elt F e} {hx : (M.access R).Stores Finset.univ} {hm : (Finset.univ : Finset R.shape.Idx) = Finset.univ ∨ ∀ a, R.stride a = 1}
    {α : Type} {k : PUnit → Prog (TpuEff nD τ sig (Elt F) Λ₀ .tc) α} {Q : α → sProp 𝕄} :
    iprop(∃ f, ((M.slice R hr).squeeze t hq).view.loc (c : Thread nD τ) ↦[((M.slice R hr).squeeze t hq).view.set]{fullShare} f)
      ⊢ iprop((owns (c : Thread nD τ) ((M.slice R hr).squeeze t hq) fullShare (shapeCast t w h₁)
          -∗ wp frame (wpE (defs₀ (F := F)) 𝒱₀ (c : Thread nD τ) none) Set.univ (k ⟨⟩) Q)
        -∗ (wp frame (wpE (defs₀ (F := F)) 𝒱₀ (c : Thread nD τ) none) Set.univ (.op (.store M R w Finset.univ hx hm) k) Q : sProp 𝕄)) := by
  iintro ⟨%f, H⟩ Hk
  iapply (wp_store 𝒱₀ (c : Thread nD τ) none Set.univ (m := M) (r := R) (Mk := Finset.univ)
    (show (M.access R).setOn Finset.univ ⊆ ((M.slice R hr).squeeze t hq).view.set by
      rw [squeeze_set]; exact (View.set_slice ..).le)) $$ H
  iintro H
  iapply Hk
  unfold owns
  iexists _
  isplitr
  swap
  · iexact H
  · ipureintro
    rw [squeeze_read M R hr t hq h₁]
    exact congrArg (fun x => shapeCast t x h₁) (View.read_write_univ (v := M.view.slice R) f w)

end Mem

/-! ## What every device may consult -/

def barEmb : Dev nD ↪ GSem nD τ sig := ⟨fun c => barCell c, fun _ _ h => congrArg (fun g : GSem nD τ sig => g.1.1) h⟩
def osem (x : Cix) : SemLoc sig := .dma (dmaOf x)
theorem osem_inj : Function.Injective osem := fun _ _ h => dmaOf_inj (SemLoc.dma.inj h)
def scEmb : Dev nD × Cix ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells; the rings' cells. -/
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem dma_mem (c : Dev nD) (x : Cix) : dmaCell c x ∈ (barCells ∪ scCells : Finset (GSem nD τ sig)) :=
  Finset.mem_union_right _ (Finset.mem_map_of_mem scEmb (Finset.mem_univ (c, x)))

section Steps

variable (P : Dev nD → (cc0_scratch0 : Ref sig .tc).ty.Contents (Elt F)) (κ : GSem nD τ sig → ℕ) (c : Dev nD)

/-- Every cell's invariant. -/
def invs : sProp 𝕄 := bigSep (barCells ∪ scCells) fun g => cellInv ER (Rd P) (κ g) g
instance invs_persistent : BI.Persistent (invs P κ) := by unfold invs; infer_instance

theorem inv_bar (n : Dev nD) : invs P κ ⊢ cellInv ER (Rd P) (κ (barCell n)) (barCell n) := bigSep_elim (bar_mem n)
theorem inv_dma (n : Dev nD) (x : Cix) : invs P κ ⊢ cellInv ER (Rd P) (κ (dmaCell n x)) (dmaCell n x) := bigSep_elim (dma_mem n x)

/-- A device's own cells are open. -/
def ownReached : sProp 𝕄 := bigSep Finset.univ fun x : Cix => reached ER (dmaCell c x) 0
instance ownReached_persistent : BI.Persistent (ownReached (F := F) c) := by unfold ownReached; infer_instance

/-- The hops of both phases. -/
abbrev liveHops : Finset (Bool × Hop) := Finset.univ.filter fun x => live x.2.1 x.2.2.1 = true

/-- The neighbours' landing cells are open. -/
def nbrReached : sProp 𝕄 := bigSep liveHops fun x => reached ER (recvCell (dirDev x.2.1 c) x.1 x.2.1 x.2.2.1 x.2.2.2) 0
instance nbrReached_persistent : BI.Persistent (nbrReached (F := F) c) := by unfold nbrReached; infer_instance

/-- What every step may consult. -/
def ctx : sProp 𝕄 := iprop(invs P κ ∗ levAts L lv ∗ ownReached c ∗ nbrReached c)
instance ctx_persistent : BI.Persistent (ctx P κ c) := by unfold ctx; infer_instance

theorem reached_own (x : Cix) : ownReached (F := F) c ⊢ reached ER (dmaCell c x) 0 := bigSep_elim (Finset.mem_univ x)
theorem reached_nbr (ag d : Bool) (s : Fin 8) (r : Fin 2) (h : live d s = true) :
    nbrReached (F := F) c ⊢ reached ER (recvCell (dirDev d c) ag d s r) 0 :=
  bigSep_elim (Φ := fun x : Bool × Hop => (reached ER (recvCell (dirDev x.2.1 c) x.1 x.2.1 x.2.2.1 x.2.2.2) 0 : sProp 𝕄))
    (i := (ag, d, s, r)) (Finset.mem_filter.mpr ⟨Finset.mem_univ _, h⟩)

/-! ## Starting a transfer -/

/-- What a device pays a hop with: the two duties, and the neighbour's slot. -/
def sendKit (ag : Bool) (h : Hop) : sProp 𝕄 :=
  iprop(slotAny (dirDev h.1 c) ag h.1 h.2.1 h.2.2 ∗ dutyTok ER (sendCell c ag h.1 h.2.1 h.2.2) 0 true
    ∗ dutyTok ER (recvCell (dirDev h.1 c) ag h.1 h.2.1 h.2.2) 0 true)

/-- A started transfer can be waited for. -/
def sentCred (ag : Bool) (h : Hop) : sProp 𝕄 := cred (tallyAt (sendCell c ag h.1 h.2.1 h.2.2) () N)

theorem wp_sendTo (ag d : Bool) (s : Fin 8) (r : Fin 2) (hlive : live d s = true)
    {dst : Memref sig .tc .vmem S8x64x1024 .bf16} (hdst : dst = bufM ag d) {hd : dst.IsWhole}
    {AS AR : DmaSems sig S16} (hAS : AS = semArr ag d false) (hAR : AR = semArr ag d true)
    {dev : Dev nD} (hdev : dev = dirDev d c) {src : Memref sig .tc .vmem S32x1024 .bf16} (hsrc : src = srcM ag (d, s, r))
    {hs : src.view.WordExact} {X : FVec F S32x1024 .bf16} (hX : X = val P ag d s (dirDev d c) r)
    {O₁ : CellTallies nD τ sig Unit} (O : CellTallies nD τ sig Unit) (hO : O₁ = O + tallyAt (recvCell (dirDev d c) ag d s r) () N)
    (W : Waits sig Unit) {Q : PUnit → sProp 𝕄} :
    iprop(ctx P κ c ∗ owns (c : Thread nD τ) src (shareOf ag d) X ∗ sendKit c ag (d, s, r) ∗ owes (c : Thread nD τ) O₁ W)
      ⊢ iprop((sentCred c ag (d, s, r) ∗ owes (c : Thread nD τ) O W -∗ Q ⟨⟩)
        -∗ wp frame (wpE (defs₀ (F := F)) 𝒱₀ (c : Thread nD τ) none) Set.univ (sendTo dst hd AS AR dev src hs s r) Q) := by
  subst hdst hAS hAR hdev hsrc hX
  unfold ctx sendKit slotAny owns sentCred sendTo
  iintro ⟨⟨#HI, #Hlev, #Hown, #Hnbr⟩, ⟨%f, %hf, Hs⟩, ⟨⟨%fd, Hd⟩, Ht1, Ht2⟩, HO⟩ Hk
  iapply (Rounds.wp_send_pointsTo 𝒱₀ ER (Rd P) (c : Thread nD τ) none (c' := (dirDev d c : Thread nD τ)) (src := srcM ag (d, s, r))
      (dst := slot8 (bufM ag d) s r) (sS := .dma (dmaOf (ag, d, false, s, r))) (sem := .dma (dmaOf (ag, d, true, s, r)))
      (q := shareOf ag d) (fs := f) (κ₁ := κ (sendCell c ag d s r)) (κ₂ := κ (recvCell (dirDev d c) ag d s r))
      (r₁ := 0) (r₂ := 0) (d₁ := true) (d₂ := true) (fd := fd)
      (by rw [duties_dma P c ag d false s r hlive]; exact Finset.mem_singleton_self _)
      (by rw [duties_dma P (dirDev d c) ag d true s r hlive]; exact Finset.mem_singleton_self _)
      () () N (amount_slot ag d s r _) (amount_dma P c _ _) (amount_dma P _ _ _) O hO (W := W)
      (by
        rw [payload_dma]; unfold dmaPay sendPay owns
        iintro H; iexists f; isplitr; · ipureintro; exact hf
        iexact H)
      (by
        rw [payload_dma]; unfold dmaPay recvPay owns
        iintro H; iexists _; isplitr
        swap
        · iexact H
        · ipureintro; rw [View.read_write_univ]; exact hf))
    $$ [Hs Hd HO Ht1 Ht2]
  · isplitr; · iapply (inv_dma P κ c); iexact HI
    isplitr; · iapply (inv_dma P κ (dirDev d c)); iexact HI
    isplitl [Hs]; · iexact Hs
    isplitl [Hd]; · iexact Hd
    isplitl [HO]; · iexact HO
    isplitl [Ht1]; · iexact Ht1
    isplitr; · iapply (reached_own (F := F) c); iexact Hown
    isplitl [Ht2]; · iexact Ht2
    iapply (reached_nbr (F := F) c ag d s r hlive); iexact Hnbr
  iintro H
  rw [wp_ret]
  imodintro
  iapply Hk $$ H

/-! ## The waits -/

/-- What a device waits on a cell with: its position there and the units' credit. -/
def waitKit (x : Cix) : sProp 𝕄 := iprop(atPos ER (dmaCell c x) 0 ∅ 0 ∗ cred (tallyAt (dmaCell c x) () N))

theorem wp_wait (ag d v : Bool) (s : Fin 8) (r : Fin 2) (hlive : live d s = true) {A : DmaSem sig} (hA : A = dmaOf (ag, d, v, s, r))
    {m₁ m₂ : Memref sig .tc .vmem S32x1024 .bf16} (hm : m₂.view.dmaCredit = N) {h₁ : m₁.view.WordExact} {h₂ : m₂.view.WordExact}
    (O : CellTallies nD τ sig Unit) (hw : (levAts L lv : sProp 𝕄) ⊢ MayWait (c : Thread nD τ) (.dma A) () O)
    (W : Waits sig Unit) {Q : PUnit → sProp 𝕄} :
    iprop(ctx P κ c ∗ waitKit c (ag, d, v, s, r) ∗ owes (c : Thread nD τ) O W)
      ⊢ iprop(((atPos ER (dmaCell c (ag, d, v, s, r)) 1 ∅ 0 ∗ dmaPay P c (ag, d, v, s, r) ∗ ∃ W', owes (c : Thread nD τ) O W') -∗ Q ⟨⟩)
        -∗ wp frame (wpE (defs₀ (F := F)) 𝒱₀ (c : Thread nD τ) none) Set.univ (Prog.lift (.waitDma2 A m₁ m₂ h₁ h₂)) Q) := by
  subst hA
  unfold ctx waitKit
  rw [← hm]
  iintro ⟨⟨#HI, #Hlev, #Hown, #Hnbr⟩, ⟨Hat, Hc⟩, HO⟩ Hk
  iapply (Rounds.wp_wait_rest_token 𝒱₀ ER (Rd P) (c : Thread nD τ) none (κ := κ (dmaCell c (ag, d, v, s, r)))
      (wpE_waitDma2_eq 𝒱₀ (c : Thread nD τ) none Set.univ) (Set.mem_univ _) () (O := O) (W := W) (R := 0) (m := 0) (T := ∅)
      ((Nat.zero_add _).trans (hm.trans (expect_dma P c ag d v s r hlive).symm))) $$ [Hat Hc HO]
  · isplitr; · iapply (inv_dma P κ c); iexact HI
    isplitl [Hc]; · iexact Hc
    isplitl [HO]; · iexact HO
    isplitr; · iapply hw; iexact Hlev
    iexact Hat
  iintro ⟨HO, Hat, -, Hpay⟩
  ihave Hp := (Entails.of_eq (rest_dma P c ag d v s r hlive)) $$ Hpay
  rw [wp_ret]
  imodintro
  iapply Hk
  isplitl [Hat]; · iexact Hat
  isplitl [Hp]; · iexact Hp
  iexists _; iexact HO

end Steps

end Cert.KernelIdeal.Ring

end
-- ==== Proof.KernelIdealScatter.lean ====
/-
  The reduce-scatter, hop by hop: a list of steps by the step, the seeds, the hops that add and forward, the last landings.
-/
module

public import proofs.«01_k».proof.Proof.KernelIdealAccess

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A list of steps, each taking its own kit and moving an invariant of the steps that are left. -/
theorem wp_runList {α : Type} (c : Dev nD) (f : α → Prog (TpuEff nD τ sig (Elt F) Λ₀ .tc) PUnit) (R : sProp 𝕄) [BI.Persistent R]
    (I : List α → sProp 𝕄) (kit out : α → sProp 𝕄) (ok : List α → Prop) (hok : ∀ a l, ok (a :: l) → ok l)
    (step : ∀ a l, ok (a :: l) → ∀ Q : PUnit → sProp 𝕄,
      iprop(R ∗ I (a :: l) ∗ kit a) ⊢ iprop((I l ∗ out a -∗ Q ⟨⟩)
        -∗ wp frame (wpE (defs₀ (F := F)) 𝒱₀ (c : Thread nD τ) none) Set.univ (f a) Q)) :
    ∀ (l : List α), ok l → ∀ Q : PUnit → sProp 𝕄,
      iprop(R ∗ I l ∗ bigSepL l kit) ⊢ iprop((I [] ∗ bigSepL l out -∗ Q ⟨⟩)
        -∗ wp frame (wpE (defs₀ (F := F)) 𝒱₀ (c : Thread nD τ) none) Set.univ (runList f l) Q)
  | [], _, Q => by
    unfold runList
    rw [bigSepL_nil, bigSepL_nil, Prog.pure_eq_ret, wp_ret]
    iintro ⟨#HR, HI, -⟩ Hk
    imodintro
    iapply Hk
    isplitl [HI]; · iexact HI
    iempintro
  | a :: l, h, Q => by
    unfold runList
    rw [wp_bind, bigSepL_cons' a l kit, bigSepL_cons' a l out]
    iintro ⟨#HR, HI, Ha, Hl⟩ Hk
    iapply (step a l h _) $$ [HI Ha]
    · isplitr; · iexact HR
      isplitl [HI] <;> iassumption
    iintro ⟨HI, Ho⟩
    iapply (wp_runList c f R I kit out ok hok step l (hok a l h) Q) $$ [HI Hl]
    · isplitr; · iexact HR
      isplitl [HI] <;> iassumption
    iintro ⟨HI, Hl⟩
    iapply Hk
    isplitl [HI]; · iexact HI
    isplitl [Ho] <;> iassumption

section Steps

variable (P : Dev nD → (cc0_scratch0 : Ref sig .tc).ty.Contents (Elt F)) (κ : GSem nD τ sig → ℕ) (c : Dev nD)

/-- The device's partial product, whole. -/
def partPts : sProp 𝕄 := partM.view.loc (c : Thread nD τ) ↦{fullShare} P c

/-- A load of the partial product. -/
theorem wp_load_part {r : LoadRect S1024x1024} {hl : partM.view.LoadsAt r} {α : Type}
    {k : (r.shape.Idx → Elt F .f32) → Prog (TpuEff nD τ sig (Elt F) Λ₀ .tc) α} {Q : α → sProp 𝕄} :
    partPts P c ⊢ iprop((partPts P c -∗ wp frame (wpE (defs₀ (F := F)) 𝒱₀ (c : Thread nD τ) none) Set.univ (k (partM.view.readAt (Elt F) r (P c))) Q)
      -∗ wp frame (wpE (defs₀ (F := F)) 𝒱₀ (c : Thread nD τ) none) Set.univ (.op (.load partM r hl) k) Q) :=
  wp_load 𝒱₀ (c : Thread nD τ) none Set.univ (m := partM) (Finset.subset_univ _)

/-- A half of a seed at some contents. -/
def seedAny (d : Bool) (r : Fin 2) : sProp 𝕄 :=
  iprop(∃ f, (slot2 (seedIx d) r).view.loc (c : Thread nD τ) ↦[(slot2 (seedIx d) r).view.set]{fullShare} f)

theorem owns_any {sp : Space} {sh : Shape} {e : EltTy} (M : Memref sig .tc sp sh e) (q : PosShare TreeShare) (X : sh.Idx → Elt F e) :
    (owns (c : Thread nD τ) M q X : sProp 𝕄) ⊢ iprop(∃ f, M.view.loc (c : Thread nD τ) ↦[M.view.set]{q} f) := by
  unfold owns; iintro ⟨%f, -, H⟩; iexists f; iexact H

/-- A wait at a landing, which gives the slot at the value that lands there. -/
theorem wp_wait_recv (ag d : Bool) (s : Fin 8) (r : Fin 2) (hlive : live d s = true) {A : DmaSem sig} (hA : A = dmaOf (ag, d, true, s, r))
    {m₁ m₂ : Memref sig .tc .vmem S32x1024 .bf16} (hm : m₂.view.dmaCredit = N) {h₁ : m₁.view.WordExact} {h₂ : m₂.view.WordExact}
    {B : Memref sig .tc .vmem S8x64x1024 .bf16} (hB : B = bufM ag d) (O : CellTallies nD τ sig Unit) (hw : (levAts L lv : sProp 𝕄) ⊢ MayWait (c : Thread nD τ) (.dma A) () O)
    (W : Waits sig Unit) {Q : PUnit → sProp 𝕄} :
    iprop(ctx P κ c ∗ waitKit c (ag, d, true, s, r) ∗ owes (c : Thread nD τ) O W)
      ⊢ iprop(((atPos ER (recvCell c ag d s r) 1 ∅ 0 ∗ owns (c : Thread nD τ) (slot8 B s r) fullShare (val P ag d s c r)
          ∗ ∃ W', owes (c : Thread nD τ) O W') -∗ Q ⟨⟩)
        -∗ wp frame (wpE (defs₀ (F := F)) 𝒱₀ (c : Thread nD τ) none) Set.univ (Prog.lift (.waitDma2 A m₁ m₂ h₁ h₂)) Q) := by
  subst hB
  exact wp_wait P κ c ag d true s r hlive hA hm O hw W

/-- A wait at a sender, which gives the source back. -/
theorem wp_wait_send (ag d : Bool) (s : Fin 8) (r : Fin 2) (hlive : live d s = true) {A : DmaSem sig} (hA : A = dmaOf (ag, d, false, s, r))
    {m₁ m₂ : Memref sig .tc .vmem S32x1024 .bf16} (hm : m₂.view.dmaCredit = N) {h₁ : m₁.view.WordExact} {h₂ : m₂.view.WordExact}
    {S : Memref sig .tc .vmem S32x1024 .bf16} (hS : S = srcM ag (d, s, r)) (O : CellTallies nD τ sig Unit) (hw : (levAts L lv : sProp 𝕄) ⊢ MayWait (c : Thread nD τ) (.dma A) () O)
    (W : Waits sig Unit) {Q : PUnit → sProp 𝕄} :
    iprop(ctx P κ c ∗ waitKit c (ag, d, false, s, r) ∗ owes (c : Thread nD τ) O W)
      ⊢ iprop(((atPos ER (sendCell c ag d s r) 1 ∅ 0 ∗ owns (c : Thread nD τ) S (shareOf ag d) (val P ag d s (dirDev d c) r)
          ∗ ∃ W', owes (c : Thread nD τ) O W') -∗ Q ⟨⟩)
        -∗ wp frame (wpE (defs₀ (F := F)) 𝒱₀ (c : Thread nD τ) none) Set.univ (Prog.lift (.waitDma2 A m₁ m₂ h₁ h₂)) Q) := by
  subst hS
  exact wp_wait P κ c ag d false s r hlive hA hm O hw W

/-- What a hop that lands on the neighbour adds to what landed here. -/
theorem val_next (d : Bool) (s : Nat) (h : s + 1 < 8) (r : Fin 2) :
    val P false d ⟨s + 1, h⟩ (dirDev d c) r
      = truncf .bf16 (addf (extf .f32 (val P false d ⟨s, Nat.lt_of_succ_lt h⟩ c r) bitsLt_bf16_f32) (partAt P c d ⟨s + 1, h⟩ r : FVec F S32x1024 .f32)) bitsLt_bf16_f32 := by
  show rsVal P d (s + 1) h (dirDev d c) r = _
  rw [rsVal, dirDev_dirDev']; rfl

theorem val_seed (d : Bool) (r : Fin 2) (h : 0 < 8) :
    val P false d ⟨0, h⟩ (dirDev d c) r = truncf .bf16 (partAt P c d ⟨0, h⟩ r : FVec F S32x1024 .f32) bitsLt_bf16_f32 := by
  show rsVal P d 0 h (dirDev d c) r = _
  rw [rsVal, dirDev_dirDev']

/-- What a hop takes: the kit of its transfer, and the seed's buffer or the right to wait for what it forwards. -/
def rsKit : Hop → sProp 𝕄
  | (d, ⟨0, h⟩, r) => iprop(sendKit c false (d, ⟨0, h⟩, r) ∗ seedAny c d r)
  | (d, ⟨s + 1, h⟩, r) => iprop(sendKit c false (d, ⟨s + 1, h⟩, r) ∗ waitKit c (false, d, true, ⟨s, Nat.lt_of_succ_lt h⟩, r))
/-- What it leaves. -/
def rsOut : Hop → sProp 𝕄
  | (d, ⟨0, h⟩, r) => sentCred c false (d, ⟨0, h⟩, r)
  | (d, ⟨s + 1, h⟩, r) => iprop(sentCred c false (d, ⟨s + 1, h⟩, r) ∗ atPos ER (recvCell c false d ⟨s, Nat.lt_of_succ_lt h⟩ r) 1 ∅ 0)

/-- The device owes these landings of the two phases. -/
def owing (l₁ l₂ : List Hop) : sProp 𝕄 := iprop(∃ W, owes (c : Thread nD τ) (owed c false l₁ + owed c true l₂) W)

theorem owed_cons_rs (h : Hop) (l l₂ : List Hop) :
    owed c false (h :: l) + owed c true l₂ = (owed c false l + owed c true l₂) + tallyAt (recvCell (dirDev h.1 c) false h.1 h.2.1 h.2.2) () N := by
  rw [owed, add_right_comm]
theorem owed_cons_ag (h : Hop) (l₁ l : List Hop) :
    owed c false l₁ + owed c true (h :: l) = (owed c false l₁ + owed c true l) + tallyAt (recvCell (dirDev h.1 c) true h.1 h.2.1 h.2.2) () N := by
  rw [owed, add_assoc]

/-- The hops are in the order of their slots, and all live. -/
def inOrder (l : List Hop) : Prop := l.Pairwise (fun a b => a.2.1 ≤ b.2.1) ∧ ∀ h ∈ l, live h.1 h.2.1 = true
instance (l : List Hop) : Decidable (inOrder l) := inferInstanceAs (Decidable (_ ∧ _))

theorem inOrder_tail (a : Hop) (l : List Hop) (h : inOrder (a :: l)) : inOrder l :=
  ⟨h.1.of_cons, fun x hx => h.2 x (List.mem_cons_of_mem _ hx)⟩

theorem live_pred {d : Bool} {s : Nat} {h : s + 1 < 8} (hl : live d ⟨s + 1, h⟩ = true) : live d ⟨s, Nat.lt_of_succ_lt h⟩ = true := by
  have : (⟨s, Nat.lt_of_succ_lt h⟩ : Fin 8) ≠ 7 := fun e => by
    have := congrArg Fin.val e
    simp only at this
    omega
  unfold live; rw [decide_eq_true this, Bool.or_true]

theorem semLv_recv (ag d : Bool) (s : Fin 8) (r : Fin 2) : semLv (.dma (dmaOf (ag, d, true, s, r))) = hopLv ag s := by
  dsimp only [semLv]; rw [decode_dmaOf]

set_option maxHeartbeats 800000 in
/-- One hop of the reduce-scatter. -/
theorem wp_rsStep (a : Hop) (l : List Hop) (hok : inOrder (a :: l)) (Q : PUnit → sProp 𝕄) :
    iprop(ctx P κ c ∗ (partPts P c ∗ owing c (a :: l) hops) ∗ rsKit c a)
      ⊢ iprop(((partPts P c ∗ owing c l hops) ∗ rsOut c a -∗ Q ⟨⟩)
        -∗ wp frame (wpE (defs₀ (F := F)) 𝒱₀ (c : Thread nD τ) none) Set.univ (rsStep c a) Q) := by
  obtain ⟨d, ⟨s, hs⟩, r⟩ := a
  cases s with
  | zero =>
    unfold rsKit rsOut rsStep seedStep owing seedAny
    simp only [Prog.lift, Prog.bind_op, Prog.bind_ret]
    have hX : shapeCast S32x1024 (seedVal (partAt P c d ⟨0, hs⟩ r)) shapeCasts_S1x32x1024_S32x1024 = val P false d ⟨0, hs⟩ (dirDev d c) r := by
      rw [val_seed]; unfold seedVal; rw [shapeCast_shapeCast]
    iintro ⟨#Hctx, ⟨Hp, %W, HO⟩, Hkit, Hseed⟩ Hk
    iapply (wp_load_part P c) $$ Hp
    iintro Hp
    icases Hseed with ⟨%f, Hseed⟩
    iapply (wp_load 𝒱₀ (c : Thread nD τ) none Set.univ (m := seedM) (squeeze_set seedM (rect2 (seedIx d) r) (fun _ => rfl) S32x1024 squeezes_S1x32x1024_S32x1024).ge) $$ Hseed
    iintro Hseed
    iapply (wp_store_slot seedM (rect2 (seedIx d) r) (fun _ => rfl) S32x1024 squeezes_S1x32x1024_S32x1024 shapeCasts_S1x32x1024_S32x1024 c) $$ [Hseed]
    · iexists f; iexact Hseed
    iintro Hseed
    iapply (wp_sendTo P κ c false d ⟨0, hs⟩ r (hok.2 _ List.mem_cons_self) rfl rfl rfl rfl rfl
      hX _ (owed_cons_rs c (d, ⟨0, hs⟩, r) l hops) W) $$ [Hseed Hkit HO]
    · isplitr; · iexact Hctx
      isplitl [Hseed]; · iexact Hseed
      isplitl [Hkit] <;> iassumption
    iintro ⟨Hc, HO⟩
    iapply Hk
    isplitr [Hc]
    · isplitl [Hp]; · iexact Hp
      iexists W; iexact HO
    iexact Hc
  | succ s =>
    unfold rsKit rsOut rsStep fwdStep owing waitSlot loadSlot
    simp only [Prog.lift, Prog.bind_op, Prog.bind_ret]
    have hlive := hok.2 _ List.mem_cons_self
    have hlt : ∀ h ∈ ((d, ⟨s + 1, hs⟩, r) : Hop) :: l, semLv (.dma (dmaOf (false, d, true, ⟨s, Nat.lt_of_succ_lt hs⟩, r))) < hopLv false h.2.1 := fun h hh => by
      rw [semLv_recv]
      have : (⟨s + 1, hs⟩ : Fin 8) ≤ h.2.1 := by
        rcases List.mem_cons.mp hh with rfl | hh
        · exact le_refl _
        · exact List.rel_of_pairwise_cons hok.1 hh
      have : s + 1 ≤ h.2.1.val := this
      show 2 + s < 2 + h.2.1.val
      omega
    have hlt' : ∀ h ∈ hops, semLv (.dma (dmaOf (false, d, true, ⟨s, Nat.lt_of_succ_lt hs⟩, r))) < hopLv true h.2.1 := fun h _ => by
      rw [semLv_recv]
      show 2 + s < 10 + h.2.1.val
      omega
    have hX : shapeCast S32x1024 (addVal (shapeCast S1x32x1024 (val P false d ⟨s, Nat.lt_of_succ_lt hs⟩ c r) shapeCasts_S32x1024_S1x32x1024) (partAt P c d ⟨s + 1, hs⟩ r))
        shapeCasts_S1x32x1024_S32x1024 = val P false d ⟨s + 1, hs⟩ (dirDev d c) r := by
      rw [val_next]; unfold addVal; rw [shapeCast_shapeCast, shapeCast_shapeCast]
    iintro ⟨#Hctx, ⟨Hp, %W, HO⟩, Hkit, Hw⟩ Hk
    rw [show ∀ (e : TpuEff nD τ sig (Elt F) Λ₀ .tc PUnit) (k : PUnit → Prog (TpuEff nD τ sig (Elt F) Λ₀ .tc) PUnit),
      Prog.op e k = Prog.lift e >>= k from fun _ _ => rfl, wp_bind]
    iapply (wp_wait_recv (B := rsM d) P κ c false d ⟨s, Nat.lt_of_succ_lt hs⟩ r (live_pred hlive) rfl (amount_slot false d _ _ (dmaOf (false, d, true, ⟨s, Nat.lt_of_succ_lt hs⟩, r))) rfl _
      (mayWait c _ ((d, ⟨s + 1, hs⟩, r) :: l) hops hlt hlt') W) $$ [Hw HO]
    · isplitr; · iexact Hctx
      isplitl [Hw] <;> iassumption
    iintro ⟨Hat, Hpay, %W', HO⟩
    iapply (wp_load_slot (rsM d) (rect8 ⟨s, Nat.lt_of_succ_lt hs⟩ r) (fun _ => rfl) S32x1024 squeezes_S1x32x1024_S32x1024 shapeCasts_S1x32x1024_S32x1024 shapeCasts_S32x1024_S1x32x1024 c) $$ Hpay
    iintro Hpay
    iapply (wp_load_part P c) $$ Hp
    iintro Hp
    iapply (wp_load_slot (rsM d) (rect8 ⟨s, Nat.lt_of_succ_lt hs⟩ r) (fun _ => rfl) S32x1024 squeezes_S1x32x1024_S32x1024 shapeCasts_S1x32x1024_S32x1024 shapeCasts_S32x1024_S1x32x1024 c) $$ Hpay
    iintro Hpay
    iapply (wp_store_slot (rsM d) (rect8 ⟨s, Nat.lt_of_succ_lt hs⟩ r) (fun _ => rfl) S32x1024 squeezes_S1x32x1024_S32x1024 shapeCasts_S1x32x1024_S32x1024 c) $$ [Hpay]
    · iapply (owns_any (F := F) c) $$ Hpay
    iintro Hpay
    iapply (wp_sendTo P κ c false d ⟨s + 1, hs⟩ r hlive rfl rfl rfl rfl rfl
      hX _ (owed_cons_rs c (d, ⟨s + 1, hs⟩, r) l hops) W') $$ [Hpay Hkit HO]
    · isplitr; · iexact Hctx
      isplitl [Hpay]; · iexact Hpay
      isplitl [Hkit] <;> iassumption
    iintro ⟨Hc, HO⟩
    iapply Hk
    isplitr [Hc Hat]
    · isplitl [Hp]; · iexact Hp
      iexists W'; iexact HO
    isplitl [Hc] <;> iassumption

/-- The landings the reduce-scatter ends in, waited for. -/
theorem wp_lastStep (a : Hop) (l : List Hop) (hok : ∀ h ∈ a :: l, live h.1 h.2.1 = true) (Q : PUnit → sProp 𝕄) :
    iprop(ctx P κ c ∗ owing c [] hops ∗ waitKit c (false, a.1, true, a.2.1, a.2.2))
      ⊢ iprop((owing c [] hops ∗ (atPos ER (recvCell c false a.1 a.2.1 a.2.2) 1 ∅ 0 ∗ owns (c : Thread nD τ) (slot8 (rsM a.1) a.2.1 a.2.2) fullShare (val P false a.1 a.2.1 c a.2.2)) -∗ Q ⟨⟩)
        -∗ wp frame (wpE (defs₀ (F := F)) 𝒱₀ (c : Thread nD τ) none) Set.univ (lastStep a) Q) := by
  obtain ⟨d, s, r⟩ := a
  unfold lastStep owing waitSlot
  iintro ⟨#Hctx, ⟨%W, HO⟩, Hw⟩ Hk
  iapply (wp_wait_recv (B := rsM d) P κ c false d s r (hok _ List.mem_cons_self) rfl (amount_slot false d _ _ (dmaOf (false, d, true, s, r))) rfl _
    (mayWait c _ [] hops (fun _ h => absurd h List.not_mem_nil) (fun h _ => by
      rw [semLv_recv]
      show 2 + s.val < 10 + h.2.1.val
      have := s.isLt
      omega)) W) $$ [Hw HO]
  · isplitr; · iexact Hctx
    isplitl [Hw] <;> iassumption
  iintro ⟨Hat, Hpay, HO⟩
  iapply Hk
  isplitl [HO]; · iexact HO
  isplitl [Hat]; · iexact Hat
  iexact Hpay

end Steps

end Cert.KernelIdeal.Ring

end
-- ==== Proof.KernelIdealGather.lean ====
/-
  The all-gather: what the result holds, the reduced chunk stored and sent both ways, the gathered chunks stored and sent on, and the
  waits that take back what was lent to the transfers.
-/
module

public import proofs.«01_k».proof.Proof.KernelIdealScatter
public import Idealize.ShloMosaic.Lib.ValueIdxCore

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Steps

variable (P : Dev nD → (cc0_scratch0 : Ref sig .tc).ty.Contents (Elt F)) (κ : GSem nD τ sig → ℕ) (c : Dev nD)

/-! ## What the result holds -/

/-- A half chunk of the result on device `c`: its own as it reduced it, the others' as they were sent. -/
def chunkAt (k : Dev nD) (r : Fin 2) : FVec F S32x1024 .f32 :=
  if k = c then redAt P c r else extf .f32 (myAt P k r) bitsLt_bf16_f32

/-- The result on device `c`: rows `64 k + 32 r ..` of the two batches put one after the other are chunk `k`'s half `r`. -/
def outAt : S2x512x1024.Idx → F .f32 := fun i =>
  have h0 : (i 0).val < 2 := (i 0).isLt
  have h1 : (i 1).val < 512 := (i 1).isLt
  chunkAt P c ⟨((i 0).val * 512 + (i 1).val) / 64, by show _ < 16; omega⟩ ⟨((i 0).val * 512 + (i 1).val) % 64 / 32, by omega⟩
    (ValueIdx.ix2 ⟨((i 0).val * 512 + (i 1).val) % 32, Nat.mod_lt _ (by decide)⟩ ⟨(i 2).val, (i 2).isLt⟩)

theorem off_gather : ∀ (c : Dev nD) (d : Bool) (u : Fin 8) (r : Fin 2),
    k0_off2 c (agWord d u) (halfWord r) = ![(agFrom d u.val c).val / 8, (agFrom d u.val c).val % 8 * 64 + r.val * 32, 0] := by
  decide +kernel
theorem off_own : ∀ (c : Dev nD) (r : Fin 2), k0_off2 c 0#32 (halfWord r) = ![c.val / 8, c.val % 8 * 64 + r.val * 32, 0] := by
  decide +kernel
theorem agFrom_ne : ∀ (c : Dev nD), ∀ h ∈ gathers, agFrom h.1 h.2.1.val c ≠ c := by
  decide +kernel
theorem agFrom_onto : ∀ (c k : Dev nD) (r : Fin 2), k ≠ c → ∃ h ∈ gathers, agFrom h.1 h.2.1.val c = k ∧ h.2.2 = r := by
  decide +kernel

/-- The result at an index of a known row. -/
theorem outAt_of (i : S2x512x1024.Idx) (k : Dev nD) (r : Fin 2) (x : Fin 32) (y : Fin 1024)
    (h : (i 0).val * 512 + (i 1).val = k.val * 64 + r.val * 32 + x.val) (hy : (i 2).val = y.val) :
    outAt P c i = chunkAt P c k r (ValueIdx.ix2 x y) := by
  have hx : x.val < 32 := x.isLt
  have hr : r.val < 2 := r.isLt
  have same : ∀ (k' : Dev nD) (r' : Fin 2) (x' : Fin 32) (y' : Fin 1024), k' = k → r' = r → x' = x → y' = y →
      chunkAt P c k' r' (ValueIdx.ix2 x' y') = chunkAt P c k r (ValueIdx.ix2 x y) := by
    rintro k' r' x' y' rfl rfl rfl rfl; rfl
  exact same _ _ _ _ (Fin.ext (by show ((i 0).val * 512 + (i 1).val) / 64 = _; rw [h]; omega))
    (Fin.ext (by show ((i 0).val * 512 + (i 1).val) % 64 / 32 = _; rw [h]; omega))
    (Fin.ext (by show ((i 0).val * 512 + (i 1).val) % 32 = _; rw [h]; omega)) (Fin.ext hy)

/-- A half chunk stored at its rows is the result there. -/
theorem outAt_emb (off : Fin 3 → ℕ) (inb : ∀ a, off a + S1x32x1024.size a ≤ S2x512x1024.size a) (k : Dev nD) (r : Fin 2)
    (hoff : off = ![k.val / 8, k.val % 8 * 64 + r.val * 32, 0]) (j : S1x32x1024.Idx) :
    shapeCast S1x32x1024 (chunkAt P c k r) shapeCasts_S32x1024_S1x32x1024 j
      = outAt P c ((Rect.unit (s := S2x512x1024) off S1x32x1024.size inb).emb j) := by
  have e := shapeCast_addUnit_apply ![32, 1024] (chunkAt P c k r) shapeCasts_S32x1024_S1x32x1024 j
  refine e.trans ?_
  have hk : k.val < 16 := k.isLt
  have hr : r.val < 2 := r.isLt
  have j0 : (j 0).val < 1 := (j 0).isLt
  have j1 : (j 1).val < 32 := (j 1).isLt
  have c0 : ((Rect.unit (s := S2x512x1024) off S1x32x1024.size inb).emb j 0).val = k.val / 8 := by
    rw [Rect.emb_apply]; show off 0 + 1 * (j 0).val = _; rw [hoff]; show k.val / 8 + 1 * (j 0).val = _; omega
  have c1 : ((Rect.unit (s := S2x512x1024) off S1x32x1024.size inb).emb j 1).val = k.val % 8 * 64 + r.val * 32 + (j 1).val := by
    rw [Rect.emb_apply]; show off 1 + 1 * (j 1).val = _; rw [hoff]; show k.val % 8 * 64 + r.val * 32 + 1 * (j 1).val = _; omega
  have c2 : ((Rect.unit (s := S2x512x1024) off S1x32x1024.size inb).emb j 2).val = (j 2).val := by
    rw [Rect.emb_apply]; show off 2 + 1 * (j 2).val = _; rw [hoff]; show 0 + 1 * (j 2).val = _; omega
  refine Eq.trans (congrArg (chunkAt P c k r) ?_)
    (outAt_of P c _ k r ⟨(j 1).val, j1⟩ (j 2) (by rw [c0, c1]; show k.val / 8 * 512 + _ = k.val * 64 + r.val * 32 + (j 1).val; omega) c2).symm
  funext a
  match a with
  | ⟨0, _⟩ => rfl
  | ⟨1, _⟩ => rfl

/-- The result's buffer, at its values on a set of indices. -/
def outHas (A : Set S2x512x1024.Idx) : sProp 𝕄 :=
  iprop(∃ f : (cc0_stg9_0 : Ref sig .tc).ty.Contents (Elt F), ⌜∀ i ∈ A, f i = outAt P c i⌝ ∗ outM.view.loc (c : Thread nD τ) ↦{fullShare} f)

/-- A load of the result whose value is not read. -/
theorem wp_load_out (A : Set S2x512x1024.Idx) {r : LoadRect S2x512x1024} {hl : outM.view.LoadsAt r}
    {α : Type} {p : Prog (TpuEff nD τ sig (Elt F) Λ₀ .tc) α} {Q : α → sProp 𝕄} :
    outHas P c A ⊢ iprop((outHas P c A -∗ wp frame (wpE (defs₀ (F := F)) 𝒱₀ (c : Thread nD τ) none) Set.univ p Q)
      -∗ wp frame (wpE (defs₀ (F := F)) 𝒱₀ (c : Thread nD τ) none) Set.univ (.op (.load outM r hl) (fun _ => p)) Q) := by
  unfold outHas
  iintro ⟨%f, %hf, H⟩ Hk
  iapply (wp_load 𝒱₀ (c : Thread nD τ) none Set.univ (m := outM) (Finset.subset_univ _)) $$ H
  iintro H
  iapply Hk
  iexists f
  isplitr; · ipureintro; exact hf
  iexact H

/-- After a store of the result's own values at a rectangle, the buffer agrees with the result there too. -/
theorem write_agrees (A B : Set S2x512x1024.Idx) {R : Rect S2x512x1024} {w : R.shape.Idx → F .f32}
    (f : (cc0_stg9_0 : Ref sig .tc).ty.Contents (Elt F)) (hf : ∀ i ∈ A, f i = outAt P c i) (hw : ∀ j, w j = outAt P c (R.emb j))
    (hB : ∀ i ∈ B, i ∈ A ∨ i ∈ R.set) : ∀ i ∈ B, (outM.access R).write (Elt F) f w Finset.univ i = outAt P c i := by
  intro i hi
  have hs : (outM.access R).setOn Finset.univ = R.set := View.set_slice_whole (cc0_stg9_0 : Ref sig .tc) R
  by_cases hR : i ∈ R.set
  · rw [← Rect.map_emb_univ] at hR
    obtain ⟨j, -, rfl⟩ := Finset.mem_map.mp hR
    rw [← hw j]
    exact View.write_emb_of_mem (v := outM.access R) f w (Finset.mem_univ j)
  · rw [← hf i ((hB i hi).resolve_right hR)]
    exact View.write_of_not_mem (v := outM.access R) f w Finset.univ (fun h => hR (hs ▸ h))

/-- A store of the result's own values at a rectangle. -/
theorem wp_store_out (A B : Set S2x512x1024.Idx) {R : Rect S2x512x1024} {w : R.shape.Idx → F .f32} (hw : ∀ j, w j = outAt P c (R.emb j))
    (hB : ∀ i ∈ B, i ∈ A ∨ i ∈ R.set) {hx : (outM.access R).Stores Finset.univ} {hm : (Finset.univ : Finset R.shape.Idx) = Finset.univ ∨ ∀ a, R.stride a = 1}
    {α : Type} {k : PUnit → Prog (TpuEff nD τ sig (Elt F) Λ₀ .tc) α} {Q : α → sProp 𝕄} :
    outHas P c A ⊢ iprop((outHas P c B -∗ wp frame (wpE (defs₀ (F := F)) 𝒱₀ (c : Thread nD τ) none) Set.univ (k ⟨⟩) Q)
      -∗ (wp frame (wpE (defs₀ (F := F)) 𝒱₀ (c : Thread nD τ) none) Set.univ (.op (.store outM R w Finset.univ hx hm) k) Q : sProp 𝕄)) := by
  unfold outHas
  iintro ⟨%f, %hf, H⟩ Hk
  iapply (wp_store 𝒱₀ (c : Thread nD τ) none Set.univ (m := outM) (r := R) (w := w) (Finset.subset_univ _)) $$ H
  iintro H
  iapply Hk
  iexists _
  isplitr [H]
  · ipureintro
    intro i hi
    exact write_agrees P c A B f hf hw hB i hi
  iexact H

/-- The indices the result holds its values at, by the gathered half chunks still to come. -/
def stored (l : List Hop) : Set S2x512x1024.Idx :=
  {i | (∃ r, i ∈ (outRect0 c r).set) ∨ ∃ h ∈ gathers, h ∉ l ∧ i ∈ (outRect c h.1 h.2.1 h.2.2).set}

theorem stored_step (a : Hop) (l : List Hop) : ∀ i ∈ stored c l, i ∈ stored c (a :: l) ∨ i ∈ (outRect c a.1 a.2.1 a.2.2).set := by
  rintro i (h | ⟨h, hg, hl, hi⟩)
  · exact .inl (.inl h)
  · by_cases e : h = a
    · subst e; exact .inr hi
    · exact .inl (.inr ⟨h, hg, fun hm => (List.mem_cons.mp hm).elim e hl, hi⟩)

theorem mem_chunk (off : Fin 3 → ℕ) (inb : ∀ a, off a + S1x32x1024.size a ≤ S2x512x1024.size a) (i : S2x512x1024.Idx)
    (hoff : off = ![((i 0).val * 512 + (i 1).val) / 64 / 8, ((i 0).val * 512 + (i 1).val) / 64 % 8 * 64 + ((i 0).val * 512 + (i 1).val) % 64 / 32 * 32, 0]) :
    i ∈ (Rect.unit (s := S2x512x1024) off S1x32x1024.size inb).set := by
  have h0 : (i 0).val < 2 := (i 0).isLt
  have h1 : (i 1).val < 512 := (i 1).isLt
  have h2 : (i 2).val < 1024 := (i 2).isLt
  rw [Rect.mem_set_unit, hoff]
  intro a
  match a with
  | ⟨0, _⟩ =>
    show ((i 0).val * 512 + (i 1).val) / 64 / 8 ≤ (i 0).val ∧ (i 0).val < ((i 0).val * 512 + (i 1).val) / 64 / 8 + 1
    omega
  | ⟨1, _⟩ =>
    show ((i 0).val * 512 + (i 1).val) / 64 % 8 * 64 + ((i 0).val * 512 + (i 1).val) % 64 / 32 * 32 ≤ (i 1).val
      ∧ (i 1).val < ((i 0).val * 512 + (i 1).val) / 64 % 8 * 64 + ((i 0).val * 512 + (i 1).val) % 64 / 32 * 32 + 32
    omega
  | ⟨2, _⟩ => exact ⟨Nat.zero_le _, by show (i 2).val < 0 + 1024; omega⟩

theorem stored_all (i : S2x512x1024.Idx) : i ∈ stored c [] := by
  have h0 : (i 0).val < 2 := (i 0).isLt
  have h1 : (i 1).val < 512 := (i 1).isLt
  by_cases e : (⟨((i 0).val * 512 + (i 1).val) / 64, by show _ < 16; omega⟩ : Dev nD) = c
  · refine .inl ⟨⟨((i 0).val * 512 + (i 1).val) % 64 / 32, by omega⟩, mem_chunk _ _ i ?_⟩
    rw [off_own, ← e]
  · obtain ⟨h, hg, hk, hr⟩ := agFrom_onto c _ ⟨((i 0).val * 512 + (i 1).val) % 64 / 32, by omega⟩ e
    refine .inr ⟨h, hg, List.not_mem_nil, mem_chunk _ _ i ?_⟩
    rw [off_gather, hk, hr]

/-! ## The reduced chunk -/

/-- A store of a half of the reduced chunk. -/
theorem wp_store_my (r : Fin 2) {w : (rect64 r).shape.Idx → F .bf16} {hx : (myM.access (rect64 r)).Stores Finset.univ}
    {hm : (Finset.univ : Finset (rect64 r).shape.Idx) = Finset.univ ∨ ∀ a, (rect64 r).stride a = 1}
    {α : Type} {k : PUnit → Prog (TpuEff nD τ sig (Elt F) Λ₀ .tc) α} {Q : α → sProp 𝕄} :
    iprop(∃ f, (slot64 r).view.loc (c : Thread nD τ) ↦[(slot64 r).view.set]{fullShare} f)
      ⊢ iprop((owns (c : Thread nD τ) (slot64 r) fullShare w
          -∗ wp frame (wpE (defs₀ (F := F)) 𝒱₀ (c : Thread nD τ) none) Set.univ (k ⟨⟩) Q)
        -∗ (wp frame (wpE (defs₀ (F := F)) 𝒱₀ (c : Thread nD τ) none) Set.univ (.op (.store myM (rect64 r) w Finset.univ hx hm) k) Q : sProp 𝕄)) := by
  iintro ⟨%f, H⟩ Hk
  iapply (wp_store 𝒱₀ (c : Thread nD τ) none Set.univ (m := myM) (r := rect64 r) (w := w) (f := f) (S := (slot64 r).view.set) (le_refl _)) $$ H
  iintro H
  iapply Hk
  unfold owns
  iexists _
  isplitr [H]
  · ipureintro
    exact View.read_write_univ (v := myM.access (rect64 r)) f w
  iexact H

theorem val_first (d : Bool) (r : Fin 2) : val P true d 0 (dirDev d c) r = myAt P c r := by
  show myAt P (dirDev (!d) (dirDev d c)) r = _
  rw [dirDev_dirDev']

/-- The last landings of the reduce-scatter, a half's. -/
def landed (r : Fin 2) : sProp 𝕄 :=
  iprop(owns (c : Thread nD τ) (slot8 (rsM true) 7 r) fullShare (val P false true 7 c r)
    ∗ owns (c : Thread nD τ) (slot8 (rsM false) 6 r) fullShare (val P false false 6 c r))

set_option maxHeartbeats 800000 in
/-- Reduce a half of the device's own chunk, store it, send it both ways. -/
theorem wp_finStep (r : Fin 2) (A B : Set S2x512x1024.Idx) (hB : ∀ i ∈ B, i ∈ A ∨ i ∈ (outRect0 c r).set) (l : List Hop) (Q : PUnit → sProp 𝕄) :
    iprop(ctx P κ c ∗ partPts P c ∗ landed P c r ∗ outHas P c A
        ∗ (∃ f, (slot64 r).view.loc (c : Thread nD τ) ↦[(slot64 r).view.set]{fullShare} f)
        ∗ sendKit c true (true, 0, r) ∗ sendKit c true (false, 0, r) ∗ owing (F := F) c [] ((true, 0, r) :: (false, 0, r) :: l))
      ⊢ iprop((partPts P c ∗ landed P c r ∗ outHas P c B ∗ sentCred c true (true, 0, r) ∗ sentCred c true (false, 0, r) ∗ owing c [] l -∗ Q ⟨⟩)
        -∗ wp frame (wpE (defs₀ (F := F)) 𝒱₀ (c : Thread nD τ) none) Set.univ (finStep c r) Q) := by
  unfold finStep owing landed loadSlot
  simp only [Prog.lift, Prog.bind_op, Prog.bind_ret]
  have hX : ∀ v : FVec F S32x1024 .bf16, ∀ w : FVec F S32x1024 .bf16, ∀ p : FVec F S32x1024 .f32,
      redVal (shapeCast S1x32x1024 v shapeCasts_S32x1024_S1x32x1024) p (shapeCast S1x32x1024 w shapeCasts_S32x1024_S1x32x1024)
        = addf (addf (extf .f32 v bitsLt_bf16_f32) p) (extf .f32 w bitsLt_bf16_f32) := fun v w p => by
    unfold redVal; rw [shapeCast_shapeCast, shapeCast_shapeCast]
  have hred : redVal (shapeCast S1x32x1024 (val P false true 7 c r) shapeCasts_S32x1024_S1x32x1024) (part0At P c r)
      (shapeCast S1x32x1024 (val P false false 6 c r) shapeCasts_S32x1024_S1x32x1024) = redAt P c r := hX _ _ _
  iintro ⟨#Hctx, Hp, ⟨Hv, Hw⟩, Hout, Hmy, Hk1, Hk2, %W, HO⟩ Hk
  iapply (wp_load_slot (rsM true) (rect8 7 r) (fun _ => rfl) S32x1024 squeezes_S1x32x1024_S32x1024 shapeCasts_S1x32x1024_S32x1024 shapeCasts_S32x1024_S1x32x1024 c) $$ Hv
  iintro Hv
  iapply (wp_load_part P c) $$ Hp
  iintro Hp
  iapply (wp_load_slot (rsM false) (rect8 6 r) (fun _ => rfl) S32x1024 squeezes_S1x32x1024_S32x1024 shapeCasts_S1x32x1024_S32x1024 shapeCasts_S32x1024_S1x32x1024 c) $$ Hw
  iintro Hw
  iapply (wp_load_out P c A) $$ Hout
  iintro Hout
  iapply (wp_store_out P c A B (R := outRect0 c r) (fun j => by
    rw [← outAt_emb P c _ (out0_inb c r) c r (off_own c r) j]
    unfold chunkAt; rw [if_pos rfl, ← hred]; rfl) hB) $$ Hout
  iintro Hout
  icases Hmy with ⟨%f, Hmy⟩
  iapply (wp_load 𝒱₀ (c : Thread nD τ) none Set.univ (m := myM) (S := (slot64 r).view.set) (le_of_eq (View.set_slice (v := myM.view) ..).symm)) $$ Hmy
  iintro Hmy
  iapply (wp_store_my c r) $$ [Hmy]
  · iexists f; iexact Hmy
  iintro Hmy
  ihave Hmy := (owns_halves (c : Thread nD τ) (slot64 r) fullShare _).1 $$ Hmy
  icases Hmy with ⟨Hl, Hr⟩
  rw [wp_bind]
  have hmy : redBf (redVal (shapeCast S1x32x1024 (val P false true 7 c r) shapeCasts_S32x1024_S1x32x1024) (part0At P c r)
      (shapeCast S1x32x1024 (val P false false 6 c r) shapeCasts_S32x1024_S1x32x1024)) = myAt P c r := by
    rw [hred]; unfold redBf; rw [shapeCast_self]; rfl
  iapply (wp_sendTo P κ c true true 0 r rfl rfl rfl rfl rfl rfl (hmy.trans (val_first P c true r).symm) _ (owed_cons_ag c (true, 0, r) [] _) W) $$ [Hl Hk1 HO]
  · isplitr; · iexact Hctx
    isplitl [Hl]; · iexact Hl
    isplitl [Hk1] <;> iassumption
  iintro ⟨Hc1, HO⟩
  iapply (wp_sendTo P κ c true false 0 r rfl rfl rfl rfl rfl rfl (hmy.trans (val_first P c false r).symm) _ (owed_cons_ag c (false, 0, r) [] _) W) $$ [Hr Hk2 HO]
  · isplitr; · iexact Hctx
    isplitl [Hr]; · iexact Hr
    isplitl [Hk2] <;> iassumption
  iintro ⟨Hc2, HO⟩
  iapply Hk
  isplitl [Hp]; · iexact Hp
  isplitl [Hv Hw]; · isplitl [Hv] <;> iassumption
  isplitl [Hout]; · iexact Hout
  isplitl [Hc1]; · iexact Hc1
  isplitl [Hc2]; · iexact Hc2
  iexists W; iexact HO

end Steps

end Cert.KernelIdeal.Ring

end
-- ==== Proof.KernelIdealRings.lean ====
/-
  The rings: the gathered chunks received, sent on and stored, the waits for the transfers' read-outs, and the whole of what follows the
  partial product.
-/
module

public import proofs.«01_k».proof.Proof.KernelIdealGather
public import Idealize.ShloMosaic.Lib.Pipeline.TalkSched

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists of resources -/

theorem bigSepL_flatMap {M : Type} [URA M] {I J : Type} (f : I → List J) (Φ : J → sProp M) :
    ∀ l : List I, bigSepL (l.flatMap f) Φ = bigSepL l fun i => bigSepL (f i) Φ
  | [] => rfl
  | a :: l => by rw [List.flatMap_cons, bigSepL_append, bigSepL_flatMap f Φ l, bigSepL_cons']

theorem bigSepL_pair {M : Type} [URA M] {I : Type} (Φ Ψ : I → sProp M) :
    ∀ l : List I, iprop(bigSepL l Φ ∗ bigSepL l Ψ) ⊢ bigSepL l fun i => iprop(Φ i ∗ Ψ i)
  | [] => by rw [bigSepL_nil, bigSepL_nil, bigSepL_nil]; iintro -; iempintro
  | a :: l => by
    rw [bigSepL_cons', bigSepL_cons', bigSepL_cons']
    iintro ⟨⟨H1, H2⟩, H3, H4⟩
    isplitl [H1 H3]
    · isplitl [H1] <;> iassumption
    iapply (bigSepL_pair Φ Ψ l)
    isplitl [H2] <;> iassumption

theorem bigSepL_unpair {M : Type} [URA M] {I : Type} (Φ Ψ : I → sProp M) :
    ∀ l : List I, (bigSepL l fun i => iprop(Φ i ∗ Ψ i)) ⊢ iprop(bigSepL l Φ ∗ bigSepL l Ψ)
  | [] => by rw [bigSepL_nil, bigSepL_nil, bigSepL_nil]; iintro -; isplitl [] <;> iempintro
  | a :: l => by
    rw [bigSepL_cons', bigSepL_cons', bigSepL_cons']
    iintro ⟨⟨H1, H2⟩, H⟩
    ihave H := (bigSepL_unpair Φ Ψ l) $$ H
    icases H with ⟨H3, H4⟩
    isplitl [H1 H3]
    · isplitl [H1] <;> iassumption
    isplitl [H2] <;> iassumption

theorem bigSepL_four {M : Type} [URA M] {I : Type} (a b c d : I) (Φ : I → sProp M) :
    bigSepL [a, b, c, d] Φ = iprop(Φ a ∗ Φ b ∗ Φ c ∗ Φ d) := rfl

/-- What a hop forwards in its own phase: the hop before it in its direction, if there is one, -/
def prevOf : Hop → List Hop
  | (_, ⟨0, _⟩, _) => []
  | (d, ⟨s + 1, h⟩, r) => [(d, ⟨s, Nat.lt_of_succ_lt h⟩, r)]
/-- and else a seed. -/
def seedOf : Hop → List (Bool × Fin 2)
  | (d, ⟨0, _⟩, r) => [(d, r)]
  | (_, ⟨_ + 1, _⟩, _) => []
/-- A gathered half chunk is sent on unless it is its ring's last. -/
def nextOf : Hop → List Hop
  | (d, u, r) => match Nat.ble (lastIx d) u.val with | true => [] | false => [(d, u + 1, r)]
/-- The four seeds. -/
def seeds : List (Bool × Fin 2) := [(true, 0), (false, 0), (true, 1), (false, 1)]

theorem hops_nodup : hops.Nodup := by decide
theorem prev_perm : hops.Perm (hops.flatMap prevOf ++ lasts) := by decide +kernel
theorem prev_perm' : gathers.Perm (hops.flatMap prevOf ++ lasts) := by decide +kernel
theorem gathers_perm : gathers.Perm hops := by decide +kernel
theorem gathers_nodup : gathers.Nodup := by decide
theorem next_eq : gathers.flatMap nextOf = hops.drop 4 := by decide
theorem seed_eq : hops.flatMap seedOf = seeds := by decide
theorem hops_ok : inOrder hops := by decide +kernel
theorem gathers_ok : inOrder gathers := by decide +kernel
theorem lasts_ok : ∀ h ∈ lasts, live h.1 h.2.1 = true := by decide
theorem prev_not_last : ∀ h ∈ hops.flatMap prevOf, Nat.ble (lastIx h.1) h.2.1.val = false := by decide +kernel
theorem lasts_last : ∀ h ∈ lasts, Nat.ble (lastIx h.1) h.2.1.val = true := by decide +kernel
theorem next_live : ∀ (d : Bool) (u : Fin 8), Nat.ble (lastIx d) u.val = false → live d (u + 1) = true ∧ (u + 1).val = u.val + 1 := by decide +kernel
theorem next_slot (h : Hop) : ∀ g ∈ nextOf h, h.2.1.val < g.2.1.val := by
  revert h; decide +kernel

section Steps

variable (P : Dev nD → (cc0_scratch0 : Ref sig .tc).ty.Contents (Elt F)) (κ : GSem nD τ sig → ℕ) (c : Dev nD)

/-! ## The all-gather -/

/-- The share of a gathered half chunk that stays with the device while it is sent on. -/
def keepShare (d : Bool) (u : Fin 8) : PosShare TreeShare :=
  match Nat.ble (lastIx d) u.val with
  | true => fullShare
  | false => match d with | true => fullShare.right | false => fullShare.left

/-- What the device keeps of a gathered half chunk. -/
def kept (h : Hop) : sProp 𝕄 := owns (c : Thread nD τ) (slot8 (agM h.1) h.2.1 h.2.2) (keepShare h.1 h.2.1) (val P true h.1 h.2.1 c h.2.2)

/-- A position in a cell of a phase. -/
def posAt (n : ℕ) (ag v : Bool) (h : Hop) : sProp 𝕄 := atPos ER (dmaCell c (ag, h.1, v, h.2.1, h.2.2)) n ∅ 0

def recvKit (ag : Bool) (h : Hop) : sProp 𝕄 := waitKit c (ag, h.1, true, h.2.1, h.2.2)

omit c in
theorem agOut_cast (v : FVec F S32x1024 .bf16) : agOut (shapeCast S1x32x1024 v shapeCasts_S32x1024_S1x32x1024)
    = shapeCast S1x32x1024 (extf .f32 v bitsLt_bf16_f32 : FVec F S32x1024 .f32) shapeCasts_S32x1024_S1x32x1024 := by
  unfold agOut; rw [shapeCast_shapeCast]

set_option maxHeartbeats 800000 in
/-- Store a gathered half chunk. -/
theorem wp_agStore (d : Bool) (u : Fin 8) (r : Fin 2) (hg : (d, u, r) ∈ gathers) (l : List Hop) (q : PosShare TreeShare) (Q : PUnit → sProp 𝕄) :
    iprop(owns (c : Thread nD τ) (slot8 (agM d) u r) q (val P true d u c r) ∗ outHas P c (stored c ((d, u, r) :: l)))
      ⊢ iprop((owns (c : Thread nD τ) (slot8 (agM d) u r) q (val P true d u c r) ∗ outHas P c (stored c l) -∗ Q ⟨⟩)
        -∗ wp frame (wpE (defs₀ (F := F)) 𝒱₀ (c : Thread nD τ) none) Set.univ (agStore c d u r) Q) := by
  unfold agStore loadSlot
  simp only [Prog.lift, Prog.bind_op, Prog.bind_ret]
  iintro ⟨Hv, Hout⟩ Hk
  iapply (wp_load_slot (agM d) (rect8 u r) (fun _ => rfl) S32x1024 squeezes_S1x32x1024_S32x1024 shapeCasts_S1x32x1024_S32x1024 shapeCasts_S32x1024_S1x32x1024 c) $$ Hv
  iintro Hv
  iapply (wp_load_out P c (stored c ((d, u, r) :: l))) $$ Hout
  iintro Hout
  iapply (wp_store_out P c (stored c ((d, u, r) :: l)) (stored c l) (R := outRect c d u r) (fun j => by
    rw [← outAt_emb P c _ (out_inb c d u r) (agFrom d u.val c) r (off_gather c d u r) j]
    unfold chunkAt; rw [if_neg (agFrom_ne c _ hg)]
    exact congrFun (agOut_cast (val P true d u c r)) j) (stored_step c (d, u, r) l)) $$ Hout
  iintro Hout
  rw [wp_ret]
  imodintro
  iapply Hk
  isplitl [Hv] <;> iassumption

set_option maxHeartbeats 800000 in
/-- One hop of the all-gather. -/
theorem wp_agStep (a : Hop) (l : List Hop) (hok : inOrder (a :: l) ∧ ∀ h ∈ a :: l, h ∈ gathers) (Q : PUnit → sProp 𝕄) :
    iprop(ctx P κ c ∗ (outHas P c (stored c (a :: l)) ∗ owing (F := F) c [] ((a :: l).flatMap nextOf)) ∗ (recvKit c true a ∗ bigSepL (nextOf a) (sendKit c true)))
      ⊢ iprop(((outHas P c (stored c l) ∗ owing c [] (l.flatMap nextOf)) ∗ (posAt c 1 true true a ∗ kept P c a ∗ bigSepL (nextOf a) (sentCred c true)) -∗ Q ⟨⟩)
        -∗ wp frame (wpE (defs₀ (F := F)) 𝒱₀ (c : Thread nD τ) none) Set.univ (agStep c a) Q) := by
  obtain ⟨d, u, r⟩ := a
  have hlt : ∀ h ∈ (((d, u, r) : Hop) :: l).flatMap nextOf, semLv (.dma (dmaOf (true, d, true, u, r))) < hopLv true h.2.1 := fun h hh => by
    obtain ⟨b, hb, hn⟩ := List.mem_flatMap.mp hh
    have h1 : u ≤ b.2.1 := by
      rcases List.mem_cons.mp hb with rfl | hb
      · exact le_refl _
      · exact List.rel_of_pairwise_cons hok.1.1 hb
    have h2 := next_slot b h hn
    have h1 : u.val ≤ b.2.1.val := h1
    rw [semLv_recv]
    show 10 + u.val < 10 + h.2.1.val
    omega
  unfold agStep owing recvKit kept posAt waitSlot
  rw [wp_bind]
  iintro ⟨#Hctx, ⟨Hout, %W, HO⟩, Hw, Hs⟩ Hk
  iapply (wp_wait_recv (B := agM d) P κ c true d u r (hok.1.2 _ List.mem_cons_self) rfl (amount_slot true d _ _ (dmaOf (true, d, true, u, r))) rfl _
    (mayWait c _ [] ((((d, u, r) : Hop) :: l).flatMap nextOf) (fun _ h => absurd h List.not_mem_nil) hlt) W) $$ [Hw HO]
  · isplitr; · iexact Hctx
    isplitl [Hw] <;> iassumption
  iintro ⟨Hat, Hv, %W', HO⟩
  cases hb : Nat.ble (lastIx d) u.val with
  | true =>
    have hn : nextOf (d, u, r) = [] := by unfold nextOf; dsimp only; rw [hb]
    have hks : keepShare d u = fullShare := by unfold keepShare; rw [hb]
    dsimp only
    iapply (wp_agStore P c d u r (hok.2 _ List.mem_cons_self) l fullShare Q) $$ [Hv Hout]
    · isplitl [Hv] <;> iassumption
    iintro ⟨Hv, Hout⟩
    iapply Hk
    rw [List.flatMap_cons, hn, hks]
    isplitl [Hout HO]
    · isplitl [Hout]; · iexact Hout
      iexists W'; iexact HO
    isplitl [Hat]; · iexact Hat
    isplitl [Hv]; · iexact Hv
    iempintro
  | false =>
    have hn : nextOf (d, u, r) = [(d, u + 1, r)] := by unfold nextOf; dsimp only; rw [hb]
    obtain ⟨hlive, hu⟩ := next_live d u hb
    have hu' : u + 1 = ⟨u.val + 1, hu ▸ (u + 1).isLt⟩ := Fin.ext hu
    have hX : val P true d u c r = val P true d (u + 1) (dirDev d c) r := by
      show myAt P (agFrom d u.val c) r = myAt P (agFrom d (u + 1).val (dirDev d c)) r
      rw [hu, agFrom, dirDev_dirDev']
    have hsrc : slot8 (agM d) u r = srcM true (d, u + 1, r) := by rw [hu']; rfl
    have hO : owed c false [] + owed c true ((((d, u, r) : Hop) :: l).flatMap nextOf)
        = (owed c false [] + owed c true (l.flatMap nextOf)) + tallyAt (recvCell (dirDev d c) true d (u + 1) r) () N := by
      rw [List.flatMap_cons, hn]; exact owed_cons_ag c (d, u + 1, r) [] _
    have hks : ∃ q q' : PosShare TreeShare, (∀ X, (owns (c : Thread nD τ) (slot8 (agM d) u r) fullShare X : sProp 𝕄)
        ⊢ iprop(owns (c : Thread nD τ) (slot8 (agM d) u r) q X ∗ owns (c : Thread nD τ) (slot8 (agM d) u r) q' X)) ∧ q = keepShare d u ∧ q' = shareOf true d := by
      unfold keepShare; rw [hb]
      cases d with
      | true => exact ⟨fullShare.right, fullShare.left, fun X => ((owns_halves (c : Thread nD τ) _ fullShare X).1).trans sep_comm.1, rfl, rfl⟩
      | false => exact ⟨fullShare.left, fullShare.right, fun X => (owns_halves (c : Thread nD τ) _ fullShare X).1, rfl, rfl⟩
    obtain ⟨q, q', hsplit, rfl, rfl⟩ := hks
    dsimp only
    rw [wp_bind]
    ihave Hs := (show bigSepL (nextOf (d, u, r)) (sendKit (F := F) c true) ⊢ sendKit c true (d, u + 1, r) from by
      rw [hn, bigSepL_singleton]) $$ Hs
    ihave Hv := (hsplit _) $$ Hv
    icases Hv with ⟨Hv, Hx⟩
    iapply (wp_sendTo P κ c true d (u + 1) r hlive rfl rfl rfl rfl hsrc hX _ hO W') $$ [Hx Hs HO]
    · isplitr; · iexact Hctx
      isplitl [Hx]; · iexact Hx
      isplitl [Hs] <;> iassumption
    iintro ⟨Hc, HO⟩
    iapply (wp_agStore P c d u r (hok.2 _ List.mem_cons_self) l (keepShare d u) Q) $$ [Hv Hout]
    · isplitl [Hv] <;> iassumption
    iintro ⟨Hv, Hout⟩
    iapply Hk
    isplitl [Hout HO]
    · isplitl [Hout]; · iexact Hout
      iexists W'; iexact HO
    isplitl [Hat]; · iexact Hat
    isplitl [Hv]; · iexact Hv
    iapply (show sentCred (F := F) c true (d, u + 1, r) ⊢ bigSepL (nextOf (d, u, r)) (sentCred (F := F) c true) from by
      rw [hn, bigSepL_singleton])
    iexact Hc

/-! ## The waits for the read-outs -/

/-- What a transfer read, given back. -/
def backOf (ag : Bool) (h : Hop) : sProp 𝕄 := owns (c : Thread nD τ) (srcM ag h) (shareOf ag h.1) (val P ag h.1 h.2.1 (dirDev h.1 c) h.2.2)

def sendWait (ag : Bool) (h : Hop) : sProp 𝕄 := waitKit c (ag, h.1, false, h.2.1, h.2.2)

theorem sendWait_intro (ag : Bool) (h : Hop) : iprop(posAt (F := F) c 0 ag false h ∗ sentCred c ag h) ⊢ sendWait c ag h := by
  unfold sendWait waitKit posAt sentCred
  iintro ⟨H1, H2⟩
  isplitl [H1]; · iexact H1
  iexact H2

theorem src_credit (h : Hop) : (rsSrc h).view.dmaCredit = N := by
  obtain ⟨d, ⟨s, hs⟩, r⟩ := h
  cases s with
  | zero => rfl
  | succ s => cases d <;> rfl
theorem agSrc_credit (h : Hop) : (agSrc h).view.dmaCredit = N := by
  obtain ⟨d, ⟨s, hs⟩, r⟩ := h
  cases s with
  | zero => rfl
  | succ s => cases d <;> rfl

theorem wp_rsDone (a : Hop) (l : List Hop) (hok : ∀ h ∈ a :: l, live h.1 h.2.1 = true) (Q : PUnit → sProp 𝕄) :
    iprop(ctx P κ c ∗ owing (F := F) c [] [] ∗ sendWait c false a)
      ⊢ iprop((owing c [] [] ∗ (posAt c 1 false false a ∗ backOf P c false a) -∗ Q ⟨⟩)
        -∗ wp frame (wpE (defs₀ (F := F)) 𝒱₀ (c : Thread nD τ) none) Set.univ (rsDone a) Q) := by
  obtain ⟨d, s, r⟩ := a
  unfold rsDone owing waitSent sendWait posAt backOf
  iintro ⟨#Hctx, ⟨%W, HO⟩, Hw⟩ Hk
  iapply (wp_wait_send (S := srcM false (d, s, r)) P κ c false d s r (hok _ List.mem_cons_self) rfl (src_credit _) rfl _
    (mayWait c _ [] [] (fun _ h => absurd h List.not_mem_nil) (fun _ h => absurd h List.not_mem_nil)) W) $$ [Hw HO]
  · isplitr; · iexact Hctx
    isplitl [Hw] <;> iassumption
  iintro ⟨Hat, Hpay, HO⟩
  iapply Hk
  isplitl [HO]; · iexact HO
  isplitl [Hat]; · iexact Hat
  iexact Hpay

theorem wp_agDone (a : Hop) (l : List Hop) (hok : ∀ h ∈ a :: l, live h.1 h.2.1 = true) (Q : PUnit → sProp 𝕄) :
    iprop(ctx P κ c ∗ owing (F := F) c [] [] ∗ sendWait c true a)
      ⊢ iprop((owing c [] [] ∗ (posAt c 1 true false a ∗ backOf P c true a) -∗ Q ⟨⟩)
        -∗ wp frame (wpE (defs₀ (F := F)) 𝒱₀ (c : Thread nD τ) none) Set.univ (agDone a) Q) := by
  obtain ⟨d, s, r⟩ := a
  unfold agDone owing waitSent sendWait posAt backOf
  iintro ⟨#Hctx, ⟨%W, HO⟩, Hw⟩ Hk
  iapply (wp_wait_send (S := srcM true (d, s, r)) P κ c true d s r (hok _ List.mem_cons_self) rfl (agSrc_credit _) rfl _
    (mayWait c _ [] [] (fun _ h => absurd h List.not_mem_nil) (fun _ h => absurd h List.not_mem_nil)) W) $$ [Hw HO]
  · isplitr; · iexact Hctx
    isplitl [Hw] <;> iassumption
  iintro ⟨Hat, Hpay, HO⟩
  iapply Hk
  isplitl [HO]; · iexact HO
  isplitl [Hat]; · iexact Hat
  iexact Hpay

/-! ## The whole -/

/-- The rights and buffers the rings start from: each hop's transfer and landing in both phases, the seeds, the reduced chunk's halves. -/
def ringsIn : sProp 𝕄 :=
  iprop(bigSepL hops (sendKit c false) ∗ bigSepL hops (sendKit c true) ∗ bigSepL hops (recvKit c false) ∗ bigSepL hops (recvKit c true)
    ∗ bigSepL hops (posAt c 0 false false) ∗ bigSepL hops (posAt c 0 true false)
    ∗ bigSepL seeds (fun x => seedAny c x.1 x.2)
    ∗ (∃ f, (slot64 0).view.loc (c : Thread nD τ) ↦[(slot64 0).view.set]{fullShare} f)
    ∗ (∃ f, (slot64 1).view.loc (c : Thread nD τ) ↦[(slot64 1).view.set]{fullShare} f))

/-- What they end in. -/
def ringsOut : sProp 𝕄 :=
  iprop((bigSepL hops (posAt c 1 false false) ∗ bigSepL hops (posAt c 1 true false) ∗ bigSepL hops (posAt c 1 false true) ∗ bigSepL hops (posAt c 1 true true))
    ∗ bigSepL hops (fun h => slotAny c false h.1 h.2.1 h.2.2) ∗ bigSepL hops (fun h => slotAny c true h.1 h.2.1 h.2.2)
    ∗ bigSepL seeds (fun x => seedAny c x.1 x.2)
    ∗ (∃ f, (slot64 0).view.loc (c : Thread nD τ) ↦[(slot64 0).view.set]{fullShare} f)
    ∗ (∃ f, (slot64 1).view.loc (c : Thread nD τ) ↦[(slot64 1).view.set]{fullShare} f))

theorem prev_split {M : Type} [URA M] (Φ : Hop → sProp M) (l : List Hop) (hl : l.Perm (hops.flatMap prevOf ++ lasts)) (hn : l.Nodup) :
    bigSepL l Φ = iprop((bigSepL hops fun h => bigSepL (prevOf h) Φ) ∗ bigSepL lasts Φ) := by
  rw [TalkSites.bigSepL_perm hl hn, bigSepL_append, bigSepL_flatMap]

theorem rsKit_intro (h : Hop) :
    iprop(sendKit c false h ∗ bigSepL (prevOf h) (recvKit (F := F) c false) ∗ bigSepL (seedOf h) (fun x => seedAny c x.1 x.2)) ⊢ rsKit c h := by
  obtain ⟨d, ⟨s, hs⟩, r⟩ := h
  cases s with
  | zero =>
    unfold prevOf seedOf rsKit; dsimp only
    rw [bigSepL_singleton]
    iintro ⟨H, -, H'⟩
    isplitl [H] <;> iassumption
  | succ s =>
    unfold prevOf seedOf rsKit; dsimp only
    rw [bigSepL_singleton]
    unfold recvKit
    iintro ⟨H, H', -⟩
    isplitl [H]; · iexact H
    iexact H'

theorem rsOut_elim (h : Hop) : (rsOut c h : sProp 𝕄) ⊢ iprop(sentCred c false h ∗ bigSepL (prevOf h) (posAt c 1 false true)) := by
  obtain ⟨d, ⟨s, hs⟩, r⟩ := h
  cases s with
  | zero =>
    unfold prevOf rsOut; dsimp only
    iintro H
    isplitl [H]; · iexact H
    iempintro
  | succ s =>
    unfold prevOf rsOut; dsimp only
    rw [bigSepL_singleton]
    unfold posAt
    iintro ⟨H, H'⟩
    isplitl [H]; · iexact H
    iexact H'

/-- What a hop of the reduce-scatter gives back: the slot it forwarded, or the seed. -/
theorem back_rs (h : Hop) : backOf P c false h
    ⊢ iprop(bigSepL (prevOf h) (fun g => slotAny c false g.1 g.2.1 g.2.2) ∗ bigSepL (seedOf h) (fun x => seedAny c x.1 x.2)) := by
  obtain ⟨d, ⟨s, hs⟩, r⟩ := h
  cases s with
  | zero =>
    unfold prevOf seedOf backOf seedAny; dsimp only
    rw [bigSepL_singleton]
    iintro H
    isplitr; · iempintro
    iapply (owns_any (F := F) c) $$ H
  | succ s =>
    unfold prevOf seedOf backOf slotAny; dsimp only
    rw [bigSepL_singleton]
    iintro H
    isplitl [H]
    · iapply (owns_any (F := F) c) $$ H
    iempintro

/-- The other half of a gathered half chunk, lent while it was sent on; of the reduced chunk, one half to each direction. -/
def lent (h : Hop) : sProp 𝕄 := owns (c : Thread nD τ) (slot8 (agM h.1) h.2.1 h.2.2) (shareOf true h.1) (val P true h.1 h.2.1 c h.2.2)
def lentMy (x : Bool × Fin 2) : sProp 𝕄 := owns (c : Thread nD τ) (slot64 x.2) (shareOf true x.1) (myAt P c x.2)

theorem back_ag (h : Hop) : backOf P c true h ⊢ iprop(bigSepL (prevOf h) (lent P c) ∗ bigSepL (seedOf h) (lentMy P c)) := by
  obtain ⟨d, ⟨s, hs⟩, r⟩ := h
  cases s with
  | zero =>
    have hv : val P true d ⟨0, hs⟩ (dirDev d c) r = myAt P c r := val_first P c d r
    unfold prevOf seedOf backOf lentMy; dsimp only
    rw [bigSepL_singleton, hv]
    iintro H
    isplitr; · iempintro
    iexact H
  | succ s =>
    have hv : val P true d ⟨s + 1, hs⟩ (dirDev d c) r = val P true d ⟨s, Nat.lt_of_succ_lt hs⟩ c r := by
      show myAt P (agFrom d (s + 1) (dirDev d c)) r = _
      rw [agFrom, dirDev_dirDev']; rfl
    unfold prevOf seedOf backOf lent; dsimp only
    rw [bigSepL_singleton, hv]
    iintro H
    isplitl [H]
    · iexact H
    iempintro

theorem my_back (r : Fin 2) : iprop(lentMy P c (true, r) ∗ lentMy P c (false, r))
    ⊢ iprop(∃ f, (slot64 r).view.loc (c : Thread nD τ) ↦[(slot64 r).view.set]{fullShare} f) := by
  unfold lentMy
  dsimp only [shareOf]
  refine BIBase.Entails.trans ?_ (owns_any (F := F) c (slot64 r) fullShare (myAt P c r))
  exact (owns_halves (Val := Elt F) (c : Thread nD τ) (slot64 r) fullShare (myAt P c r)).2

theorem slot_rs (d : Bool) (s : Fin 8) (r : Fin 2) (X : S32x1024.Idx → Elt F .bf16) :
    owns (c : Thread nD τ) (slot8 (rsM d) s r) fullShare X ⊢ slotAny c false d s r :=
  owns_any (F := F) c (slot8 (rsM d) s r) fullShare X

omit c in
theorem keep_lent (c : Dev nD) (d : Bool) (u : Fin 8) (hb : Nat.ble (lastIx d) u.val = false) (m : Memref sig .tc .vmem S32x1024 .bf16) (X : S32x1024.Idx → Elt F .bf16) :
    iprop(owns (c : Thread nD τ) m (keepShare d u) X ∗ owns (c : Thread nD τ) m (shareOf true d) X) ⊢ (owns (c : Thread nD τ) m fullShare X : sProp 𝕄) := by
  unfold keepShare
  rw [hb]
  cases d with
  | true => exact sep_comm.1.trans (owns_halves (c : Thread nD τ) m fullShare X).2
  | false => exact (owns_halves (c : Thread nD τ) m fullShare X).2

theorem slot_back (h : Hop) (hb : Nat.ble (lastIx h.1) h.2.1.val = false) : iprop(kept P c h ∗ lent P c h) ⊢ slotAny c true h.1 h.2.1 h.2.2 :=
  (keep_lent c h.1 h.2.1 hb _ _).trans (owns_any (F := F) c (slot8 (agM h.1) h.2.1 h.2.2) fullShare _)

theorem slot_last (h : Hop) (hb : Nat.ble (lastIx h.1) h.2.1.val = true) : kept P c h ⊢ slotAny c true h.1 h.2.1 h.2.2 := by
  obtain ⟨d, u, r⟩ := h
  unfold kept keepShare slotAny bufM
  dsimp only at hb ⊢
  rw [hb]
  exact owns_any (F := F) c (slot8 (agM d) u r) fullShare _

set_option maxHeartbeats 2000000 in
/-- Everything after the partial product: the result at its values, every buffer and right given back, nothing owed. -/
theorem wp_rings (Q : PUnit → sProp 𝕄) :
    iprop(ctx P κ c ∗ partPts P c ∗ outHas P c ∅ ∗ ringsIn c ∗ owing (F := F) c hops hops)
      ⊢ iprop((partPts P c ∗ outHas P c (stored c []) ∗ ringsOut c ∗ owing c [] [] -∗ Q ⟨⟩)
        -∗ wp frame (wpE (defs₀ (F := F)) 𝒱₀ (c : Thread nD τ) none) Set.univ (rings c) Q) := by
  unfold rings ringsIn ringsOut
  iintro ⟨#Hctx, Hp, Hout, ⟨Hsk, Hsk', Hrk, Hrk', Hsp, Hsp', Hseed, Hm0, Hm1⟩, HO⟩ Hk
  -- the reduce-scatter
  ihave Hrk := (show bigSepL hops (recvKit (F := F) c false) ⊢ _ from
    le_of_eq (prev_split (recvKit c false) hops prev_perm hops_nodup)) $$ Hrk
  icases Hrk with ⟨Hrk, Hlk⟩
  ihave Hseed := (show bigSepL seeds (fun x => seedAny (F := F) c x.1 x.2) ⊢ bigSepL hops (fun h => bigSepL (seedOf h) (fun x => seedAny c x.1 x.2)) from by
    rw [← seed_eq, bigSepL_flatMap]) $$ Hseed
  ihave Hkit := (bigSepL_pair (fun h => bigSepL (prevOf h) (recvKit (F := F) c false)) (fun h => bigSepL (seedOf h) (fun x => seedAny c x.1 x.2)) hops) $$ [Hrk Hseed]
  · isplitl [Hrk] <;> iassumption
  ihave Hkit := (bigSepL_pair (sendKit (F := F) c false) (fun h => iprop(bigSepL (prevOf h) (recvKit c false) ∗ bigSepL (seedOf h) (fun x => seedAny c x.1 x.2))) hops) $$ [Hsk Hkit]
  · isplitl [Hsk] <;> iassumption
  ihave Hkit := (bigSepL_mono (fun h _ => rsKit_intro (F := F) c h)) $$ Hkit
  rw [wp_bind]
  iapply (wp_runList c (rsStep c) (ctx P κ c) (fun l => iprop(partPts P c ∗ owing c l hops)) (rsKit c) (rsOut c) inOrder inOrder_tail
    (fun a l h Q => wp_rsStep P κ c a l h Q) hops hops_ok _) $$ [Hp HO Hkit]
  · isplitr; · iexact Hctx
    isplitl [Hp HO]; · isplitl [Hp] <;> iassumption
    iexact Hkit
  iintro ⟨⟨Hp, HO⟩, Hro⟩
  -- its last landings
  rw [wp_bind]
  iapply (wp_runList c lastStep (ctx P κ c) (fun _ => owing c [] hops) (recvKit c false)
    (fun a => iprop(posAt c 1 false true a ∗ owns (c : Thread nD τ) (slot8 (rsM a.1) a.2.1 a.2.2) fullShare (val P false a.1 a.2.1 c a.2.2)))
    (fun l => ∀ h ∈ l, live h.1 h.2.1 = true) (fun a l h x hx => h x (List.mem_cons_of_mem _ hx))
    (fun a l h Q => wp_lastStep P κ c a l h Q) lasts lasts_ok _) $$ [HO Hlk]
  · isplitr; · iexact Hctx
    isplitl [HO] <;> iassumption
  iintro ⟨HO, Hlo⟩
  ihave Hlo := (bigSepL_unpair _ _ lasts) $$ Hlo
  icases Hlo with ⟨Hla, Hl⟩
  ihave Hl := (show bigSepL lasts (fun a => owns (c : Thread nD τ) (slot8 (rsM a.1) a.2.1 a.2.2) fullShare (val P false a.1 a.2.1 c a.2.2))
    ⊢ iprop(landed P c 0 ∗ landed P c 1) from by
      unfold lasts landed
      rw [bigSepL_four]
      iintro ⟨H1, H2, H3, H4⟩
      isplitl [H1 H3]
      · isplitl [H3]; · iexact H3
        iexact H1
      isplitl [H4]; · iexact H4
      iexact H2) $$ Hl
  icases Hl with ⟨Hl0, Hl1⟩
  -- the device's own chunk
  ihave Hsk' := (show bigSepL hops (sendKit (F := F) c true) ⊢ iprop(sendKit c true (true, 0, 0) ∗ sendKit c true (false, 0, 0) ∗ sendKit c true (true, 0, 1)
      ∗ sendKit c true (false, 0, 1) ∗ bigSepL gathers (fun h => bigSepL (nextOf h) (sendKit c true))) from by
    rw [← bigSepL_flatMap, next_eq, ← List.take_append_drop 4 hops, bigSepL_append]
    show iprop(bigSepL [(true, 0, 0), (false, 0, 0), (true, 0, 1), (false, 0, 1)] (sendKit c true) ∗ bigSepL (hops.drop 4) (sendKit c true)) ⊢ _
    rw [bigSepL_four]
    iintro ⟨⟨H1, H2, H3, H4⟩, H5⟩
    isplitl [H1]; · iexact H1
    isplitl [H2]; · iexact H2
    isplitl [H3]; · iexact H3
    isplitl [H4]; · iexact H4
    iexact H5) $$ Hsk'
  icases Hsk' with ⟨Hs1, Hs2, Hs3, Hs4, Hsk'⟩
  rw [wp_bind]
  iapply (wp_finStep P κ c 0 ∅ (outRect0 c 0).set (fun i h => .inr h) ((true, 0, 1) :: (false, 0, 1) :: hops.drop 4) _) $$ [Hp Hl0 Hout Hm0 Hs1 Hs2 HO]
  · isplitr; · iexact Hctx
    isplitl [Hp]; · iexact Hp
    isplitl [Hl0]; · iexact Hl0
    isplitl [Hout]; · iexact Hout
    isplitl [Hm0]; · iexact Hm0
    isplitl [Hs1]; · iexact Hs1
    isplitl [Hs2]; · iexact Hs2
    iexact HO
  iintro ⟨Hp, Hl0, Hout, Hc1, Hc2, HO⟩
  rw [wp_bind]
  iapply (wp_finStep P κ c 1 (outRect0 c 0).set (stored c gathers) (by
      rintro i (⟨r, h⟩ | ⟨h, hg, hl, -⟩)
      · rcases (show ∀ r : Fin 2, r = 0 ∨ r = 1 by decide) r with rfl | rfl
        · exact .inl (Finset.mem_coe.mpr h)
        · exact .inr h
      · exact absurd hg hl) (hops.drop 4) _) $$ [Hp Hl1 Hout Hm1 Hs3 Hs4 HO]
  · isplitr; · iexact Hctx
    isplitl [Hp]; · iexact Hp
    isplitl [Hl1]; · iexact Hl1
    isplitl [Hout]; · iexact Hout
    isplitl [Hm1]; · iexact Hm1
    isplitl [Hs3]; · iexact Hs3
    isplitl [Hs4]; · iexact Hs4
    iexact HO
  iintro ⟨Hp, Hl1, Hout, Hc3, Hc4, HO⟩
  -- the all-gather
  ihave Hrk' := (show bigSepL hops (recvKit (F := F) c true) ⊢ bigSepL gathers (recvKit c true) from
    le_of_eq (TalkSites.bigSepL_perm gathers_perm.symm hops_nodup _)) $$ Hrk'
  ihave Hkit := (bigSepL_pair (recvKit (F := F) c true) (fun h => bigSepL (nextOf h) (sendKit c true)) gathers) $$ [Hrk' Hsk']
  · isplitl [Hrk'] <;> iassumption
  rw [wp_bind]
  iapply (wp_runList c (agStep c) (ctx P κ c) (fun l => iprop(outHas P c (stored c l) ∗ owing c [] (l.flatMap nextOf)))
    (fun a => iprop(recvKit c true a ∗ bigSepL (nextOf a) (sendKit c true)))
    (fun a => iprop(posAt c 1 true true a ∗ kept P c a ∗ bigSepL (nextOf a) (sentCred c true)))
    (fun l => inOrder l ∧ ∀ h ∈ l, h ∈ gathers) (fun a l h => ⟨inOrder_tail a l h.1, fun x hx => h.2 x (List.mem_cons_of_mem _ hx)⟩)
    (fun a l h Q => wp_agStep P κ c a l h Q) gathers ⟨gathers_ok, fun _ h => h⟩ _) $$ [Hout HO Hkit]
  · isplitr; · iexact Hctx
    isplitl [Hout HO]
    · isplitl [Hout]; · iexact Hout
      rw [next_eq]; iexact HO
    iexact Hkit
  iintro ⟨⟨Hout, HO⟩, Hgo⟩
  ihave Hgo := (bigSepL_unpair _ _ gathers) $$ Hgo
  icases Hgo with ⟨Hga, Hgo⟩
  ihave Hgo := (bigSepL_unpair _ _ gathers) $$ Hgo
  icases Hgo with ⟨Hkept, Hgc⟩
  -- the waits for the read-outs
  ihave Hro := (bigSepL_mono (fun h _ => rsOut_elim (F := F) c h)) $$ Hro
  ihave Hro := (bigSepL_unpair _ _ hops) $$ Hro
  icases Hro with ⟨Hsc, Hra⟩
  ihave Hw := (bigSepL_pair (posAt (F := F) c 0 false false) (sentCred c false) hops) $$ [Hsp Hsc]
  · isplitl [Hsp] <;> iassumption
  ihave Hw := (bigSepL_mono (fun h _ => sendWait_intro (F := F) c false h)) $$ Hw
  rw [wp_bind]
  iapply (wp_runList c rsDone (ctx P κ c) (fun _ => owing c [] []) (sendWait c false) (fun a => iprop(posAt c 1 false false a ∗ backOf P c false a))
    (fun l => ∀ h ∈ l, live h.1 h.2.1 = true) (fun a l h x hx => h x (List.mem_cons_of_mem _ hx))
    (fun a l h Q => wp_rsDone P κ c a l h Q) hops hops_ok.2 _) $$ [HO Hw]
  · isplitr; · iexact Hctx
    isplitl [HO]; · iexact HO
    iexact Hw
  iintro ⟨HO, Hdone⟩
  ihave Hdone := (bigSepL_unpair _ _ hops) $$ Hdone
  icases Hdone with ⟨Hsa, Hback⟩
  ihave Hc := (show iprop(sentCred (F := F) c true (true, 0, 0) ∗ sentCred c true (false, 0, 0) ∗ sentCred c true (true, 0, 1)
      ∗ sentCred c true (false, 0, 1) ∗ bigSepL gathers (fun h => bigSepL (nextOf h) (sentCred c true))) ⊢ bigSepL hops (sentCred (F := F) c true) from by
    rw [← bigSepL_flatMap, next_eq]
    conv_rhs => rw [← List.take_append_drop 4 hops, bigSepL_append]
    show _ ⊢ iprop(bigSepL [(true, 0, 0), (false, 0, 0), (true, 0, 1), (false, 0, 1)] (sentCred c true) ∗ bigSepL (hops.drop 4) (sentCred c true))
    rw [bigSepL_four]
    iintro ⟨H1, H2, H3, H4, H5⟩
    isplitr [H5]
    · isplitl [H1]; · iexact H1
      isplitl [H2]; · iexact H2
      isplitl [H3]; · iexact H3
      iexact H4
    iexact H5) $$ [Hc1 Hc2 Hc3 Hc4 Hgc]
  · isplitl [Hc1]; · iexact Hc1
    isplitl [Hc2]; · iexact Hc2
    isplitl [Hc3]; · iexact Hc3
    isplitl [Hc4]; · iexact Hc4
    iexact Hgc
  ihave Hw := (bigSepL_pair (posAt (F := F) c 0 true false) (sentCred c true) hops) $$ [Hsp' Hc]
  · isplitl [Hsp'] <;> iassumption
  ihave Hw := (bigSepL_mono (fun h _ => sendWait_intro (F := F) c true h)) $$ Hw
  rw [wp_bind]
  iapply (wp_runList c agDone (ctx P κ c) (fun _ => owing c [] []) (sendWait c true) (fun a => iprop(posAt c 1 true false a ∗ backOf P c true a))
    (fun l => ∀ h ∈ l, live h.1 h.2.1 = true) (fun a l h x hx => h x (List.mem_cons_of_mem _ hx))
    (fun a l h Q => wp_agDone P κ c a l h Q) hops hops_ok.2 _) $$ [HO Hw]
  · isplitr; · iexact Hctx
    isplitl [HO]; · iexact HO
    iexact Hw
  iintro ⟨HO, Hdone⟩
  ihave Hdone := (bigSepL_unpair _ _ hops) $$ Hdone
  icases Hdone with ⟨Hsa', Hback'⟩
  rw [Prog.pure_eq_ret, wp_ret]
  imodintro
  iapply Hk
  isplitl [Hp]; · iexact Hp
  isplitl [Hout]; · iexact Hout
  isplitr [HO]
  · ihave Hback := (bigSepL_mono (fun h _ => back_rs P c h)) $$ Hback
    ihave Hback := (bigSepL_unpair _ _ hops) $$ Hback
    icases Hback with ⟨Hslots, Hseed⟩
    ihave Hback' := (bigSepL_mono (fun h _ => back_ag P c h)) $$ Hback'
    ihave Hback' := (bigSepL_unpair _ _ hops) $$ Hback'
    icases Hback' with ⟨Hlent, Hmy⟩
    isplitl [Hsa Hsa' Hra Hla Hga]
    · isplitl [Hsa]; · iexact Hsa
      isplitl [Hsa']; · iexact Hsa'
      isplitl [Hra Hla]
      · iapply (show _ ⊢ bigSepL hops (posAt (F := F) c 1 false true) from le_of_eq (prev_split (posAt c 1 false true) hops prev_perm hops_nodup).symm)
        isplitl [Hra] <;> iassumption
      iapply (show bigSepL gathers (posAt (F := F) c 1 true true) ⊢ bigSepL hops (posAt (F := F) c 1 true true) from le_of_eq (TalkSites.bigSepL_perm gathers_perm gathers_nodup _))
      iexact Hga
    isplitl [Hslots Hl0 Hl1]
    · iapply (show _ ⊢ bigSepL hops (fun h => slotAny (F := F) c false h.1 h.2.1 h.2.2) from
        le_of_eq (prev_split (fun h => slotAny c false h.1 h.2.1 h.2.2) hops prev_perm hops_nodup).symm)
      isplitl [Hslots]; · iexact Hslots
      unfold landed lasts
      rw [bigSepL_four]
      icases Hl0 with ⟨H1, H2⟩
      icases Hl1 with ⟨H3, H4⟩
      isplitl [H2]; · iapply (slot_rs c false 6 0 _) $$ H2
      isplitl [H4]; · iapply (slot_rs c false 6 1 _) $$ H4
      isplitl [H1]; · iapply (slot_rs c true 7 0 _) $$ H1
      iapply (slot_rs c true 7 1 _) $$ H3
    isplitl [Hkept Hlent]
    · ihave Hkept := (show bigSepL gathers (kept P c) ⊢ _ from le_of_eq (prev_split (kept P c) gathers prev_perm' gathers_nodup)) $$ Hkept
      icases Hkept with ⟨Hkept, Hlast⟩
      iapply (show _ ⊢ bigSepL hops (fun h => slotAny (F := F) c true h.1 h.2.1 h.2.2) from
        le_of_eq (prev_split (fun h => slotAny c true h.1 h.2.1 h.2.2) hops prev_perm hops_nodup).symm)
      isplitr [Hlast]
      · iapply (show iprop((bigSepL hops fun h => bigSepL (prevOf h) (kept P c)) ∗ (bigSepL hops fun h => bigSepL (prevOf h) (lent P c)))
            ⊢ (bigSepL hops fun h => bigSepL (prevOf h) fun g => slotAny (F := F) c true g.1 g.2.1 g.2.2) from by
          rw [← bigSepL_flatMap, ← bigSepL_flatMap, ← bigSepL_flatMap]
          exact (bigSepL_pair _ _ _).trans (bigSepL_mono fun h hh => slot_back P c h (prev_not_last h hh)))
        isplitl [Hkept] <;> iassumption
      iapply (bigSepL_mono fun h hh => slot_last P c h (lasts_last h hh)) $$ Hlast
    isplitl [Hseed]
    · iapply (show bigSepL hops (fun h => bigSepL (seedOf h) (fun x => seedAny c x.1 x.2)) ⊢ bigSepL seeds (fun x => seedAny (F := F) c x.1 x.2) from by
        rw [← seed_eq, bigSepL_flatMap])
      iexact Hseed
    ihave Hmy := (show bigSepL hops (fun h => bigSepL (seedOf h) (lentMy P c)) ⊢ bigSepL seeds (lentMy P c) from by
      rw [← seed_eq, bigSepL_flatMap]) $$ Hmy
    ihave Hmy := (show bigSepL seeds (lentMy P c) ⊢ iprop((lentMy P c (true, 0) ∗ lentMy P c (false, 0)) ∗ (lentMy P c (true, 1) ∗ lentMy P c (false, 1))) from by
      unfold seeds
      rw [bigSepL_four]
      iintro ⟨H1, H2, H3, H4⟩
      isplitl [H1 H2]
      · isplitl [H1] <;> iassumption
      isplitl [H3] <;> iassumption) $$ Hmy
    icases Hmy with ⟨Hmy0, Hmy1⟩
    isplitl [Hmy0]
    · iapply (my_back P c 0) $$ Hmy0
    iapply (my_back P c 1) $$ Hmy1
  iexact HO

end Steps

end Cert.KernelIdeal.Ring

end
-- ==== Proof.KernelIdealSlots.lean ====
/-
  The buffers cut into the pieces the rings hold, and put together again; the hops, the semaphores and the slots listed.
-/
module

public import proofs.«01_k».proof.Proof.KernelIdealRings

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What there is, listed -/

/-- The two hops of the ring to the left that are not made. -/
def deads : List Hop := [(false, 7, 0), (false, 7, 1)]

/-- The two half slots of a direction that a hop has in both phases. -/
def sideL (d : Bool) : List (Bool × Fin 8 × Fin 2) :=
  [false, true].flatMap fun ag => (hops.filter fun h => h.1 == d).map fun h => (ag, h.2.1, h.2.2)

def cixOf (ag v : Bool) (h : Hop) : Cix := (ag, h.1, v, h.2.1, h.2.2)

theorem slots_list : (Finset.univ : Finset (Bool × Hop))
    = (hops.map (Prod.mk false) ++ hops.map (Prod.mk true) ++ (deads.map (Prod.mk false) ++ deads.map (Prod.mk true))).toFinset := by
  decide +kernel
theorem slots_nodup :
    (hops.map (Prod.mk false) ++ hops.map (Prod.mk true) ++ (deads.map (Prod.mk false) ++ deads.map (Prod.mk true))).Nodup := by
  decide +kernel
theorem live_list : liveHops = (hops.map (Prod.mk false) ++ hops.map (Prod.mk true)).toFinset := by decide +kernel
theorem live_nodup : (hops.map (Prod.mk false) ++ hops.map (Prod.mk true)).Nodup := by decide +kernel
theorem sides_list : liveHops = (((sideL true).map fun x => (x.1, true, x.2)) ++ (sideL false).map fun x => (x.1, false, x.2)).toFinset := by
  decide +kernel
theorem sides_nodup : (((sideL true).map fun x => (x.1, true, x.2)) ++ (sideL false).map fun x => (x.1, false, x.2)).Nodup := by
  decide +kernel
theorem side_list : ∀ d, (Finset.univ.filter fun x : Bool × Fin 8 × Fin 2 => live d x.2.1 = true) = (sideL d).toFinset := by
  decide +kernel
theorem side_nodup : ∀ d, (sideL d).Nodup := by decide +kernel
theorem cix_list : (Finset.univ : Finset Cix)
    = (hops.map (cixOf false false) ++ hops.map (cixOf true false) ++ hops.map (cixOf false true) ++ hops.map (cixOf true true)
      ++ (deads.map (cixOf false false) ++ deads.map (cixOf true false) ++ deads.map (cixOf false true) ++ deads.map (cixOf true true))).toFinset := by
  decide +kernel
theorem cix_nodup :
    (hops.map (cixOf false false) ++ hops.map (cixOf true false) ++ hops.map (cixOf false true) ++ hops.map (cixOf true true)
      ++ (deads.map (cixOf false false) ++ deads.map (cixOf true false) ++ deads.map (cixOf false true) ++ deads.map (cixOf true true))).Nodup := by
  decide +kernel

section Lists

variable {M : Type} [URA M]

/-- Every half slot: the hops' in both phases, and the rest. -/
theorem bigSep_slots (Φ : Bool × Hop → sProp M) : bigSep Finset.univ Φ
    = iprop((bigSepL hops (fun h => Φ (false, h)) ∗ bigSepL hops (fun h => Φ (true, h)))
      ∗ (bigSepL deads (fun h => Φ (false, h)) ∗ bigSepL deads (fun h => Φ (true, h)))) := by
  rw [bigSep_univ_eq_bigSepL _ slots_list slots_nodup, bigSepL_append, bigSepL_append, bigSepL_append, bigSepL_map, bigSepL_map, bigSepL_map, bigSepL_map]

/-- The hops' of both phases, by phase; -/
theorem bigSep_live (Φ : Bool × Hop → sProp M) : bigSep liveHops Φ
    = iprop(bigSepL hops (fun h => Φ (false, h)) ∗ bigSepL hops (fun h => Φ (true, h))) := by
  rw [bigSep_eq_bigSepL_of_eq _ live_list live_nodup, bigSepL_append, bigSepL_map, bigSepL_map]

/-- and by direction. -/
theorem bigSep_sides (Φ : Bool × Hop → sProp M) : bigSep liveHops Φ
    = iprop(bigSep (Finset.univ.filter fun x : Bool × Fin 8 × Fin 2 => live true x.2.1 = true) (fun x => Φ (x.1, true, x.2))
      ∗ bigSep (Finset.univ.filter fun x : Bool × Fin 8 × Fin 2 => live false x.2.1 = true) (fun x => Φ (x.1, false, x.2))) := by
  rw [bigSep_eq_bigSepL_of_eq _ (side_list true) (side_nodup true), bigSep_eq_bigSepL_of_eq _ (side_list false) (side_nodup false),
    bigSep_eq_bigSepL_of_eq _ sides_list sides_nodup, bigSepL_append, bigSepL_map, bigSepL_map]

/-- Every semaphore of the rings: the hops' by phase and end, and the rest. -/
theorem bigSep_cix (Φ : Cix → sProp M) : bigSep Finset.univ Φ
    = iprop((((bigSepL hops (fun h => Φ (cixOf false false h)) ∗ bigSepL hops (fun h => Φ (cixOf true false h)))
        ∗ bigSepL hops (fun h => Φ (cixOf false true h))) ∗ bigSepL hops (fun h => Φ (cixOf true true h)))
      ∗ (((bigSepL deads (fun h => Φ (cixOf false false h)) ∗ bigSepL deads (fun h => Φ (cixOf true false h)))
        ∗ bigSepL deads (fun h => Φ (cixOf false true h))) ∗ bigSepL deads (fun h => Φ (cixOf true true h)))) := by
  rw [bigSep_univ_eq_bigSepL _ cix_list cix_nodup, bigSepL_append, bigSepL_append, bigSepL_append, bigSepL_append, bigSepL_append,
    bigSepL_append, bigSepL_append, bigSepL_map, bigSepL_map, bigSepL_map, bigSepL_map, bigSepL_map, bigSepL_map, bigSepL_map, bigSepL_map]

theorem bigSep_bool (Φ : Bool → sProp M) : bigSep Finset.univ Φ = iprop(Φ false ∗ Φ true) := by
  rw [bigSep_univ_eq_bigSepL [false, true] (by decide) (by decide)]; rfl

theorem bigSep_two (Φ : Fin 2 → sProp M) : bigSep Finset.univ Φ = iprop(Φ 0 ∗ Φ 1) := by
  rw [bigSep_univ_eq_bigSepL [0, 1] (by decide) (by decide)]; rfl

end Lists

/-! ## Buffers in pieces -/

/-- A buffer of a core at some contents. -/
def anyOf (c : Dev nD) (b : Ref sig .tc) : sProp 𝕄 := iprop(∃ f : Buf (Elt F) ((c : Thread nD τ).loc b), ((c : Thread nD τ).loc b) ↦{fullShare} f)

theorem sep_axis {s : Shape} (o o' z z' : Fin s.rank → ℕ) (i i') (a : Fin s.rank) (h : o a + z a ≤ o' a ∨ o' a + z' a ≤ o a) :
    Disjoint (Rect.unit (s := s) o z i).set (Rect.unit o' z' i').set := by
  rw [Finset.disjoint_left]
  intro x hx hx'
  have h1 := Rect.mem_set_unit.mp hx a
  have h2 := Rect.mem_set_unit.mp hx' a
  omega

theorem slot8_disjoint (x y : Fin 8 × Fin 2) (h : x ≠ y) : Disjoint (rect8 x.1 x.2).set (rect8 y.1 y.2).set := by
  by_cases e : x.1 = y.1
  · refine sep_axis _ _ _ _ _ _ 1 ?_
    have : x.2 ≠ y.2 := fun e' => h (Prod.ext e e')
    have := Fin.val_ne_of_ne this
    show x.2.val * 32 + 32 ≤ y.2.val * 32 ∨ y.2.val * 32 + 32 ≤ x.2.val * 32
    omega
  · refine sep_axis _ _ _ _ _ _ 0 ?_
    have := Fin.val_ne_of_ne e
    show x.1.val + 1 ≤ y.1.val ∨ y.1.val + 1 ≤ x.1.val
    omega

theorem slot8_cover (i : S8x64x1024.Idx) : ∃ x : Fin 8 × Fin 2, i ∈ (rect8 x.1 x.2).set := by
  have h0 : (i 0).val < 8 := (i 0).isLt
  have h1 : (i 1).val < 64 := (i 1).isLt
  have h2 : (i 2).val < 1024 := (i 2).isLt
  refine ⟨(⟨(i 0).val, h0⟩, ⟨(i 1).val / 32, by omega⟩), Rect.mem_set_unit.mpr fun a => ?_⟩
  match a with
  | ⟨0, _⟩ => exact ⟨le_refl _, by show (i 0).val < (i 0).val + 1; omega⟩
  | ⟨1, _⟩ =>
    show (i 1).val / 32 * 32 ≤ (i 1).val ∧ (i 1).val < (i 1).val / 32 * 32 + 32
    omega
  | ⟨2, _⟩ => exact ⟨Nat.zero_le _, by show (i 2).val < 0 + 1024; omega⟩

theorem slot2_disjoint (x y : Fin 2 × Fin 2) (h : x ≠ y) : Disjoint (rect2 x.1 x.2).set (rect2 y.1 y.2).set := by
  by_cases e : x.1 = y.1
  · refine sep_axis _ _ _ _ _ _ 1 ?_
    have : x.2 ≠ y.2 := fun e' => h (Prod.ext e e')
    have := Fin.val_ne_of_ne this
    show x.2.val * 32 + 32 ≤ y.2.val * 32 ∨ y.2.val * 32 + 32 ≤ x.2.val * 32
    omega
  · refine sep_axis _ _ _ _ _ _ 0 ?_
    have := Fin.val_ne_of_ne e
    show x.1.val + 1 ≤ y.1.val ∨ y.1.val + 1 ≤ x.1.val
    omega

theorem slot2_cover (i : S2x64x1024.Idx) : ∃ x : Fin 2 × Fin 2, i ∈ (rect2 x.1 x.2).set := by
  have h0 : (i 0).val < 2 := (i 0).isLt
  have h1 : (i 1).val < 64 := (i 1).isLt
  have h2 : (i 2).val < 1024 := (i 2).isLt
  refine ⟨(⟨(i 0).val, h0⟩, ⟨(i 1).val / 32, by omega⟩), Rect.mem_set_unit.mpr fun a => ?_⟩
  match a with
  | ⟨0, _⟩ => exact ⟨le_refl _, by show (i 0).val < (i 0).val + 1; omega⟩
  | ⟨1, _⟩ =>
    show (i 1).val / 32 * 32 ≤ (i 1).val ∧ (i 1).val < (i 1).val / 32 * 32 + 32
    omega
  | ⟨2, _⟩ => exact ⟨Nat.zero_le _, by show (i 2).val < 0 + 1024; omega⟩

theorem slot64_disjoint (x y : Fin 2) (h : x ≠ y) : Disjoint (rect64 x).set (rect64 y).set := by
  refine sep_axis _ _ _ _ _ _ 0 ?_
  have := Fin.val_ne_of_ne h
  show x.val * 32 + 32 ≤ y.val * 32 ∨ y.val * 32 + 32 ≤ x.val * 32
  omega

theorem slot64_cover (i : S64x1024.Idx) : ∃ x : Fin 2, i ∈ (rect64 x).set := by
  have h1 : (i 0).val < 64 := (i 0).isLt
  have h2 : (i 1).val < 1024 := (i 1).isLt
  refine ⟨⟨(i 0).val / 32, by omega⟩, Rect.mem_set_unit.mpr fun a => ?_⟩
  match a with
  | ⟨0, _⟩ =>
    show (i 0).val / 32 * 32 ≤ (i 0).val ∧ (i 0).val < (i 0).val / 32 * 32 + 32
    omega
  | ⟨1, _⟩ => exact ⟨Nat.zero_le _, by show (i 1).val < 0 + 1024; omega⟩

/-- A whole buffer is its pieces over rectangles that are apart and cover it. -/
theorem pieces (c : Dev nD) (b : Ref sig .tc) {B : Type} [Fintype B] [DecidableEq B] (I : B → Finset b.ty.shape.Idx)
    (hd : ∀ x y, x ≠ y → Disjoint (I x) (I y)) (hc : ∀ i, ∃ x, i ∈ I x) (f₀ : Buf (Elt F) ((c : Thread nD τ).loc b)) :
    (anyOf (F := F) c b ⊢ bigSep Finset.univ fun x => iprop(∃ f : Buf (Elt F) ((c : Thread nD τ).loc b), ((c : Thread nD τ).loc b) ↦[I x]{fullShare} f))
      ∧ ((bigSep Finset.univ fun x => iprop(∃ f : Buf (Elt F) ((c : Thread nD τ).loc b), ((c : Thread nD τ).loc b) ↦[I x]{fullShare} f)) ⊢ anyOf (F := F) c b) := by
  have hu : Finset.univ.biUnion I = Finset.univ := Finset.eq_univ_iff_forall.mpr fun i => by
    obtain ⟨x, hx⟩ := hc i
    exact Finset.mem_biUnion.mpr ⟨x, Finset.mem_univ x, hx⟩
  refine ⟨?_, ?_⟩
  · unfold anyOf
    iintro ⟨%f, H⟩
    iapply ((Entails.of_eq (Idealize.ShloMosaic.Ring.pointsTo_blocks (ℓ := (c : Thread nD τ).loc b) I hd hu f)).trans
      (bigSep_mono fun x _ => BI.BIClass.exists_intro (Φ := fun f : Buf (Elt F) ((c : Thread nD τ).loc b) => (((c : Thread nD τ).loc b) ↦[I x]{fullShare} f : sProp 𝕄)) f))
    iexact H
  · exact Idealize.ShloMosaic.Ring.pointsTo_blocks_join_exists (ℓ := (c : Thread nD τ).loc b) I hd hu f₀

/-- Contents for a buffer no piece of which is left. -/
abbrev zeroB {s : Shape} : s.Idx → Elt F .bf16 := fun _ => FloatOps.ofBits .bf16 0#16

def bufRef : Bool → Bool → Ref sig .tc
  | false, true => cc0_scratch3 | false, false => cc0_scratch4 | true, true => cc0_scratch5 | true, false => cc0_scratch6

section Split

variable (c : Dev nD)

theorem set_slot8 (b : Ref sig .tc) {R : Rect b.ty.shape} (hr) {t} (hq) : (((Memref.whole b).slice R hr).squeeze t hq).view.set = R.set :=
  (View.set_reshape (v := ((Memref.whole b).slice R hr).view) hq.numel_eq).trans (View.set_slice_whole b R)

/-- Slots of a buffer: what `pieces` needs of the sets the views have. -/
theorem pieces' (b : Ref sig .tc) {B : Type} [Fintype B] [DecidableEq B] (I J : B → Finset b.ty.shape.Idx) (hJ : ∀ x, J x = I x)
    (hd : ∀ x y, x ≠ y → Disjoint (I x) (I y)) (hc : ∀ i, ∃ x, i ∈ I x) (f₀ : Buf (Elt F) ((c : Thread nD τ).loc b)) :
    (anyOf (F := F) c b ⊢ bigSep Finset.univ fun x => iprop(∃ f : Buf (Elt F) ((c : Thread nD τ).loc b), ((c : Thread nD τ).loc b) ↦[J x]{fullShare} f))
      ∧ ((bigSep Finset.univ fun x => iprop(∃ f : Buf (Elt F) ((c : Thread nD τ).loc b), ((c : Thread nD τ).loc b) ↦[J x]{fullShare} f)) ⊢ anyOf (F := F) c b) := by
  obtain rfl : J = I := funext hJ
  exact pieces c b J hd hc f₀

theorem slots_iff : ∀ ag d, (anyOf (F := F) c (bufRef ag d) ⊢ bigSep Finset.univ fun x : Fin 8 × Fin 2 => slotAny c ag d x.1 x.2)
    ∧ ((bigSep Finset.univ fun x : Fin 8 × Fin 2 => slotAny c ag d x.1 x.2) ⊢ anyOf (F := F) c (bufRef ag d))
  | false, false => pieces' (F := F) c cc0_scratch4 (fun x : Fin 8 × Fin 2 => (rect8 x.1 x.2).set)
      (fun x : Fin 8 × Fin 2 => (slot8 (bufM false false) x.1 x.2).view.set) (fun _ => set_slot8 ..) slot8_disjoint slot8_cover (zeroB (s := S8x64x1024))
  | false, true => pieces' (F := F) c cc0_scratch3 (fun x : Fin 8 × Fin 2 => (rect8 x.1 x.2).set)
      (fun x : Fin 8 × Fin 2 => (slot8 (bufM false true) x.1 x.2).view.set) (fun _ => set_slot8 ..) slot8_disjoint slot8_cover (zeroB (s := S8x64x1024))
  | true, false => pieces' (F := F) c cc0_scratch6 (fun x : Fin 8 × Fin 2 => (rect8 x.1 x.2).set)
      (fun x : Fin 8 × Fin 2 => (slot8 (bufM true false) x.1 x.2).view.set) (fun _ => set_slot8 ..) slot8_disjoint slot8_cover (zeroB (s := S8x64x1024))
  | true, true => pieces' (F := F) c cc0_scratch5 (fun x : Fin 8 × Fin 2 => (rect8 x.1 x.2).set)
      (fun x : Fin 8 × Fin 2 => (slot8 (bufM true true) x.1 x.2).view.set) (fun _ => set_slot8 ..) slot8_disjoint slot8_cover (zeroB (s := S8x64x1024))

theorem bigSep_four {M : Type} [URA M] (Φ : Fin 2 × Fin 2 → sProp M) :
    bigSep Finset.univ Φ = iprop(Φ (0, 0) ∗ Φ (1, 0) ∗ Φ (0, 1) ∗ Φ (1, 1)) := by
  rw [bigSep_univ_eq_bigSepL [(0, 0), (1, 0), (0, 1), (1, 1)] (by decide) (by decide), bigSepL_four]

theorem seeds_eq : (bigSepL seeds fun x => seedAny (F := F) c x.1 x.2)
    = bigSep Finset.univ fun x : Fin 2 × Fin 2 => iprop(∃ f, (slot2 x.1 x.2).view.loc (c : Thread nD τ) ↦[(slot2 x.1 x.2).view.set]{fullShare} f) := by
  rw [bigSep_four]
  rfl

theorem seeds_iff : (anyOf (F := F) c cc0_scratch2 ⊢ bigSepL seeds fun x => seedAny c x.1 x.2)
    ∧ ((bigSepL seeds fun x => seedAny c x.1 x.2) ⊢ anyOf (F := F) c cc0_scratch2) := by
  rw [seeds_eq]
  exact pieces' (F := F) c cc0_scratch2 (fun x : Fin 2 × Fin 2 => (rect2 x.1 x.2).set)
    (fun x : Fin 2 × Fin 2 => (slot2 x.1 x.2).view.set) (fun _ => set_slot8 ..) slot2_disjoint slot2_cover (zeroB (s := S2x64x1024))

theorem my_iff : (anyOf (F := F) c cc0_scratch1 ⊢ iprop((∃ f, (slot64 0).view.loc (c : Thread nD τ) ↦[(slot64 0).view.set]{fullShare} f)
      ∗ (∃ f, (slot64 1).view.loc (c : Thread nD τ) ↦[(slot64 1).view.set]{fullShare} f)))
    ∧ (iprop((∃ f, (slot64 0).view.loc (c : Thread nD τ) ↦[(slot64 0).view.set]{fullShare} f)
      ∗ (∃ f, (slot64 1).view.loc (c : Thread nD τ) ↦[(slot64 1).view.set]{fullShare} f)) ⊢ anyOf (F := F) c cc0_scratch1) := by
  have hp := pieces' (F := F) c cc0_scratch1 (fun x : Fin 2 => (rect64 x).set)
    (fun x : Fin 2 => (slot64 x).view.set) (fun _ => View.set_slice_whole _ _) slot64_disjoint slot64_cover (zeroB (s := S64x1024))
  rw [bigSep_two] at hp
  exact hp

/-- The four buffers of the two rings. -/
def ringBufs : sProp 𝕄 :=
  iprop((anyOf c (bufRef false false) ∗ anyOf c (bufRef false true)) ∗ (anyOf c (bufRef true false) ∗ anyOf c (bufRef true true)))

def allSlots : sProp 𝕄 := bigSep Finset.univ fun x : Bool × Hop => slotAny c x.1 x.2.1 x.2.2.1 x.2.2.2

theorem allSlots_eq : allSlots (F := F) c
    = iprop(((bigSep Finset.univ fun x : Fin 8 × Fin 2 => slotAny c false false x.1 x.2) ∗ (bigSep Finset.univ fun x : Fin 8 × Fin 2 => slotAny c false true x.1 x.2))
      ∗ ((bigSep Finset.univ fun x : Fin 8 × Fin 2 => slotAny c true false x.1 x.2) ∗ (bigSep Finset.univ fun x : Fin 8 × Fin 2 => slotAny c true true x.1 x.2))) := by
  unfold allSlots
  rw [bigSep_univ_prod, bigSep_bool, bigSep_univ_prod, bigSep_univ_prod, bigSep_bool, bigSep_bool]

theorem bufs_split : ringBufs (F := F) c ⊢ allSlots c := by
  unfold ringBufs
  rw [allSlots_eq]
  iintro ⟨⟨H1, H2⟩, H3, H4⟩
  isplitl [H1 H2]
  · isplitl [H1]; · iapply (slots_iff c false false).1 $$ H1
    iapply (slots_iff c false true).1 $$ H2
  isplitl [H3]; · iapply (slots_iff c true false).1 $$ H3
  iapply (slots_iff c true true).1 $$ H4

theorem bufs_join : allSlots (F := F) c ⊢ ringBufs c := by
  unfold ringBufs
  rw [allSlots_eq]
  iintro ⟨⟨H1, H2⟩, H3, H4⟩
  isplitl [H1 H2]
  · isplitl [H1]; · iapply (slots_iff c false false).2 $$ H1
    iapply (slots_iff c false true).2 $$ H2
  isplitl [H3]; · iapply (slots_iff c true false).2 $$ H3
  iapply (slots_iff c true true).2 $$ H4

end Split

end Cert.KernelIdeal.Ring

end
-- ==== Proof.KernelIdealBody.lean ====
/-
  The whole body of a device: the meeting at the barrier, the partial product, the rings, and the semaphores taken out again.
-/
module

public import proofs.«01_k».proof.Proof.KernelIdealSlots

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The partial product -/

/-- A device's blocks in its memory. -/
structure Ins (F : FTy → Type) where
  x : S2x512x1024.Idx → F .f32
  wq : S1024x1024.Idx → F .f32
  wk : S1024x1024.Idx → F .f32
  wv : S1024x1024.Idx → F .f32
  wo : S1024x1024.Idx → F .f32
  cos : S512x1024.Idx → F .f32
  sin : S512x1024.Idx → F .f32
  ev : S1x1024.Idx → F .f32
  od : S1x1024.Idx → F .f32

/-- What a load of a rectangle reads. -/
def ld {s : Shape} (R : Rect s) (X : s.Idx → F .f32) : Vec F R.shape .f32 := fun y => X (R.toLoadRect.idx y)

/-- A batch's rows of the partial product. -/
def partRows (I : Ins F) (b : Fin 2) : FVec F S512x1024 .f32 :=
  partVal (ld rectFull2 I.cos) (ld rectFull2 I.sin) (ld rectMask I.ev) (ld rectMask I.od) (ld (rectX b) I.x)
    (ld rectW I.wq) (ld rectW I.wk) (ld rectW I.wv) (ld rectW I.wo)

/-- The partial product: the batches' rows one after the other. -/
def partBuf (I : Ins F) : S1024x1024.Idx → F .f32 := fun i =>
  have h0 : (i 0).val < 1024 := (i 0).isLt
  partRows I ⟨(i 0).val / 512, by omega⟩ (ValueIdx.ix2 ⟨(i 0).val % 512, Nat.mod_lt _ (by decide)⟩ ⟨(i 1).val, (i 1).isLt⟩)

theorem partBuf_emb (I : Ins F) (b : Fin 2) (j : (rectP b).shape.Idx) : partRows I b j = partBuf I ((rectP b).emb j) := by
  have hb : b.val < 2 := b.isLt
  have j0 : (j 0).val < 512 := (j 0).isLt
  have c0 : ((rectP b).emb j 0).val = b.val * 512 + (j 0).val := by
    rw [Rect.emb_apply]; show b.val * 512 + 1 * (j 0).val = _; omega
  have c1 : ((rectP b).emb j 1).val = (j 1).val := by
    rw [Rect.emb_apply]; show 0 + 1 * (j 1).val = _; omega
  have same : ∀ (b' : Fin 2) (j' : S512x1024.Idx), b' = b → j' = j → partRows I b j = partRows I b' j' := by
    rintro _ _ rfl rfl; rfl
  refine same _ _ (Fin.ext (by show ((rectP b).emb j 0).val / 512 = _; rw [c0]; omega)) ?_
  funext a
  match a with
  | ⟨0, _⟩ => exact Fin.ext (by show ((rectP b).emb j 0).val % 512 = _; rw [c0]; show _ = (j 0).val; omega)
  | ⟨1, _⟩ => exact Fin.ext c1

section Steps

variable (c : Dev nD)

/-- A load of a rectangle of a buffer held at its contents. -/
theorem wp_load_owns {s : Shape} {M : Memref sig .tc .vmem s .f32} {q : PosShare TreeShare} {X : s.Idx → F .f32} {R : Rect s} {hl : M.view.LoadsAt R.toLoadRect}
    {α : Type} {k : (R.shape.Idx → Elt F .f32) → Prog (TpuEff nD τ sig (Elt F) Λ₀ .tc) α} {Q : α → sProp 𝕄} :
    (owns (c : Thread nD τ) M q X : sProp 𝕄)
      ⊢ iprop((owns (c : Thread nD τ) M q X -∗ wp frame (wpE (defs₀ (F := F)) 𝒱₀ (c : Thread nD τ) none) Set.univ (k (ld R X)) Q)
        -∗ wp frame (wpE (defs₀ (F := F)) 𝒱₀ (c : Thread nD τ) none) Set.univ (.op (.load M R.toLoadRect hl) k) Q) := by
  unfold owns
  iintro ⟨%f, %hf, H⟩ Hk
  iapply (wp_load 𝒱₀ (c : Thread nD τ) none Set.univ (m := M) (View.setOn_subset_set _ _)) $$ H
  iintro H
  rw [show M.view.readAt (Elt F) R.toLoadRect f = ld R X from by rw [← hf]; rfl]
  iapply Hk
  iexists f
  isplitr; · ipureintro; exact hf
  iexact H

/-- The device's blocks. -/
def insOwn (I : Ins F) : sProp 𝕄 :=
  iprop(owns (c : Thread nD τ) (Memref.whole cc0_stg0_0 : Memref sig .tc .vmem S2x512x1024 .f32) fullShare I.x
    ∗ owns (c : Thread nD τ) (Memref.whole cc0_stg1_0 : Memref sig .tc .vmem S1024x1024 .f32) fullShare I.wq
    ∗ owns (c : Thread nD τ) (Memref.whole cc0_stg2_0 : Memref sig .tc .vmem S1024x1024 .f32) fullShare I.wk
    ∗ owns (c : Thread nD τ) (Memref.whole cc0_stg3_0 : Memref sig .tc .vmem S1024x1024 .f32) fullShare I.wv
    ∗ owns (c : Thread nD τ) (Memref.whole cc0_stg4_0 : Memref sig .tc .vmem S1024x1024 .f32) fullShare I.wo
    ∗ owns (c : Thread nD τ) (Memref.whole cc0_stg5_0 : Memref sig .tc .vmem S512x1024 .f32) fullShare I.cos
    ∗ owns (c : Thread nD τ) (Memref.whole cc0_stg6_0 : Memref sig .tc .vmem S512x1024 .f32) fullShare I.sin
    ∗ owns (c : Thread nD τ) (Memref.whole cc0_stg7_0 : Memref sig .tc .vmem S1x1024 .f32) fullShare I.ev
    ∗ owns (c : Thread nD τ) (Memref.whole cc0_stg8_0 : Memref sig .tc .vmem S1x1024 .f32) fullShare I.od)

/-- The partial product's buffer, at its values on a set of indices. -/
def partHas (I : Ins F) (A : Set S1024x1024.Idx) : sProp 𝕄 :=
  iprop(∃ f : (cc0_scratch0 : Ref sig .tc).ty.Contents (Elt F), ⌜∀ i ∈ A, f i = partBuf I i⌝ ∗ partM.view.loc (c : Thread nD τ) ↦{fullShare} f)

theorem part_agrees (I : Ins F) (A : Set S1024x1024.Idx) (b : Fin 2) (f : (cc0_scratch0 : Ref sig .tc).ty.Contents (Elt F))
    (hf : ∀ i ∈ A, f i = partBuf I i) :
    ∀ i ∈ A ∪ ((rectP b).set : Set S1024x1024.Idx), (partM.access (rectP b)).write (Elt F) f (partRows I b) Finset.univ i = partBuf I i := by
  intro i hi
  have hs : (partM.access (rectP b)).setOn Finset.univ = (rectP b).set := View.set_slice_whole (cc0_scratch0 : Ref sig .tc) (rectP b)
  by_cases hR : i ∈ (rectP b).set
  · rw [← Rect.map_emb_univ] at hR
    obtain ⟨j, -, rfl⟩ := Finset.mem_map.mp hR
    rw [← partBuf_emb I b j]
    exact View.write_emb_of_mem (v := partM.access (rectP b)) f (partRows I b) (Finset.mem_univ j)
  · rw [← hf i (hi.resolve_right fun h => hR (Finset.mem_coe.mp h))]
    exact View.write_of_not_mem (v := partM.access (rectP b)) f (partRows I b) Finset.univ (fun h => hR (hs ▸ h))

theorem wp_batch (I : Ins F) (b : Fin 2) (A : Set S1024x1024.Idx) (Q : PUnit → sProp 𝕄) :
    iprop(insOwn c I ∗ partHas c I A)
      ⊢ iprop((insOwn c I ∗ partHas c I (A ∪ ((rectP b).set : Set S1024x1024.Idx)) -∗ Q ⟨⟩)
        -∗ wp frame (wpE (defs₀ (F := F)) 𝒱₀ (c : Thread nD τ) none) Set.univ
          (batchStep (ld rectFull2 I.cos) (ld rectFull2 I.sin) (ld rectMask I.ev) (ld rectMask I.od) b) Q) := by
  unfold insOwn partHas batchStep
  simp only [Prog.lift, Prog.bind_op, Prog.bind_ret]
  iintro ⟨⟨H0, H1, H2, H3, H4, H5, H6, H7, H8⟩, %f, %hf, Hp⟩ Hk
  iapply (wp_load_owns c) $$ H0
  iintro H0
  iapply (wp_load_owns c) $$ H1
  iintro H1
  iapply (wp_load_owns c) $$ H2
  iintro H2
  iapply (wp_load_owns c) $$ H3
  iintro H3
  iapply (wp_load_owns c) $$ H4
  iintro H4
  iapply (wp_load 𝒱₀ (c : Thread nD τ) none Set.univ (m := partM) (Finset.subset_univ _)) $$ Hp
  iintro Hp
  iapply (wp_store 𝒱₀ (c : Thread nD τ) none Set.univ (m := partM) (r := rectP b) (w := partRows I b) (Finset.subset_univ _)) $$ Hp
  iintro Hp
  rw [wp_ret]
  imodintro
  iapply Hk
  isplitr [Hp]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexists _
  isplitr
  swap
  · iexact Hp
  · ipureintro
    exact part_agrees I A b f hf

theorem rows_cover (i : S1024x1024.Idx) : i ∈ ((∅ ∪ ((rectP 0).set : Set S1024x1024.Idx)) ∪ ((rectP 1).set : Set S1024x1024.Idx)) := by
  have h0 : (i 0).val < 1024 := (i 0).isLt
  have h1 : (i 1).val < 1024 := (i 1).isLt
  by_cases h : (i 0).val < 512
  · refine .inl (.inr (Finset.mem_coe.mpr (Rect.mem_set_unit.mpr fun a => ?_)))
    match a with
    | ⟨0, _⟩ => exact ⟨Nat.zero_le _, by show (i 0).val < 0 * 512 + 512; omega⟩
    | ⟨1, _⟩ => exact ⟨Nat.zero_le _, by show (i 1).val < 0 + 1024; omega⟩
  · refine .inr (Finset.mem_coe.mpr (Rect.mem_set_unit.mpr fun a => ?_))
    match a with
    | ⟨0, _⟩ => exact ⟨by show 1 * 512 ≤ (i 0).val; omega, by show (i 0).val < 1 * 512 + 512; omega⟩
    | ⟨1, _⟩ => exact ⟨Nat.zero_le _, by show (i 1).val < 0 + 1024; omega⟩

/-- The part of the body between the barrier and the rings. -/
def loads : Prog (TpuEff nD τ sig (Elt F) Λ₀ .tc) PUnit := do
  let cos ← Prog.lift (.load (Memref.whole cc0_stg5_0 : Memref sig .tc .vmem S512x1024 .f32) rectFull2.toLoadRect (View.loadsAt_vmem h_S512x1024))
  let sin ← Prog.lift (.load (Memref.whole cc0_stg6_0 : Memref sig .tc .vmem S512x1024 .f32) rectFull2.toLoadRect (View.loadsAt_vmem h_S512x1024))
  let ev ← Prog.lift (.load (Memref.whole cc0_stg7_0 : Memref sig .tc .vmem S1x1024 .f32) rectMask.toLoadRect (View.loadsAt_vmem h_S1x1024))
  let od ← Prog.lift (.load (Memref.whole cc0_stg8_0 : Memref sig .tc .vmem S1x1024 .f32) rectMask.toLoadRect (View.loadsAt_vmem h_S1x1024))
  batchStep cos sin ev od 0
  batchStep cos sin ev od 1

/-- It leaves the partial product in its buffer. -/
theorem wp_loads (I : Dev nD → Ins F) (Q : PUnit → sProp 𝕄) :
    iprop(insOwn c (I c) ∗ anyOf c cc0_scratch0)
      ⊢ iprop((insOwn c (I c) ∗ partPts (fun n => partBuf (I n)) c -∗ Q ⟨⟩)
        -∗ wp frame (wpE (defs₀ (F := F)) 𝒱₀ (c : Thread nD τ) none) Set.univ loads Q) := by
  unfold loads anyOf
  simp only [Prog.lift, Prog.bind_op, Prog.bind_ret]
  have e : ∀ I', insOwn c I' = iprop(owns (c : Thread nD τ) (Memref.whole cc0_stg0_0 : Memref sig .tc .vmem S2x512x1024 .f32) fullShare I'.x
    ∗ owns (c : Thread nD τ) (Memref.whole cc0_stg1_0 : Memref sig .tc .vmem S1024x1024 .f32) fullShare I'.wq
    ∗ owns (c : Thread nD τ) (Memref.whole cc0_stg2_0 : Memref sig .tc .vmem S1024x1024 .f32) fullShare I'.wk
    ∗ owns (c : Thread nD τ) (Memref.whole cc0_stg3_0 : Memref sig .tc .vmem S1024x1024 .f32) fullShare I'.wv
    ∗ owns (c : Thread nD τ) (Memref.whole cc0_stg4_0 : Memref sig .tc .vmem S1024x1024 .f32) fullShare I'.wo
    ∗ owns (c : Thread nD τ) (Memref.whole cc0_stg5_0 : Memref sig .tc .vmem S512x1024 .f32) fullShare I'.cos
    ∗ owns (c : Thread nD τ) (Memref.whole cc0_stg6_0 : Memref sig .tc .vmem S512x1024 .f32) fullShare I'.sin
    ∗ owns (c : Thread nD τ) (Memref.whole cc0_stg7_0 : Memref sig .tc .vmem S1x1024 .f32) fullShare I'.ev
    ∗ owns (c : Thread nD τ) (Memref.whole cc0_stg8_0 : Memref sig .tc .vmem S1x1024 .f32) fullShare (I' : Ins F).od) := fun _ => rfl
  iintro ⟨HI, %f, Hp⟩ Hk
  ihave HI := (Entails.of_eq (e (I c))) $$ HI
  icases HI with ⟨H0, H1, H2, H3, H4, H5, H6, H7, H8⟩
  iapply (wp_load_owns c) $$ H5
  iintro H5
  iapply (wp_load_owns c) $$ H6
  iintro H6
  iapply (wp_load_owns c) $$ H7
  iintro H7
  iapply (wp_load_owns c) $$ H8
  iintro H8
  rw [wp_bind]
  iapply (wp_batch c (I c) 0 ∅) $$ [H0 H1 H2 H3 H4 H5 H6 H7 H8 Hp]
  · isplitr [Hp]
    · iapply (Entails.of_eq (e (I c)).symm)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    unfold partHas
    iexists f
    isplitr; · ipureintro; exact fun i h => absurd h (Set.notMem_empty i)
    iexact Hp
  iintro ⟨HI, Hp⟩
  iapply (wp_batch c (I c) 1 _) $$ [HI Hp]
  · isplitl [HI]; · iexact HI
    iexact Hp
  iintro ⟨HI, Hp⟩
  iapply Hk
  isplitl [HI]; · iexact HI
  unfold partHas partPts
  icases Hp with ⟨%g, %hg, Hp⟩
  rw [show g = partBuf (I c) from funext fun i => hg i (rows_cover i)]
  iexact Hp

end Steps

end Cert.KernelIdeal.Ring

end
-- ==== Proof.KernelIdealWhole.lean ====
/-
  The whole body of a device: the meeting at the barrier, the partial product, the rings, and the semaphores taken out again.
-/
module

public import proofs.«01_k».proof.Proof.KernelIdealBody

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Steps

variable (P : Dev nD → (cc0_scratch0 : Ref sig .tc).ty.Contents (Elt F)) (κ : GSem nD τ sig → ℕ) (c : Dev nD)

/-! ## What a device starts with -/

/-- What it may consult from the start. -/
def base : sProp 𝕄 :=
  iprop(invs P κ ∗ levAts L lv ∗ ownReached c ∗ reached ER (barCell (dirDev true c)) 0 ∗ reached ER (barCell (dirDev false c)) 0)
instance base_persistent : BI.Persistent (base P κ c) := by unfold base; infer_instance

/-- The two duties of a hop's transfer. -/
def tokens (ag : Bool) (h : Hop) : sProp 𝕄 :=
  iprop(dutyTok ER (sendCell c ag h.1 h.2.1 h.2.2) 0 true ∗ dutyTok ER (recvCell (dirDev h.1 c) ag h.1 h.2.1 h.2.2) 0 true)
/-- That a hop's landing will be paid. -/
def landCred (ag : Bool) (h : Hop) : sProp 𝕄 := cred (tallyAt (recvCell c ag h.1 h.2.1 h.2.2) () N)

/-- The duties and the position at the barrier. -/
def meetKit : sProp 𝕄 :=
  iprop(dutyTok ER (barCell (dirDev false c)) 0 true ∗ dutyTok ER (barCell (dirDev true c)) 0 false
    ∗ cred (tallyAt (barCell c) () 2) ∗ atPos ER (barCell c) 0 ∅ 0)

/-- Everything it starts with that is used up. -/
def startKit : sProp 𝕄 :=
  iprop(meetKit c ∗ (bigSep Finset.univ fun x : Cix => atPos ER (dmaCell c x) 0 ∅ 0)
    ∗ (bigSepL hops (tokens c false) ∗ bigSepL hops (tokens c true))
    ∗ (bigSepL hops (landCred c false) ∗ bigSepL hops (landCred c true)))

/-! ## The barrier -/

/-- A direction's slots, and that their landings can be paid, for the device that sends there. -/
theorem bar_pays : iprop(ownReached (F := F) c ∗ bigSep liveHops fun x => slotAny c x.1 x.2.1 x.2.2.1 x.2.2.2)
    ⊢ iprop(barPay c true ∗ barPay c false) := by
  have h : iprop(ownReached (F := F) c ∗ bigSep liveHops fun x => slotAny c x.1 x.2.1 x.2.2.1 x.2.2.2)
      ⊢ bigSep liveHops fun x => iprop(slotAny (F := F) c x.1 x.2.1 x.2.2.1 x.2.2.2 ∗ reached ER (recvCell c x.1 x.2.1 x.2.2.1 x.2.2.2) 0) := by
    exact bigSep_with_persistent fun x _ => by
      iintro ⟨#Hr, H⟩
      isplitl [H]; · iexact H
      iapply (reached_own (F := F) c); iexact Hr
  refine h.trans (Entails.of_eq ?_)
  rw [bigSep_sides]
  rfl

/-- A neighbour's slots in both directions. -/
theorem bar_gets : iprop(barPay (F := F) (dirDev true c) true ∗ barPay (dirDev false c) false)
    ⊢ iprop((bigSepL hops (fun h => slotAny (dirDev h.1 c) false h.1 h.2.1 h.2.2) ∗ bigSepL hops (fun h => slotAny (dirDev h.1 c) true h.1 h.2.1 h.2.2))
      ∗ nbrReached c) := by
  have e : iprop(barPay (F := F) (dirDev true c) true ∗ barPay (dirDev false c) false)
      = bigSep liveHops fun x => iprop(slotAny (dirDev x.2.1 c) x.1 x.2.1 x.2.2.1 x.2.2.2 ∗ reached ER (recvCell (dirDev x.2.1 c) x.1 x.2.1 x.2.2.1 x.2.2.2) 0) := by
    rw [bigSep_sides]; rfl
  have e₂ : (bigSep liveHops fun x : Bool × Hop => iprop(slotAny (F := F) (dirDev x.2.1 c) x.1 x.2.1 x.2.2.1 x.2.2.2 ∗ reached ER (recvCell (dirDev x.2.1 c) x.1 x.2.1 x.2.2.1 x.2.2.2) 0))
      = iprop((bigSep liveHops fun x : Bool × Hop => slotAny (F := F) (dirDev x.2.1 c) x.1 x.2.1 x.2.2.1 x.2.2.2) ∗ nbrReached c) :=
    bigSep_sep liveHops _ _
  rw [e, e₂, bigSep_live]

theorem owed_first : O₀ c = (owed c false hops + owed c true hops + tallyAt (barCell (dirDev true c)) () 1) + tallyAt (barCell (dirDev false c)) () 1 := rfl

/-- Both neighbours are told, and both are heard. -/
theorem wp_meet (p : Prog (TpuEff nD τ sig (Elt F) Λ₀ .tc) PUnit) (Q : PUnit → sProp 𝕄) :
    iprop(base P κ c ∗ meetKit c ∗ (bigSep liveHops fun x => slotAny c x.1 x.2.1 x.2.2.1 x.2.2.2) ∗ ∃ W, owes (c : Thread nD τ) (O₀ c) W)
      ⊢ iprop((atPos ER (barCell c) 1 ∅ 0
          ∗ (bigSepL hops (fun h => slotAny (dirDev h.1 c) false h.1 h.2.1 h.2.2) ∗ bigSepL hops (fun h => slotAny (dirDev h.1 c) true h.1 h.2.1 h.2.2))
          ∗ nbrReached c ∗ owing c hops hops
          -∗ wp frame (wpE (defs₀ (F := F)) 𝒱₀ (c : Thread nD τ) none) Set.univ p Q)
        -∗ wp frame (wpE (defs₀ (F := F)) 𝒱₀ (c : Thread nD τ) none) Set.univ
          (semSignalWord (dirDev false c) barSem 1#32 >>= fun _ => semSignalWord (dirDev true c) barSem 1#32 >>= fun _ => semWaitWord barSem 2#32 >>= fun _ => p) Q) := by
  unfold base meetKit owing
  simp only [semSignalWord, semWaitWord, Prog.bind_op, Prog.bind_ret]
  iintro ⟨⟨#HI, #Hlev, #Hown, #HrT, #HrF⟩, ⟨Ht1, Ht2, Hc, Hat⟩, Hs, %W, HO⟩ Hk
  ihave Hp := (bar_pays c) $$ [Hs]
  · isplitr; · iexact Hown
    iexact Hs
  icases Hp with ⟨HpT, HpF⟩
  iapply (Rounds.wp_signal 𝒱₀ ER (Rd P) (c : Thread nD τ) none (dst := (dirDev false c : Thread nD τ)) (sem := barSem) (r := 0) (d := true)
      (κ := κ (barCell (dirDev false c)))
      (by rw [duties_bar]; exact Finset.mem_univ _) (amount_bar P (dirDev false c) true) ()
      (owed c false hops + owed c true hops + tallyAt (barCell (dirDev true c)) () 1) rfl) $$ [HO Ht1 HpT]
  · isplitr; · iapply (inv_bar P κ); iexact HI
    isplitl [HO]; · iexact HO
    isplitl [Ht1]; · iexact Ht1
    isplitl [HpT]
    · rw [payload_bar, show dirDev true (dirDev false c) = c from dirDev_dirDev true c]; iexact HpT
    iexact HrF
  iintro HO
  iapply (Rounds.wp_signal 𝒱₀ ER (Rd P) (c : Thread nD τ) none (dst := (dirDev true c : Thread nD τ)) (sem := barSem) (r := 0) (d := false)
      (κ := κ (barCell (dirDev true c)))
      (by rw [duties_bar]; exact Finset.mem_univ _) (amount_bar P (dirDev true c) false) ()
      (owed c false hops + owed c true hops) rfl) $$ [HO Ht2 HpF]
  · isplitr; · iapply (inv_bar P κ); iexact HI
    isplitl [HO]; · iexact HO
    isplitl [Ht2]; · iexact Ht2
    isplitl [HpF]
    · rw [payload_bar, show dirDev false (dirDev true c) = c from dirDev_dirDev false c]; iexact HpF
    iexact HrT
  iintro HO
  iapply (Rounds.wp_wait_rest_token 𝒱₀ ER (Rd P) (c : Thread nD τ) none (κ := κ (barCell c))
      (wpE_semWait_eq 𝒱₀ (c : Thread nD τ) none Set.univ) (Set.mem_univ _) () (O := owed c false hops + owed c true hops) (W := W) (R := 0) (m := 0) (T := ∅)
      ((Nat.zero_add _).trans (expect_bar P c).symm)) $$ [Hc HO Hat]
  · isplitr; · iapply (inv_bar P κ); iexact HI
    isplitl [Hc]; · iexact Hc
    isplitl [HO]; · iexact HO
    isplitr
    · iapply (mayWait c (.reg barSem) hops hops (by decide +kernel) (by decide +kernel)); iexact Hlev
    iexact Hat
  iintro ⟨HO, Hat, -, Hpay⟩
  ihave Hp := (Entails.of_eq (rest_bar P c)) $$ Hpay
  ihave Hp := (bar_gets c) $$ Hp
  icases Hp with ⟨Hp, Hn⟩
  iapply Hk
  isplitl [Hat]; · iexact Hat
  isplitl [Hp]; · iexact Hp
  isplitl [Hn]; · iexact Hn
  iexists _; iexact HO

/-! ## The semaphores at the end -/

/-- A position no round of which is left. -/
def spent (x : Cix) : sProp 𝕄 := iprop(∃ n, ⌜∀ k, n ≤ k → (Rd P).duties (dmaCell c x) k = ∅⌝ ∗ atPos ER (dmaCell c x) n ∅ 0)

theorem spent_hop (ag v : Bool) (h : Hop) : posAt c 1 ag v h ⊢ spent P c (cixOf ag v h) := by
  unfold posAt spent cixOf
  iintro H
  iexists 1
  isplitr; · ipureintro; exact duties_later P _
  iexact H

theorem spent_dead (ag v : Bool) (h : Hop) (hd : h ∈ deads) : (atPos ER (dmaCell c (cixOf ag v h)) 0 ∅ 0 : sProp 𝕄) ⊢ spent P c (cixOf ag v h) := by
  unfold spent
  iintro H
  iexists 0
  isplitr
  · ipureintro
    exact duties_dead P c ag h.1 v h.2.1 h.2.2 (by revert h; decide)
  iexact H

theorem spent_close : iprop(invs P κ ∗ bigSep Finset.univ (spent P c))
    ⊢ iprop(|={Set.univ}=> bigSep Finset.univ fun x : Cix => semVal (dmaCell c x) 0) := by
  have h : iprop(invs P κ ∗ bigSep Finset.univ (spent P c)) ⊢ bigSep Finset.univ fun x : Cix => iprop(|={Set.univ}=> semVal (dmaCell c x) 0) :=
    bigSep_with_persistent fun x _ => by
      unfold spent
      iintro ⟨#HI, %n, %hn, H⟩
      iapply (Rounds.cell_close ER (Rd P) (κ := κ (dmaCell c x)) (Set.mem_univ _) id hn)
      isplitr; · iapply (inv_dma P κ c x); iexact HI
      iexact H
  exact h.trans (bigSep_fupd _ _)

/-! ## The whole body -/

/-- The device's own buffers. -/
def allBufs : sProp 𝕄 :=
  iprop(anyOf (F := F) c cc0_scratch0 ∗ anyOf (F := F) c cc0_scratch1 ∗ anyOf (F := F) c cc0_scratch2 ∗ anyOf (F := F) c cc0_scratch3
    ∗ anyOf (F := F) c cc0_scratch4 ∗ anyOf (F := F) c cc0_scratch5 ∗ anyOf (F := F) c cc0_scratch6)

theorem head_eq (d : Dev nD) : head (F := F) d
    = (semSignalWord (dirDev false d) barSem 1#32 >>= fun _ => semSignalWord (dirDev true d) barSem 1#32 >>= fun _ => semWaitWord barSem 2#32 >>= fun _ => loads) := rfl

theorem hop_kits (ag : Bool) :
    iprop(bigSepL hops (fun h => slotAny (F := F) (dirDev h.1 c) ag h.1 h.2.1 h.2.2) ∗ bigSepL hops (tokens c ag)) ⊢ bigSepL hops (sendKit c ag) := by
  refine (bigSepL_pair _ _ hops).trans (bigSepL_mono fun h _ => ?_)
  unfold tokens sendKit
  iintro ⟨H, H'⟩
  isplitl [H] <;> iassumption

theorem land_kits (ag : Bool) :
    iprop(bigSepL hops (posAt (F := F) c 0 ag true) ∗ bigSepL hops (landCred c ag)) ⊢ bigSepL hops (recvKit c ag) := by
  refine (bigSepL_pair _ _ hops).trans (bigSepL_mono fun h _ => ?_)
  unfold posAt landCred recvKit waitKit
  iintro ⟨H, H'⟩
  isplitl [H] <;> iassumption

theorem allSlots_live : allSlots (F := F) c
    = iprop((bigSep liveHops fun x => slotAny c x.1 x.2.1 x.2.2.1 x.2.2.2)
      ∗ (bigSepL deads (fun h => slotAny c false h.1 h.2.1 h.2.2) ∗ bigSepL deads (fun h => slotAny c true h.1 h.2.1 h.2.2))) := by
  unfold allSlots; rw [bigSep_slots, bigSep_live]

theorem positions : (bigSep Finset.univ fun x : Cix => (atPos ER (dmaCell c x) 0 ∅ 0 : sProp 𝕄))
    = iprop((((bigSepL hops (posAt c 0 false false) ∗ bigSepL hops (posAt c 0 true false)) ∗ bigSepL hops (posAt c 0 false true)) ∗ bigSepL hops (posAt c 0 true true))
      ∗ (((bigSepL deads (fun h => atPos ER (dmaCell c (cixOf false false h)) 0 ∅ 0) ∗ bigSepL deads (fun h => atPos ER (dmaCell c (cixOf true false h)) 0 ∅ 0))
        ∗ bigSepL deads (fun h => atPos ER (dmaCell c (cixOf false true h)) 0 ∅ 0)) ∗ bigSepL deads (fun h => atPos ER (dmaCell c (cixOf true true h)) 0 ∅ 0))) :=
  bigSep_cix _

/-- The rings' semaphores when all is done. -/
theorem all_spent :
    iprop((bigSepL hops (posAt (F := F) c 1 false false) ∗ bigSepL hops (posAt c 1 true false) ∗ bigSepL hops (posAt c 1 false true) ∗ bigSepL hops (posAt c 1 true true))
      ∗ (((bigSepL deads (fun h => atPos ER (dmaCell c (cixOf false false h)) 0 ∅ 0) ∗ bigSepL deads (fun h => atPos ER (dmaCell c (cixOf true false h)) 0 ∅ 0))
        ∗ bigSepL deads (fun h => atPos ER (dmaCell c (cixOf false true h)) 0 ∅ 0)) ∗ bigSepL deads (fun h => atPos ER (dmaCell c (cixOf true true h)) 0 ∅ 0)))
      ⊢ bigSep Finset.univ (spent P c) := by
  rw [bigSep_cix (spent P c)]
  have hh : ∀ ag v, bigSepL hops (posAt (F := F) c 1 ag v) ⊢ bigSepL hops (fun h => spent P c (cixOf ag v h)) := fun ag v =>
    bigSepL_mono fun h _ => spent_hop P c ag v h
  have hd : ∀ ag v, bigSepL deads (fun h => (atPos ER (dmaCell c (cixOf ag v h)) 0 ∅ 0 : sProp 𝕄)) ⊢ bigSepL deads (fun h => spent P c (cixOf ag v h)) := fun ag v =>
    bigSepL_mono fun h hm => spent_dead P c ag v h hm
  iintro ⟨⟨H1, H2, H3, H4⟩, ⟨⟨D1, D2⟩, D3⟩, D4⟩
  isplitl [H1 H2 H3 H4]
  · isplitr [H4]
    · isplitr [H3]
      · isplitl [H1]; · iapply (hh false false) $$ H1
        iapply (hh true false) $$ H2
      iapply (hh false true) $$ H3
    iapply (hh true true) $$ H4
  isplitr [D4]
  · isplitr [D3]
    · isplitl [D1]; · iapply (hd false false) $$ D1
      iapply (hd true false) $$ D2
    iapply (hd false true) $$ D3
  iapply (hd true true) $$ D4

/-- A device's body: from its blocks, its buffers, its rights and what it owes, to the result in its buffer, every semaphore at zero and
    nothing owed. -/
theorem wp_whole (I : Dev nD → Ins F) (t : Fin cfg0.N) (Q : PUnit → sProp 𝕄) :
    iprop(base (fun n => partBuf (I n)) κ c ∗ startKit c ∗ allBufs c ∗ insOwn c (I c) ∗ anyOf c cc0_stg9_0 ∗ (∃ W, owes (c : Thread nD τ) (O₀ c) W))
      ⊢ iprop((semVal (barCell c) 0 ∗ (bigSep Finset.univ fun x : Cix => semVal (dmaCell c x) 0) ∗ allBufs c ∗ insOwn c (I c)
          ∗ (outM.view.loc (c : Thread nD τ) ↦{fullShare} outAt (fun n => partBuf (I n)) c) ∗ (∃ W, owes (c : Thread nD τ) 0 W) -∗ Q ⟨⟩)
        -∗ wp frame (wpE (defs₀ (F := F)) 𝒱₀ (c : Thread nD τ) none) Set.univ (bodyAt0 (F := F) t) Q) := by
  rw [body_eq]
  simp only [Prog.lift, Prog.bind_op, Prog.bind_ret, wp_deviceId]
  rw [wp_bind, head_eq]
  unfold startKit allBufs
  iintro ⟨#Hbase, ⟨Hmeet, Hpos, ⟨Ht0, Ht1⟩, Hl0, Hl1⟩, ⟨B0, B1, B2, B3, B4, B5, B6⟩, Hin, Hout, HO⟩ Hk
  ihave Hsl := (bufs_split (F := F) c) $$ [B3 B4 B5 B6]
  · unfold ringBufs bufRef
    isplitl [B3 B4]
    · isplitl [B4]; · iexact B4
      iexact B3
    isplitl [B6]; · iexact B6
    iexact B5
  ihave Hsl := (Entails.of_eq (allSlots_live (F := F) c)) $$ Hsl
  icases Hsl with ⟨Hlive, Hdead⟩
  ihave Hpos := (Entails.of_eq (positions (F := F) c)) $$ Hpos
  icases Hpos with ⟨⟨⟨⟨P0, P1⟩, P2⟩, P3⟩, Pdead⟩
  iapply (wp_meet (fun n => partBuf (I n)) κ c) $$ [Hmeet Hlive HO]
  · isplitr; · iexact Hbase
    isplitl [Hmeet]; · iexact Hmeet
    isplitl [Hlive]; · iexact Hlive
    iexact HO
  iintro ⟨Hbar, ⟨Hn0, Hn1⟩, #Hnbr, HO⟩
  iapply (wp_loads c I) $$ [Hin B0]
  · isplitl [Hin]; · iexact Hin
    iexact B0
  iintro ⟨Hin, Hpart⟩
  unfold base
  icases Hbase with ⟨#HI, #Hlev, #Hown, -, -⟩
  ihave K0 := (hop_kits (F := F) c false) $$ [Hn0 Ht0]
  · isplitl [Hn0] <;> iassumption
  ihave K1 := (hop_kits (F := F) c true) $$ [Hn1 Ht1]
  · isplitl [Hn1] <;> iassumption
  ihave R0 := (land_kits (F := F) c false) $$ [P2 Hl0]
  · isplitl [P2] <;> iassumption
  ihave R1 := (land_kits (F := F) c true) $$ [P3 Hl1]
  · isplitl [P3] <;> iassumption
  ihave Hseeds := (seeds_iff (F := F) c).1 $$ B2
  ihave Hmy := (my_iff (F := F) c).1 $$ B1
  icases Hmy with ⟨M0, M1⟩
  iapply (wp_fupd frame (wpE (defs₀ (F := F)) 𝒱₀ (c : Thread nD τ) none) Set.univ _ Q)
  iapply (wp_rings (fun n => partBuf (I n)) κ c) $$ [Hpart Hout K0 K1 R0 R1 P0 P1 Hseeds M0 M1 HO]
  · isplitr
    · unfold ctx
      isplitr; · iexact HI
      isplitr; · iexact Hlev
      isplitr; · iexact Hown
      iexact Hnbr
    isplitl [Hpart]; · iexact Hpart
    isplitl [Hout]
    · unfold outHas anyOf
      icases Hout with ⟨%f, Hout⟩
      iexists f
      isplitr; · ipureintro; exact fun i h => absurd h (Set.notMem_empty i)
      iexact Hout
    isplitr [HO]
    · unfold ringsIn
      isplitl [K0]; · iexact K0
      isplitl [K1]; · iexact K1
      isplitl [R0]; · iexact R0
      isplitl [R1]; · iexact R1
      isplitl [P0]; · iexact P0
      isplitl [P1]; · iexact P1
      isplitl [Hseeds]; · iexact Hseeds
      isplitl [M0]; · iexact M0
      iexact M1
    iexact HO
  unfold ringsOut
  iintro ⟨Hpart, Hout, ⟨Hps, Hs0, Hs1, Hseeds, M0, M1⟩, HO⟩
  imod (Rounds.cell_close ER (Rd fun n => partBuf (I n)) (κ := κ (barCell c)) (Set.mem_univ _) id (duties_later (fun n => partBuf (I n)) (barCell c))) $$ [Hbar] with Hb0
  · isplitr; · iapply (inv_bar (fun n => partBuf (I n)) κ); iexact HI
    iexact Hbar
  ihave Hsp := (all_spent (fun n => partBuf (I n)) c) $$ [Hps Pdead]
  · isplitl [Hps]; · iexact Hps
    iexact Pdead
  imod (spent_close (fun n => partBuf (I n)) κ c) $$ [Hsp] with Hd0
  · isplitr; · iexact HI
    iexact Hsp
  imodintro
  iapply Hk
  isplitl [Hb0]; · iexact Hb0
  isplitl [Hd0]; · iexact Hd0
  ihave Hsl := (Entails.of_eq ((allSlots_live (F := F) c).trans (by rw [bigSep_live])).symm) $$ [Hs0 Hs1 Hdead]
  · isplitl [Hs0 Hs1]
    · isplitl [Hs0]; · iexact Hs0
      iexact Hs1
    iexact Hdead
  ihave Hsl := (bufs_join (F := F) c) $$ Hsl
  unfold ringBufs bufRef
  icases Hsl with ⟨⟨B4, B3⟩, B6, B5⟩
  isplitr [Hin Hout HO]
  · isplitl [Hpart]; · unfold partPts anyOf; iexists _; iexact Hpart
    isplitl [M0 M1]
    · iapply (my_iff (F := F) c).2
      isplitl [M0]; · iexact M0
      iexact M1
    isplitl [Hseeds]; · iapply (seeds_iff (F := F) c).2 $$ Hseeds
    isplitl [B3]; · iexact B3
    isplitl [B4]; · iexact B4
    isplitl [B5]; · iexact B5
    iexact B6
  isplitl [Hin]; · iexact Hin
  isplitl [Hout]
  · unfold outHas
    icases Hout with ⟨%g, %hg, Hout⟩
    rw [show g = outAt (fun n => partBuf (I n)) c from funext fun i => hg i (stored_all c i)]
    iexact Hout
  unfold owing
  icases HO with ⟨%W, HO⟩
  iexists W
  iapply (Entails.of_eq (congrArg (fun O => (owes (c : Thread nD τ) O W : sProp 𝕄))
    (show owed c false [] + owed c true [] = 0 from by rw [owed, owed, add_zero])))
  iexact HO

end Steps

end Cert.KernelIdeal.Ring

end
-- ==== Proof.KernelIdealWindows.lean ====
/-
  The ten windows of the kernel are whole arrays: what is fetched is the array, what is written back becomes the array.
-/
module

public import proofs.«01_k».proof.Proof.KernelIdealWhole
public import proofs.«01_k».proof.Proof.Gen.KernelIdeal.Launch
public import proofs.«01_k».proof.Proof.Gen.KernelIdeal.Frame

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- The arrays the kernel is called with on a device. -/
def insAt (c : Dev nD) : Ins F where
  x := V m c main_arg0
  wq := V m c main_arg1
  wk := V m c main_arg2
  wv := V m c main_arg3
  wo := V m c main_arg4
  cos := V m c main_v28
  sin := V m c main_v31
  ev := V m c main_v35
  od := V m c main_v37

/-- The partial product of a device. -/
def partsAt (n : Dev nD) : (cc0_scratch0 : Ref sig .tc).ty.Contents (Elt F) := partBuf (insAt m n)

/-- The kernel's result on a device. -/
def resAt (c : Dev nD) : S2x512x1024.Idx → F .f32 := outAt (partsAt m) c

section Whole

variable {s : Shape} {e : EltTy} {cs : CoreSpace} (arr : Memref sig .tc .hbm s e) (o sy : Bool)
  (stage : Memref sig .tc (.core cs) ⟨s.rank, s.size⟩ e) (sem : DmaSem sig) (ha : arr.IsWhole) (hs : stage.IsWhole)

/-- A whole window's block is its array, index by index. -/
theorem whole_emb (t : Fin grid0.N) (y : s.Idx) : ((Pipeline.Window.whole arr o sy stage sem ha hs).blk t).view.emb y = arr.view.emb y := by
  refine congrArg arr.view.emb (funext fun a => Fin.ext ?_)
  show 0 * _ + 1 * (y a).val = _
  rw [Nat.zero_mul, Nat.zero_add, Nat.one_mul]

theorem whole_read (t : Fin grid0.N) (f : arr.view.ty.Contents (Elt F)) :
    ((Pipeline.Window.whole arr o sy stage sem ha hs).blk t).view.read (Elt F) f = arr.view.read (Elt F) f := by
  funext y
  rw [View.read_apply, View.read_apply]
  exact congrArg (fun i => _root_.cast _ (f i)) (whole_emb arr o sy stage sem ha hs t y)

end Whole

theorem iblk_0 (c : Dev nD) (t : Fin cfg0.N) : iblk m c 0 t = (insAt m c).x := whole_read (Memref.whole main_arg0) _ _ _ _ (Memref.isWhole_whole _) (hstage0_0 0) t _
theorem iblk_1 (c : Dev nD) (t : Fin cfg0.N) : iblk m c 1 t = (insAt m c).wq := whole_read (Memref.whole main_arg1) _ _ _ _ (Memref.isWhole_whole _) (hstage0_1 0) t _
theorem iblk_2 (c : Dev nD) (t : Fin cfg0.N) : iblk m c 2 t = (insAt m c).wk := whole_read (Memref.whole main_arg2) _ _ _ _ (Memref.isWhole_whole _) (hstage0_2 0) t _
theorem iblk_3 (c : Dev nD) (t : Fin cfg0.N) : iblk m c 3 t = (insAt m c).wv := whole_read (Memref.whole main_arg3) _ _ _ _ (Memref.isWhole_whole _) (hstage0_3 0) t _
theorem iblk_4 (c : Dev nD) (t : Fin cfg0.N) : iblk m c 4 t = (insAt m c).wo := whole_read (Memref.whole main_arg4) _ _ _ _ (Memref.isWhole_whole _) (hstage0_4 0) t _
theorem iblk_5 (c : Dev nD) (t : Fin cfg0.N) : iblk m c 5 t = (insAt m c).cos := whole_read (Memref.whole main_v28) _ _ _ _ (Memref.isWhole_whole _) (hstage0_5 0) t _
theorem iblk_6 (c : Dev nD) (t : Fin cfg0.N) : iblk m c 6 t = (insAt m c).sin := whole_read (Memref.whole main_v31) _ _ _ _ (Memref.isWhole_whole _) (hstage0_6 0) t _
theorem iblk_7 (c : Dev nD) (t : Fin cfg0.N) : iblk m c 7 t = (insAt m c).ev := whole_read (Memref.whole main_v35) _ _ _ _ (Memref.isWhole_whole _) (hstage0_7 0) t _
theorem iblk_8 (c : Dev nD) (t : Fin cfg0.N) : iblk m c 8 t = (insAt m c).od := whole_read (Memref.whole main_v37) _ _ _ _ (Memref.isWhole_whole _) (hstage0_8 0) t _

/-! ## The proof data of the region -/

/-- What a device enters the kernel with beside its buffers: the invariants at some names, and its own. -/
def entry (c : Dev nD) : sProp 𝕄 := iprop(∃ κ, base (partsAt m) κ c ∗ startKit c)
/-- What it leaves with: every semaphore of its own at zero. -/
def leave (c : Dev nD) : sProp 𝕄 := iprop(semVal (barCell c) 0 ∗ bigSep Finset.univ fun x : Cix => semVal (dmaCell c x) 0)

def dat0 (c : Dev nD) : Pipeline.Dat τ (Elt F) Unit ℕ UU ℕ cfg0 c where
  A w := V m c (Pipeline.arrRef spec0 w)
  after w t := match w with
    | ⟨0, _⟩ => (insAt m c).x
    | ⟨1, _⟩ => (insAt m c).wq
    | ⟨2, _⟩ => (insAt m c).wk
    | ⟨3, _⟩ => (insAt m c).wv
    | ⟨4, _⟩ => (insAt m c).wo
    | ⟨5, _⟩ => (insAt m c).cos
    | ⟨6, _⟩ => (insAt m c).sin
    | ⟨7, _⟩ => (insAt m c).ev
    | ⟨8, _⟩ => (insAt m c).od
    | ⟨9, _⟩ => resAt m c
  Φ t := if t.val = 0 then iprop(entry m c ∗ allBufs c ∗ ∃ r, prngReg c r) else iprop(leave c ∗ allBufs c ∗ ∃ r, prngReg c r)
  q _ := fullShare
  owed t := if t.val = 0 then O₀ c else 0

/-- Before the body every input's staging buffer holds its array. -/
theorem before_0 (c : Dev nD) (t : Fin cfg0.N) (d) : (dat0 m c).before 0 t d = (insAt m c).x := by
  unfold Pipeline.Dat.before
  rw [if_pos (fetch0_0 t)]
  exact iblk_0 m c t
theorem before_1 (c : Dev nD) (t : Fin cfg0.N) (d) : (dat0 m c).before 1 t d = (insAt m c).wq := by
  unfold Pipeline.Dat.before
  rw [if_pos (fetch0_1 t)]
  exact iblk_1 m c t
theorem before_2 (c : Dev nD) (t : Fin cfg0.N) (d) : (dat0 m c).before 2 t d = (insAt m c).wk := by
  unfold Pipeline.Dat.before
  rw [if_pos (fetch0_2 t)]
  exact iblk_2 m c t
theorem before_3 (c : Dev nD) (t : Fin cfg0.N) (d) : (dat0 m c).before 3 t d = (insAt m c).wv := by
  unfold Pipeline.Dat.before
  rw [if_pos (fetch0_3 t)]
  exact iblk_3 m c t
theorem before_4 (c : Dev nD) (t : Fin cfg0.N) (d) : (dat0 m c).before 4 t d = (insAt m c).wo := by
  unfold Pipeline.Dat.before
  rw [if_pos (fetch0_4 t)]
  exact iblk_4 m c t
theorem before_5 (c : Dev nD) (t : Fin cfg0.N) (d) : (dat0 m c).before 5 t d = (insAt m c).cos := by
  unfold Pipeline.Dat.before
  rw [if_pos (fetch0_5 t)]
  exact iblk_5 m c t
theorem before_6 (c : Dev nD) (t : Fin cfg0.N) (d) : (dat0 m c).before 6 t d = (insAt m c).sin := by
  unfold Pipeline.Dat.before
  rw [if_pos (fetch0_6 t)]
  exact iblk_6 m c t
theorem before_7 (c : Dev nD) (t : Fin cfg0.N) (d) : (dat0 m c).before 7 t d = (insAt m c).ev := by
  unfold Pipeline.Dat.before
  rw [if_pos (fetch0_7 t)]
  exact iblk_7 m c t
theorem before_8 (c : Dev nD) (t : Fin cfg0.N) (d) : (dat0 m c).before 8 t d = (insAt m c).od := by
  unfold Pipeline.Dat.before
  rw [if_pos (fetch0_8 t)]
  exact iblk_8 m c t

theorem flushed_9 (c : Dev nD) (t : Fin cfg0.N) : (dat0 m c).flushed 9 t = resAt m c := by
  funext y
  rfl

theorem res_final (c : Dev nD) : (dat0 m c).arrAt 9 cfg0.N = resAt m c :=
  (dat0 m c).arrAt_eq_of_cover 9 (resAt m c)
    (fun t _ => (flushed_9 m c t).trans (whole_read (Memref.whole main_v38) _ _ _ _ (Memref.isWhole_whole _) (hstage0_9 0) t (resAt m c)).symm)
    fun i => ⟨t0_0, flush0_9 _, by
      have h := ((cfg0.win 9).blk t0_0).view.emb_mem_set i
      rwa [whole_emb (Memref.whole main_v38) _ _ _ _ (Memref.isWhole_whole _) (hstage0_9 0) t0_0 i] at h⟩

/-! ## The body -/

theorem due_first (c : Dev nD) (t : Fin cfg0.N) : (dat0 m c).owed t.castSucc = O₀ c := by
  obtain rfl := fin_N0 t
  show (if (t0_0.castSucc : Fin (cfg0.N + 1)).val = 0 then O₀ c else 0) = O₀ c
  exact if_pos rfl
theorem due_last (c : Dev nD) (t : Fin cfg0.N) : (dat0 m c).owed t.succ = 0 := by
  obtain rfl := fin_N0 t
  show (if (t0_0.succ : Fin (cfg0.N + 1)).val = 0 then O₀ c else 0) = 0
  exact if_neg (Nat.succ_ne_zero _)
theorem inv_first (c : Dev nD) (t : Fin cfg0.N) : (dat0 m c).Φ t.castSucc = iprop(entry m c ∗ allBufs c ∗ ∃ r, prngReg c r) := by
  obtain rfl := fin_N0 t
  rfl
theorem inv_last (c : Dev nD) (t : Fin cfg0.N) : (dat0 m c).Φ t.succ = iprop(leave c ∗ allBufs c ∗ ∃ r, prngReg c r) := by
  obtain rfl := fin_N0 t
  rfl

theorem owes_in (c : Dev nD) (t : Fin (cfg0.N + 1)) (O : CellTallies nD τ sig Unit) (h : (dat0 m c).owed t = O) (W : Waits sig Unit) :
    (owes (c : Thread nD τ) O W : sProp 𝕄) ⊢ (dat0 m c).owesAt () t := by
  unfold Dat.owesAt Pipeline.owesWithin Dat.bound
  rw [h]
  iintro HO
  iexists W
  isplitr; · ipureintro; exact fun _ _ => Or.inl trivial
  iexact HO
theorem owes_out (c : Dev nD) (t : Fin (cfg0.N + 1)) (O : CellTallies nD τ sig Unit) (h : (dat0 m c).owed t = O) :
    (dat0 m c).owesAt () t ⊢ (iprop(∃ W, owes (c : Thread nD τ) O W) : sProp 𝕄) := by
  unfold Dat.owesAt Pipeline.owesWithin
  rw [h]
  iintro ⟨%W, -, HO⟩
  iexists W
  iexact HO

/-- Owning the result's staging buffer at some contents. -/
theorem out_any (c : Dev nD) (X : S2x512x1024.Idx → F .f32) :
    (owns (c : Thread nD τ) outM fullShare X : sProp 𝕄) ⊢ anyOf c cc0_stg9_0 := by
  unfold owns anyOf
  iintro ⟨%f, -, H⟩
  iexists f
  rw [View.set_whole]
  iexact H
theorem out_own (c : Dev nD) (X : S2x512x1024.Idx → F .f32) :
    (outM.view.loc (c : Thread nD τ) ↦{fullShare} X : sProp 𝕄) ⊢ owns (c : Thread nD τ) outM fullShare X := by
  unfold owns
  iintro H
  iexists X
  isplitr; · ipureintro; rfl
  rw [View.set_whole]
  iexact H

theorem body0 (c : Dev nD) : BodyObligation (dat0 (F := F) m c) defs₀ 𝒱₀ () Set.univ := fun t => by
  rw [bigSep_W0, bigSep_W0]
  simp only [before_0, before_1, before_2, before_3, before_4, before_5, before_6, before_7, before_8]
  rw [inv_first, inv_last]
  unfold entry
  iintro ⟨⟨⟨%κ, #Hbase, Hstart⟩, Hbufs, Hreg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_whole κ c (insAt m) t _) $$ [Hstart Hbufs HO H0 H1 H2 H3 H4 H5 H6 H7 H8 H9]
  · isplitr; · iexact Hbase
    isplitl [Hstart]; · iexact Hstart
    isplitl [Hbufs]; · iexact Hbufs
    isplitl [H0 H1 H2 H3 H4 H5 H6 H7 H8]
    · unfold insOwn
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iapply (out_any c) $$ H9
    iapply (owes_out m c _ _ (due_first m c t)) $$ HO
  unfold insOwn
  iintro ⟨Hb, Hs, Hbufs, ⟨H0, H1, H2, H3, H4, H5, H6, H7, H8⟩, H9, ⟨%W, HO⟩⟩
  isplitl [Hb Hs Hbufs Hreg]
  · isplitl [Hb Hs]
    · unfold leave; isplitl [Hb]; · iexact Hb
      iexact Hs
    isplitl [Hbufs]; · iexact Hbufs
    iexact Hreg
  isplitl [HO]; · iapply (owes_in m c _ _ (due_last m c t) W) $$ HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (show (outM.view.loc (c : Thread nD τ) ↦{fullShare} outAt (fun n => partBuf (insAt m n)) c : sProp 𝕄) ⊢ _ from out_own c (resAt m c)) $$ H9

end Cert.KernelIdeal.Ring

end
-- ==== Proof.KernelIdealLaunch.lean ====
/-
  The launch: every semaphore's invariant and every duty's token made at once and dealt to the devices, the kernel's region
  run on all of them, and what the final state of the machine holds.
-/
module

public import proofs.«01_k».proof.Proof.KernelIdealWindows
public import Idealize.ShloMosaic.Lib.Pipeline.RegionTalk

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

abbrev adm : (p : Fin 1) → (pcfgs (F := F) p).Adm := fun p => (cfgs p).toPCfg_adm

def pdats : (p : Fin 1) → (c : Dev nD) → Pipeline.Dat τ (Elt F) Unit ℕ UU ℕ (Pipeline.pin (pcfgs (F := F)) adm p) c
  | 0 => dat0 m

theorem cellOf_inj : Function.Injective (Pipeline.cellOf (nD := nD) (τ := τ) (Pipeline.pin (pcfgs (F := F)) adm)) := launch0.cellOf_inj

/-- A device's arrays at launch, when the kernel begins, and when it has ended. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v38) (resAt m c)

/-! ## The ghost state a device brings to the kernel -/

/-- The invariants, the tokens of the duties a device pays, the rights to open its cells, and what it is promised. -/
def ghost (c : Dev nD) : sProp 𝕄 :=
  iprop(∃ κ, (invs (partsAt m) κ ∗ reached ER (barCell (dirDev true c)) 0 ∗ reached ER (barCell (dirDev false c)) 0)
    ∗ meetKit c ∗ (bigSep Finset.univ fun x : Cix => openTok ER (dmaCell c x))
    ∗ (bigSepL hops (tokens c false) ∗ bigSepL hops (tokens c true))
    ∗ (bigSepL hops (landCred c false) ∗ bigSepL hops (landCred c true)))

/-- Two families over everything, as one family of pairs. -/
theorem both {M : Type} [URA M] {I : Type} [Fintype I] {Φ Ψ : I → sProp M} :
    iprop(bigSep Finset.univ Φ ∗ bigSep Finset.univ Ψ) ⊢ bigSep Finset.univ fun x => iprop(Φ x ∗ Ψ x) :=
  Entails.of_eq (bigSep_sep' _ _ _).symm

/-- A device's cells, opened by their counters. -/
theorem opened (P : Dev nD → (cc0_scratch0 : Ref sig .tc).ty.Contents (Elt F)) (κ : GSem nD τ sig → ℕ) (c : Dev nD) :
    iprop(invs P κ ∗ bigSep Finset.univ fun x : Cix => iprop(openTok ER (dmaCell c x) ∗ semVal (dmaCell c x) 0))
      ⊢ |={Set.univ}=> bigSep Finset.univ fun x : Cix => iprop(atPos ER (dmaCell c x) 0 ∅ 0 ∗ reached ER (dmaCell c x) 0) := by
  haveI : BI.Persistent (invs P κ) := by unfold invs; infer_instance
  have h : iprop(invs P κ ∗ bigSep Finset.univ fun x : Cix => iprop(openTok ER (dmaCell c x) ∗ semVal (dmaCell c x) 0))
      ⊢ bigSep Finset.univ fun x : Cix => iprop(|={Set.univ}=> (atPos ER (dmaCell c x) 0 ∅ 0 ∗ reached ER (dmaCell c x) 0)) :=
    bigSep_with_persistent fun x _ => by
      iintro ⟨#HI, Ho, Hv⟩
      iapply (Rounds.cell_open ER (Rd P) (g := dmaCell c x) (Set.mem_univ (κ (dmaCell c x))))
      isplitr; · iapply (inv_dma P κ c x); iexact HI
      isplitl [Ho] <;> iassumption
  exact h.trans (bigSep_fupd _ _)

theorem ghost_open (c : Dev nD) : iprop(ghost m c ∗ Pipeline.ownSems0 osem c ∗ levAts L lv) ⊢ (|={Set.univ}=> entry m c : sProp 𝕄) := by
  rw [show (Pipeline.ownSems0 osem c : sProp 𝕄) = bigSep Finset.univ fun x : Cix => semVal (dmaCell c x) 0 from rfl]
  unfold ghost entry base startKit ownReached
  iintro ⟨⟨%κ, ⟨#HI, #Hr1, #Hr2⟩, Hm, Ho, Ht, Hl⟩, Hv, #Hlev⟩
  ihave Hov := both (Φ := fun x : Cix => openTok ER (dmaCell c x)) (Ψ := fun x : Cix => semVal (dmaCell c x) 0) $$ [Ho Hv]
  · isplitl [Ho]; · iexact Ho
    iexact Hv
  imod (opened (partsAt m) κ c) $$ [Hov] with Hat
  · isplitr; · iexact HI
    iexact Hov
  ihave Hat := (Entails.of_eq (bigSep_sep' _ _ _)) $$ Hat
  icases Hat with ⟨Hat, #Hre⟩
  imodintro
  iexists κ
  isplitr
  · isplitr; · iexact HI
    isplitr; · iexact Hlev
    isplitr; · iexact Hre
    isplitr; · iexact Hr1
    iexact Hr2
  isplitl [Hm]; · iexact Hm
  isplitl [Hat]; · iexact Hat
  isplitl [Ht]; · iexact Ht
  iexact Hl

/-! ## The segments of a device's program -/

/-- What rides beside the arrays before the kernel. -/
def R (c : Dev nD) : sProp 𝕄 := iprop((ghost m c ∗ ∃ r, prngReg c r) ∗ ∃ W, owes (c : Thread nD τ) (O₀ c) W)

theorem ops_sub : ∀ op ∈ (hostOps0 : List (HloOp τ sig (Elt F))), op.bufs ⊆ Pipeline.ucRefs τ sig :=
  fun op h => Pipeline.sub_ucRefs op (List.forall_iff_forall_mem.mp hostOps0_sub op h)
theorem ops_fresh : ∀ op ∈ (hostOps0 : List (HloOp τ sig (Elt F))), op.fresh = ∅ :=
  fun op h => List.forall_iff_forall_mem.mp hostOps0_fresh op h

def seg0 : Pipeline.HostSeg (Name := ℕ) (U := UU) (pcfgs (F := F)) defs₀ 𝒱₀ L lv :=
  Pipeline.HostSeg.ofOps _ _ _ _ _ (Pipeline.ucRefs τ sig) hostOps0 ops_sub ops_fresh (V₀ m) (R m)

theorem osem_facts : Pipeline.OwnSemFacts spec0 osem where
  isScoped := by decide +kernel
  inj := osem_inj
  disj := by decide +kernel

theorem V₂_off (c : Dev nD) (b : DevRef τ sig) (h : b ≠ Proc.devRef .tc main_v38) : V₂ m c b = V₁ m c b := Function.update_of_ne h _ _
theorem V₂_out (c : Dev nD) : V₂ m c (Proc.devRef .tc main_v38) = resAt m c := Function.update_self _ _ _

theorem arr_out : Proc.devRef (τ := τ) .tc main_v38 ∈ Pipeline.arrRefs (τ := τ) spec0 := by decide

theorem rest_same (c : Dev nD) : ∀ b ∈ (Pipeline.ucRefs τ sig \ Pipeline.arrRefs (τ := τ) spec0) \ ∅, V₂ m c b = V₁ m c b := fun b hb =>
  V₂_off m c b fun h => (Finset.mem_sdiff.mp (Finset.mem_sdiff.mp hb).1).2 (h ▸ arr_out)

/-- Everything a device owes is owed above level zero. -/
theorem owed_above (c : Dev nD) (g : GSem nD τ sig) (u : Unit) (h : 0 < O₀ c g u) : u ∈ L g ∧ 0 < lv g u := by
  have hop (ag : Bool) (h : 0 < owed c ag hops g u) : u ∈ L g ∧ 0 < lv g u := by
    obtain ⟨x, -, rfl⟩ := owed_pos h
    refine ⟨by rw [L_tc]; exact Finset.mem_singleton_self _, ?_⟩
    rw [lv_recv]; cases ag <;> · dsimp only [hopLv]; omega
  have bar (d : Bool) (h : 0 < (tallyAt (barCell (dirDev d c)) () 1 : CellTallies nD τ sig Unit) g u) : u ∈ L g ∧ 0 < lv g u := by
    rw [tallyAt_apply] at h
    split at h
    · next hg =>
      obtain ⟨rfl, -⟩ := hg
      exact ⟨by rw [L_tc]; exact Finset.mem_singleton_self _, by rw [lv_bar]; exact Nat.one_pos⟩
    · exact absurd h (Nat.lt_irrefl 0)
  unfold O₀ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact hop _ h
      · exact hop _ h
    · exact bar _ h
  · exact bar _ h

theorem owed_cut (c : Dev nD) (t : Fin ((Pipeline.pin (pcfgs (F := F)) adm 0).N + 1)) (g : GSem nD τ sig) (u : Unit)
    (h : 0 < (pdats (F := F) m 0 c).owed t g u) : u ∈ L g ∧ (0 : ℕ) < lv g u := by
  have e : (pdats (F := F) m 0 c).owed t = if t.val = 0 then O₀ c else 0 := rfl
  rw [e] at h
  split at h
  · exact owed_above c g u h
  · exact absurd h (Nat.lt_irrefl 0)

/-- The windows' own semaphores are at level zero. -/
theorem stage_level (c : Dev nD) (w : Fin 10) (s : Fin (spec0 w).nbuf) : lv ((c : Thread nD τ), .dma ((spec0 w).sem s)) () = 0 := by
  have : ∀ (w : Fin 10) (s : Fin (spec0 w).nbuf), semLv (.dma ((spec0 w).sem s)) = 0 := by decide +kernel
  exact this w s

theorem entry_in (c : Dev nD) : iprop(Pipeline.scopedRest (Pipeline.pin (pcfgs (F := F)) adm 0).spec c ∗ (∃ r, prngReg c r)
      ∗ StableHlo.held (c.tc : Thread nD τ) ∅ (V₁ m c) ∗ entry m c) ⊢ (pdats m 0 c).Φ 0 := by
  rw [show (pdats m 0 c).Φ 0 = iprop(entry m c ∗ allBufs c ∗ ∃ r, prngReg c r) from rfl,
    show (Pipeline.scopedRest (Pipeline.pin (pcfgs (F := F)) adm 0).spec c : sProp 𝕄) = allBufs c from scopedRest0_eq c]
  iintro ⟨Hs, Hp, -, HE⟩
  isplitl [HE]; · iexact HE
  isplitl [Hs]; · iexact Hs
  iexact Hp

theorem leave_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ semVal (barCell c) 0) := by
  rw [show (pdats m 0 c).Φ (Fin.last _) = iprop((semVal (barCell c) 0 ∗ bigSep Finset.univ fun x : Cix => semVal (dmaCell c x) 0)
      ∗ allBufs c ∗ ∃ r, prngReg c r) from rfl,
    show (Pipeline.scopedRest (Pipeline.pin (pcfgs (F := F)) adm 0).spec c : sProp 𝕄) = allBufs c from scopedRest0_eq c,
    show (StableHlo.held (c.tc : Thread nD τ) ∅ (V₂ m c) : sProp 𝕄) = BI.emp from BI.bigSep_empty,
    show (Pipeline.ownSems0 osem c : sProp 𝕄) = bigSep Finset.univ fun x : Cix => semVal (dmaCell c x) 0 from rfl]
  iintro ⟨⟨Hb, Hv⟩, Hs, Hp⟩
  isplitl [Hs]; · iexact Hs
  isplitl [Hp]; · iexact Hp
  isplitr; · iempintro
  isplitl [Hv]; · iexact Hv
  iexact Hb

theorem arr_same (c : Dev nD) (w : Fin 10) (h : (cfg0.win w).isOut = false)
    (hne : Proc.devRef (τ := τ) .tc (Pipeline.arrRef spec0 w) ≠ Proc.devRef .tc main_v38) :
    (dat0 m c).arrAt w cfg0.N = V₂ m c (Proc.devRef .tc (Pipeline.arrRef spec0 w)) :=
  ((dat0 m c).arrAt_in w h cfg0.N).trans (V₂_off m c _ hne).symm

theorem inputs_in : ∀ w : Fin 10, w ≠ 9 → (cfg0.win w).isOut = false ∧ Pipeline.arrRef spec0 w ≠ main_v38 := by decide

theorem arr_last (c : Dev nD) (w : Fin 10) : (dat0 m c).arrAt w cfg0.N = V₂ m c (Proc.devRef .tc (Pipeline.arrRef spec0 w)) := by
  by_cases h : w = 9
  · subst h
    exact (res_final m c).trans (V₂_out m c).symm
  · exact arr_same m c w (inputs_in w h).1 fun e => (inputs_in w h).2 (Proc.devRef_injective .tc e)

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ (Pipeline.ucRefs τ sig \ Pipeline.arrRefs (τ := τ) spec0) (Finset.empty_subset _) launch0.toP rfl (fun c => (body0 m c).loose)
    (fun _ => 0) O₀ (fun c => (zero_add _).symm) (fun _ => rfl) (fun _ => rfl) (fun c => (pdats m 0 c).share_full fun _ => rfl)
    (V₁ m) (V₂ m) (rest_same m)
    (ghost m) (fun c => semVal (barCell c) 0) (entry m) (fun c => semVal (barCell c) 0) (ghost_open m) (entry_in m) (leave_out m)
    (fun c => by iintro H; imodintro; iexact H)
    (fun _ => 0)
    ⟨fun c w s => by rw [L_tc]; exact Finset.mem_singleton_self _, fun c w s => (stage_level c w s).le, fun c t g i h => owed_cut m c t g i h⟩
    (fun _ => iprop(emp))
    (fun _ _ => rfl) (fun c w => arr_last m c w)

def segs : List (Pipeline.Seg (pcfgs (F := F)) adm (pdats m) () defs₀ 𝒱₀ L lv) := [.host (seg0 m), .region (reg0 m)]

theorem main_eq (c : Dev nD) : main (F := F) c = Pipeline.Seg.run (segs m) := main_segs adm (pdats m) () 𝒱₀ L lv (seg0 m) (reg0 m) rfl c

/-! ## Dealing the tokens -/

/-- One token for each of the barrier's two payers, one for every other cell. -/
abbrev tokOf (c : Dev nD) : Bool ⊕ Cix → GSem nD τ sig × ℕ × Bool
  | .inl d => (barCell c, 0, d)
  | .inr x => (dmaCell c x, 0, true)

theorem tokOf_inj : Function.Injective fun p : Dev nD × (Bool ⊕ Cix) => tokOf p.1 p.2 := by
  rintro ⟨c, x⟩ ⟨c', y⟩ h
  have hc : c = c' := by
    have := congrArg (fun t : GSem nD τ sig × ℕ × Bool => t.1.1.1) h
    rcases x with x | x <;> rcases y with y | y <;> exact this
  subst hc
  have hs := congrArg (fun t : GSem nD τ sig × ℕ × Bool => t.1.2) h
  rcases x with x | x <;> rcases y with y | y
  · exact congrArg (fun z => (c, Sum.inl z)) (congrArg (fun t : GSem nD τ sig × ℕ × Bool => t.2.2) h)
  · exact absurd hs (by intro e; cases e)
  · exact absurd hs (by intro e; cases e)
  · exact congrArg (fun z => (c, Sum.inr z)) (osem_inj hs)

def allToks : Finset (GSem nD τ sig × ℕ × Bool) := Finset.univ.map ⟨_, tokOf_inj⟩

/-- A family over a list, moved around the ring each of its members goes along. -/
theorem around (X : Dev nD → Hop → sProp 𝕄) : ∀ l : List Hop,
    bigSep Finset.univ (fun c => bigSepL l (X c)) = bigSep Finset.univ (fun c => bigSepL l fun h => X (dirDev h.1 c) h)
  | [] => rfl
  | h :: l => by
    simp only [bigSepL_cons']
    rw [bigSep_sep', bigSep_sep', around X l, bigSep_univ_equiv (ring h.1) (fun c => X c h)]
    rfl

/-- The tokens made for a device's cells. -/
def made (c : Dev nD) : sProp 𝕄 :=
  iprop((dutyTok ER (barCell c) 0 false ∗ dutyTok ER (barCell c) 0 true) ∗ bigSep Finset.univ fun x : Cix => dutyTok ER (dmaCell c x) 0 true)

theorem toks_made : bigSep allToks (fun x => (dutyTok ER x.1 x.2.1 x.2.2 : sProp 𝕄)) = bigSep Finset.univ fun c : Dev nD => made c := by
  unfold allToks made
  rw [bigSep_map, bigSep_univ_prod]
  refine bigSep_congr fun c _ => ?_
  rw [BI.bigSep_univ_sum, bigSep_bool]
  rfl

/-- The tokens a device pays with. -/
def paid (c : Dev nD) : sProp 𝕄 :=
  iprop((dutyTok ER (barCell (dirDev true c)) 0 false ∗ dutyTok ER (barCell (dirDev false c)) 0 true)
    ∗ (bigSepL hops (tokens c false) ∗ bigSepL hops (tokens c true)))

/-- The hops' tokens, as they are made. -/
def hopToks (c : Dev nD) (ag v : Bool) : sProp 𝕄 := bigSepL hops fun h => dutyTok ER (dmaCell c (cixOf ag v h)) 0 true

theorem made_hops (c : Dev nD) : made (F := F) c ⊢ iprop((dutyTok ER (barCell c) 0 false ∗ dutyTok ER (barCell c) 0 true)
    ∗ (hopToks c false false ∗ hopToks c true false) ∗ (hopToks c false true ∗ hopToks c true true)) := by
  unfold made hopToks
  rw [bigSep_cix]
  iintro ⟨Hb, ⟨⟨⟨H1, H2⟩, H3⟩, H4⟩, -⟩
  isplitl [Hb]; · iexact Hb
  isplitl [H1 H2]
  · isplitl [H1] <;> iassumption
  isplitl [H3] <;> iassumption

theorem hops_around (ag : Bool) : (bigSep Finset.univ fun c : Dev nD => (hopToks (F := F) c ag true : sProp 𝕄))
    = bigSep Finset.univ fun c : Dev nD => bigSepL hops fun h => dutyTok ER (dmaCell (dirDev h.1 c) (cixOf ag true h)) 0 true :=
  around (fun c h => dutyTok ER (dmaCell c (cixOf ag true h)) 0 true) hops

theorem bars_around (d v : Bool) : (bigSep Finset.univ fun c : Dev nD => (dutyTok ER (barCell c) 0 v : sProp 𝕄))
    = bigSep Finset.univ fun c : Dev nD => dutyTok ER (barCell (dirDev d c)) 0 v :=
  bigSep_univ_equiv (ring d) (fun c : Dev nD => (dutyTok ER (barCell c) 0 v : sProp 𝕄))

theorem tokens_join (ag : Bool) : iprop((bigSep Finset.univ fun c : Dev nD => hopToks (F := F) c ag false)
    ∗ bigSep Finset.univ fun c : Dev nD => hopToks (F := F) c ag true) ⊢ bigSep Finset.univ fun c : Dev nD => bigSepL hops (tokens (F := F) c ag) := by
  have join (c : Dev nD) : iprop(hopToks (F := F) c ag false
      ∗ bigSepL hops fun h => dutyTok ER (dmaCell (dirDev h.1 c) (cixOf ag true h)) 0 true) ⊢ bigSepL hops (tokens c ag) :=
    bigSepL_pair (fun h => dutyTok ER (dmaCell c (cixOf ag false h)) 0 true) (fun h => dutyTok ER (dmaCell (dirDev h.1 c) (cixOf ag true h)) 0 true) hops
  rw [hops_around, ← bigSep_sep']
  exact bigSep_mono fun c _ => join c

theorem bars_join : iprop((bigSep Finset.univ fun c : Dev nD => (dutyTok ER (barCell c) 0 false : sProp 𝕄))
    ∗ bigSep Finset.univ fun c : Dev nD => (dutyTok ER (barCell c) 0 true : sProp 𝕄))
      ⊢ bigSep Finset.univ fun c : Dev nD => iprop(dutyTok ER (barCell (dirDev true c)) 0 false ∗ dutyTok ER (barCell (dirDev false c)) 0 true) := by
  rw [bars_around true false, bars_around false true]
  exact both

/-- Every token reaches the device that pays with it. -/
theorem toks_around : (bigSep Finset.univ fun c : Dev nD => (made c : sProp 𝕄)) ⊢ bigSep Finset.univ fun c : Dev nD => paid c := by
  have h : (bigSep Finset.univ fun c : Dev nD => (made c : sProp 𝕄)) ⊢ bigSep Finset.univ fun c : Dev nD =>
      iprop((dutyTok ER (barCell c) 0 false ∗ dutyTok ER (barCell c) 0 true)
        ∗ (hopToks c false false ∗ hopToks c true false) ∗ (hopToks c false true ∗ hopToks c true true)) :=
    bigSep_mono fun c _ => made_hops c
  rw [bigSep_sep', bigSep_sep', bigSep_sep', bigSep_sep', bigSep_sep'] at h
  unfold paid
  iintro H
  ihave H := h $$ H
  icases H with ⟨Hb, ⟨H1, H2⟩, H3, H4⟩
  iapply both
  isplitl [Hb]
  · iapply bars_join; iexact Hb
  iapply both
  isplitl [H1 H3]
  · iapply (tokens_join false); isplitl [H1] <;> iassumption
  iapply (tokens_join true); isplitl [H2] <;> iassumption

/-! ## What the launch promises -/

theorem creds_owed (ag : Bool) (c : Dev nD) : ∀ l : List Hop, (Pipeline.launchCred (fun d => owed d ag l) c : sProp 𝕄) ⊢ bigSepL l (landCred c ag)
  | [] => (Entails.of_eq (Pipeline.launchCred_zero c))
  | h :: l => by
    rw [bigSepL_cons', show (fun d => owed d ag (h :: l)) = fun d => owed d ag l + tallyAt (recvCell (dirDev h.1 d) ag h.1 h.2.1 h.2.2) () N from rfl,
      Pipeline.launchCred_add]
    have h1 : (Pipeline.launchCred (fun d => tallyAt (recvCell (dirDev h.1 d) ag h.1 h.2.1 h.2.2) () N) c : sProp 𝕄) ⊢ landCred c ag h :=
      Pipeline.launchCred_tallyAt (.dma (dmaOf (ag, h.1, true, h.2.1, h.2.2))) (dirDev h.1) (dirDev (!h.1)) (dirDev_dirDev h.1) (dirDev_dirDev' h.1) () N c
    iintro ⟨Hl, Hh⟩
    isplitl [Hh]; · iapply h1; iexact Hh
    iapply (creds_owed ag c l); iexact Hl

theorem creds (c : Dev nD) : (Pipeline.launchCred O₀ c : sProp 𝕄)
    ⊢ iprop(cred (tallyAt (barCell c) () 2) ∗ (bigSepL hops (landCred c false) ∗ bigSepL hops (landCred c true))) := by
  rw [show (O₀ : Dev nD → CellTallies nD τ sig Unit) = fun d => ((owed d false hops + owed d true hops) + tallyAt (barCell (dirDev true d)) () 1)
      + tallyAt (barCell (dirDev false d)) () 1 from rfl, Pipeline.launchCred_add, Pipeline.launchCred_add, Pipeline.launchCred_add,
    show (tallyAt (barCell c) () 2 : CellTallies nD τ sig Unit) = tallyAt (barCell c) () 1 + tallyAt (barCell c) () 1 from (tallyAt_add (barCell c) () 1 1).symm]
  have bar (d : Bool) : (Pipeline.launchCred (fun e => tallyAt (barCell (dirDev d e)) () 1) c : sProp 𝕄) ⊢ cred (tallyAt (barCell c) () 1) :=
    Pipeline.launchCred_tallyAt (.reg barSem) (dirDev d) (dirDev (!d)) (dirDev_dirDev d) (dirDev_dirDev' d) () 1 c
  iintro ⟨⟨⟨H1, H2⟩, H3⟩, H4⟩
  isplitl [H3 H4]
  · iapply (cred_add _ _).2
    isplitl [H3]
    · iapply (bar true); iexact H3
    iapply (bar false); iexact H4
  isplitl [H1]
  · iapply (creds_owed false c hops); iexact H1
  iapply (creds_owed true c hops); iexact H2

/-! ## The run -/

variable (F) in
/-- The launch's ghost element: the windows' own semaphores, and the barrier's and the rings'. -/
def u₀ : UU :=
  (initOf (Pipeline.cells (Pipeline.pin (pcfgs (F := F)) adm) cellOf_inj) (Pipeline.launchToks (Pipeline.pin (pcfgs (F := F)) adm) cellOf_inj),
    launchOf barCells scCells allToks)

theorem disjoint_cells : Disjoint (barCells : Finset (GSem nD τ sig)) scCells := by
  rw [Finset.disjoint_left]
  intro g h₁ h₂
  obtain ⟨c, -, rfl⟩ := Finset.mem_map.mp h₁
  obtain ⟨x, -, h⟩ := Finset.mem_map.mp h₂
  have e : osem x.2 = SemLoc.reg barSem := congrArg (fun g : GSem nD τ sig => g.2) h
  cases e

/-- The rings' part, kept on the first device until it is dealt. -/
def G (c : Dev nD) : sProp 𝕄 := if c = 0 then BI.own (ER (launchOf barCells scCells allToks)) else iprop(emp)

theorem bigSep_G : bigSep Finset.univ (G (F := F)) = (BI.own (ER (launchOf barCells scCells allToks)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- A device's state when its program begins, -/
abbrev T₀ (c : Dev nD) : sProp 𝕄 := iprop(StableHlo.held (c : Thread nD τ) (Pipeline.ucRefs τ sig) (V₀ m c) ∗ R m c)
/-- and when it has ended. -/
abbrev Tₙ (c : Dev nD) : sProp 𝕄 := iprop(StableHlo.held (c : Thread nD τ) (Pipeline.arrRefs (τ := τ) spec0) (V₂ m c) ∗ semVal (barCell c) 0)

def records (κ : GSem nD τ sig → ℕ) : sProp 𝕄 := iprop(invs (partsAt m) κ ∗ bigSep barCells fun g => reached ER g 0)
instance records_persistent (κ : GSem nD τ sig → ℕ) : BI.Persistent (records m κ) := by unfold records invs; infer_instance

theorem reached_bar (c : Dev nD) : (bigSep barCells fun g => (reached ER g 0 : sProp 𝕄)) ⊢ reached ER (barCell c) 0 :=
  bigSep_elim (Finset.mem_map_of_mem barEmb (Finset.mem_univ c))

/-- What of the protocol is a device's alone. -/
def mine (c : Dev nD) : sProp 𝕄 :=
  iprop(atPos ER (barCell c) 0 ∅ 0 ∗ (bigSep Finset.univ fun x : Cix => openTok ER (dmaCell c x)) ∗ paid c)

/-- The rest of what the launch gives a device. -/
def rest (c : Dev nD) : sProp 𝕄 :=
  iprop(StableHlo.held (c : Thread nD τ) (Pipeline.ucRefs τ sig) (V₀ m c)
    ∗ (cred (tallyAt (barCell c) () 2) ∗ (bigSepL hops (landCred c false) ∗ bigSepL hops (landCred c true)))
    ∗ owes (c : Thread nD τ) (O₀ c) ∅ ∗ ∃ r, prngReg c r)

theorem T₀_intro (κ : GSem nD τ sig → ℕ) (c : Dev nD) : iprop(records m κ ∗ (mine c ∗ rest m c)) ⊢ T₀ m c := by
  unfold records mine rest T₀ R ghost meetKit paid
  iintro ⟨⟨#HI, #HR⟩, ⟨Ha, Ho, ⟨⟨Hb1, Hb2⟩, Ht⟩⟩, Hh, ⟨Hc, Hl⟩, HO, Hp⟩
  isplitl [Hh]; · iexact Hh
  isplitr [HO]
  · isplitr [Hp]
    · iexists κ
      isplitr
      · isplitr; · iexact HI
        isplitr; · iapply (reached_bar (F := F) (dirDev true c)); iexact HR
        iapply (reached_bar (F := F) (dirDev false c)); iexact HR
      isplitl [Hb1 Hb2 Hc Ha]
      · isplitl [Hb2]; · iexact Hb2
        isplitl [Hb1]; · iexact Hb1
        isplitl [Hc] <;> iassumption
      isplitl [Ho]; · iexact Ho
      isplitl [Ht]; · iexact Ht
      iexact Hl
    iexact Hp
  iexists ∅; iexact HO

theorem unscoped_eq : ∀ sm : SemLoc sig, sm.isScoped .tc = false → sm = .reg barSem := by decide +kernel

theorem unscoped_bar (c : Dev nD) : (unscopedSems0 c : sProp 𝕄) = semVal (barCell c) 0 := by
  have h : (Finset.univ.filter fun sm : SemLoc sig => ¬ sm.isScoped .tc) = {SemLoc.reg barSem} := by
    ext sm
    rw [Finset.mem_filter, Finset.mem_singleton]
    exact ⟨fun h => unscoped_eq sm (Bool.eq_false_iff.mpr h.2), fun h => ⟨Finset.mem_univ _, by subst h; decide⟩⟩
  unfold unscopedSems0
  rw [h]
  exact BI.bigSep_singleton

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(rest m c ∗ (semVal (barCell c) 0 ∗ G c)) : sProp 𝕄) := by
    rw [show unscopedBufs c (fun b => m ((c : Thread nD τ).loc b)) = StableHlo.held (c : Thread nD τ) (Pipeline.ucRefs τ sig) (V₀ m c)
      from Pipeline.unscopedBufs_held c (V₀ m c), unscoped_bar]
    unfold rest
    iintro ⟨Hh, Hus, HO, Hcr, Hp, HG⟩
    isplitl [Hh HO Hcr Hp]
    · isplitl [Hh]; · iexact Hh
      isplitl [Hcr]; · iapply (creds (F := F) c); iexact Hcr
      isplitl [HO]; · iexact HO
      iexists (ρ c); iexact Hp
    isplitl [Hus] <;> iassumption
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(rest m c ∗ (semVal (barCell c) 0 ∗ G c)) : sProp 𝕄) := bigSep_mono fun c _ => hcore c
  have hsplit : (bigSep Finset.univ fun c : Dev nD => iprop(rest m c ∗ (semVal (barCell c) 0 ∗ G c)) : sProp 𝕄)
      = iprop((bigSep Finset.univ fun c : Dev nD => rest m c) ∗ (bigSep Finset.univ fun c : Dev nD => semVal (barCell c) 0)
        ∗ BI.own (ER (launchOf barCells scCells allToks))) := by
    rw [bigSep_sep', bigSep_sep']
    exact congrArg _ (congrArg _ bigSep_G)
  replace hall := hall.trans (Entails.of_eq hsplit)
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun x : Cix => openTok ER (dmaCell c x)) :=
    Entails.of_eq (by rw [bigSep_map, bigSep_univ_prod]; rfl)
  have htok : bigSep allToks (fun x => (dutyTok ER x.1 x.2.1 x.2.2 : sProp 𝕄)) ⊢ bigSep Finset.univ fun c : Dev nD => paid c := by
    rw [toks_made]; exact toks_around
  have hend (κ : GSem nD τ sig → ℕ) : iprop(records m κ ∗ bigSep Finset.univ fun c : Dev nD => iprop(mine c ∗ rest m c)) ⊢ bigSep Finset.univ (T₀ m) :=
    bigSep_with_persistent fun c _ => T₀_intro m κ c
  iintro ⟨H, -⟩
  ihave H := hall $$ H
  icases H with ⟨HB, Hv, Hu⟩
  imod (Rounds.fund_launch ER (Rd (partsAt m)) disjoint_cells (fun g _ h => h) allToks) $$ [Hv Hu] with ⟨%κ, -, #Hinv, #Hr, Hat, Hopen, Htok⟩
  · isplitl [Hv]
    · iapply hv; iexact Hv
    · iexact Hu
  imodintro
  iapply (hend κ)
  isplitr
  · unfold records invs
    isplitr; · iexact Hinv
    iexact Hr
  iapply both
  isplitr [HB]
  · unfold mine
    iapply both; isplitl [Hat]; · iapply hat; iexact Hat
    iapply both; isplitl [Hopen]; · iapply hopen; iexact Hopen
    iapply htok; iexact Htok
  · iexact HB

theorem region_pre (c : Dev nD) : (Pipeline.HostSeg.post (seg0 m) c) ⊢ (reg0 m).pre c := by
  show iprop(StableHlo.held (c : Thread nD τ) (Pipeline.ucRefs τ sig) (V₁ m c) ∗ R m c)
    ⊢ iprop(StableHlo.held (c.tc : Thread nD τ) (Pipeline.arrRefs (τ := τ) spec0) (V₁ m c) ∗ (∃ r, prngReg c r)
      ∗ (StableHlo.held (c.tc : Thread nD τ) (Pipeline.ucRefs τ sig \ Pipeline.arrRefs (τ := τ) spec0) (V₁ m c) ∗ emp)
      ∗ ghost m c ∗ ∃ Wd, owes (c : Thread nD τ) (0 + O₀ c) Wd)
  rw [zero_add, StableHlo.held_sub_split (c : Thread nD τ) (Pipeline.arrRefs_sub_ucRefs (τ := τ) spec0 (by decide)) (V₁ m c)]
  unfold R
  iintro ⟨⟨Ha, Hr⟩, ⟨HG, Hp⟩, HO⟩
  isplitl [Ha]; · iexact Ha
  isplitl [Hp]; · iexact Hp
  isplitl [Hr]
  · isplitl [Hr]; · iexact Hr
    iempintro
  isplitl [HG]; · iexact HG
  iexact HO

theorem region_post (c : Dev nD) : (reg0 m).post c ⊢ iprop(Tₙ m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
      ∗ (StableHlo.held (c.tc : Thread nD τ) (Pipeline.ucRefs τ sig \ Pipeline.arrRefs (τ := τ) spec0) (V₂ m c) ∗ emp)
      ∗ semVal (barCell c) 0 ∗ ∃ Wd, owes (c : Thread nD τ) (0 : CellTallies nD τ sig Unit) Wd) ⊢ _
  iintro ⟨Ha, -, -, Hb, HO⟩
  isplitr [HO]
  · isplitl [Ha] <;> iassumption
  iexact HO

theorem V₂_arg (c : Dev nD) (b : Ref sig .tc) (hb : b ≠ main_v38) (h : V m c b = m ((c : Thread nD τ).loc b)) :
    V₂ m c (Proc.devRef .tc b) = m ((c : Thread nD τ).loc b) :=
  (V₂_off m c _ fun e => hb (Proc.devRef_injective .tc e)).trans h

/-- The arguments among the windows' arrays. -/
abbrev argRef : Fin 5 → Ref sig .tc := fun | 0 => main_arg0 | 1 => main_arg1 | 2 => main_arg2 | 3 => main_arg3 | 4 => main_arg4
theorem arr_args : ∀ k : Fin 5, Proc.devRef (τ := τ) .tc (argRef k) ∈ Pipeline.arrRefs (τ := τ) spec0 := by decide

set_option backward.isDefEq.respectTransparency.types false in
/-- From any memory with every semaphore at zero, every execution of the program on the sixteen devices ends, with each device's
    arguments as they were, its result what `resAt` says, and every semaphore at zero. -/
theorem run_main : θ_run defs (onTc (τ := τ) (main (F := F))) ⟨m, fun _ => 0, ρ⟩
    (fun r => (∀ c : Dev nD, r.2.mem ((c : Thread nD τ).loc main_v38) = resAt m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ F)
    (hu₀ := by
      unfold u₀
      rw [bigSep_G]
      iintro Hu
      ihave H := (ownU_pair _ _) $$ Hu
      icases H with ⟨HP, HX⟩
      imodintro
      isplitl [HP]; · iexact HP
      iexact HX)
    (T₀ := T₀ m) (Tₙ := Tₙ m)
    (hch := ⟨fun c => .rfl, fun c => region_pre m c, fun c => region_post m c⟩)
    (hinit := init m ρ)
    (QY := fun c s => (∀ b ∈ Pipeline.arrRefs (τ := τ) spec0, s.mem (c, b) = V₂ m c b) ∧ s.sem (barCell c) = 0)
    (hfin := fun c s' => by
      dsimp only [Tₙ]
      iintro ⟨⟨Ha, Hb⟩, HSI⟩
      ihave H := (pointsTo_read_all (Pipeline.arrRefs (τ := τ) spec0) (fun b => (c, b)) (V₂ m c) s') $$ [Ha HSI]
      · isplitl [Ha]; · unfold StableHlo.held; iexact Ha
        iexact HSI
      icases H with ⟨%ha, HSI⟩
      icombine HSI Hb gives %hb
      imodintro
      isplitr
      · ipureintro
        exact ⟨ha, by simpa using hb⟩
      iexact HSI)
    (hQ := fun s h hs => ⟨fun c =>
        ⟨((h c).1 _ arr_out).trans (V₂_out m c),
          ((h c).1 _ (arr_args 0)).trans (V₂_arg m c main_arg0 (by decide) (V_main_arg0 m c)),
          ((h c).1 _ (arr_args 1)).trans (V₂_arg m c main_arg1 (by decide) (V_main_arg1 m c)),
          ((h c).1 _ (arr_args 2)).trans (V₂_arg m c main_arg2 (by decide) (V_main_arg2 m c)),
          ((h c).1 _ (arr_args 3)).trans (V₂_arg m c main_arg3 (by decide) (V_main_arg3 m c)),
          ((h c).1 _ (arr_args 4)).trans (V₂_arg m c main_arg4 (by decide) (V_main_arg4 m c))⟩,
      sem_eq_zero hs fun c sm hsm => by
        obtain rfl := unscoped_eq sm hsm
        exact (h c).2⟩)

end Cert.KernelIdeal.Ring

end
-- ==== Proof.KernelIdealSum.lean ====
/-
  The rings on the extended reals: what every device ends with is, element by element, the sum of the sixteen partial products.
-/
module

public import proofs.«01_k».proof.Proof.KernelIdealGather
public import Idealize.ShloMosaic.PureOps.Ideal.Laws

@[expose] public section

noncomputable section

namespace Cert.KernelIdeal.Ring

open Cert.KernelIdeal Cert.KernelIdeal.Gen
open Idealize.ShloMosaic
open Idealize.ShloMosaic.TcCoe

/-- The device `n` steps back along a direction. -/
def upstream (d : Bool) : ℕ → Dev nD → Dev nD
  | 0, c => c
  | n + 1, c => dirDev (!d) (upstream d n c)

/-- How many way reach a device along a direction. -/
def way (d : Bool) : ℕ := if d then 8 else 7

/-- The half chunk a hop adds lies where the device at the end of the way has its own. -/
theorem off_hop : ∀ (c : Dev nD) (d : Bool) (s : Fin 8) (r : Fin 2), live d s = true →
    k0_off1 (upstream d (way d - s.val) c) (rsWord d s) (halfWord r) = ![c.val * 64 + r.val * 32, 0] := by
  decide +kernel
theorem off_kept : ∀ (c : Dev nD) (r : Fin 2), k0_off1 c 0#32 (halfWord r) = ![c.val * 64 + r.val * 32, 0] := by
  decide +kernel

/-- The sixteen devices in the order in which a device meets their parts: those to one side from the farthest, itself, those to the other. -/
def station (c : Dev nD) (k : Fin 16) : Dev nD :=
  if k.val < 8 then upstream true (8 - k.val) c else if k.val = 8 then c else upstream false (16 - k.val) c

theorem station_injective : ∀ c : Dev nD, Function.Injective (station c) := by
  decide +kernel

variable (P : Dev nD → S1024x1024.Idx → EReal)

/-- Where a half chunk's element is in a partial product. -/
def rowOf (c : Dev nD) (r : Fin 2) (x : Fin 32) (y : Fin 1024) : S1024x1024.Idx :=
  ValueIdx.ix2 ⟨c.val * 64 + r.val * 32 + x.val, by
    have h : c.val < 16 := c.isLt
    have := r.isLt; have := x.isLt; omega⟩ y

theorem read_part (Q : S1024x1024.Idx → EReal) (c : Dev nD) (r : Fin 2) (x : Fin 32) (y : Fin 1024) (off : Fin 2 → ℕ)
    (inb : ∀ a, off a + S32x1024.size a ≤ S1024x1024.size a) (h : off = ![c.val * 64 + r.val * 32, 0]) :
    Q ((Rect.unit (s := S1024x1024) off S32x1024.size inb).toLoadRect.idx (ValueIdx.ix2 x y)) = Q (rowOf c r x y) := by
  subst h
  refine congrArg Q (funext fun a => Fin.ext ?_)
  match a with
  | ⟨0, _⟩ => show c.val * 64 + r.val * 32 + 1 * x.val = c.val * 64 + r.val * 32 + x.val; omega
  | ⟨1, _⟩ => show 0 + 1 * y.val = y.val; omega

theorem part_hop (c : Dev nD) (d : Bool) (s : Fin 8) (r : Fin 2) (hl : live d s = true) (x : Fin 32) (y : Fin 1024) :
    partAt (F := Ideal) P (upstream d (way d - s.val) c) d s r (ValueIdx.ix2 x y) = P (upstream d (way d - s.val) c) (rowOf c r x y) :=
  read_part _ c r x y _ (part_inb _ d s r) (off_hop c d s r hl)

/-- What a device has received in a slot is the sum of the parts of the devices the slot has passed. -/
theorem rsVal_sum (c : Dev nD) (d : Bool) (r : Fin 2) (x : Fin 32) (y : Fin 1024) : (n : ℕ) → (h : n < 8) → (hn : n < way d) →
    rsVal (F := Ideal) P d n h (upstream d (way d - 1 - n) c) r (ValueIdx.ix2 x y)
      = ∑ k ∈ Finset.range (n + 1), P (upstream d (way d - k) c) (rowOf c r x y)
  | 0, h, hn => by
    have e : dirDev (!d) (upstream d (way d - 1 - 0) c) = upstream d (way d - 0) c := by
      rw [show way d - 0 = (way d - 1 - 0) + 1 by omega]; rfl
    rw [Finset.sum_range_one]
    refine Eq.trans ?_ (part_hop P c d ⟨0, h⟩ r (by cases d <;> rfl) x y)
    show partAt (F := Ideal) P (dirDev (!d) (upstream d (way d - 1 - 0) c)) d ⟨0, h⟩ r (ValueIdx.ix2 x y) = _
    rw [e]
  | n + 1, h, hn => by
    have e : dirDev (!d) (upstream d (way d - 1 - (n + 1)) c) = upstream d (way d - (n + 1)) c := by
      rw [show way d - (n + 1) = (way d - 1 - (n + 1)) + 1 by omega]; rfl
    have e' : way d - (n + 1) = way d - 1 - n := by omega
    have hl : live d ⟨n + 1, h⟩ = true := by
      cases d
      · have : n + 1 ≠ 7 := by unfold way at hn; simp at hn; omega
        show (false || decide ((⟨n + 1, h⟩ : Fin 8) ≠ 7)) = true
        rw [Bool.false_or, decide_eq_true_iff]
        exact fun hh => this (congrArg Fin.val hh)
      · rfl
    rw [Finset.sum_range_succ, ← rsVal_sum c d r x y n (Nat.lt_of_succ_lt h) (Nat.lt_of_succ_lt hn), ← part_hop P c d ⟨n + 1, h⟩ r hl x y]
    show rsVal (F := Ideal) P d n (Nat.lt_of_succ_lt h) (dirDev (!d) (upstream d (way d - 1 - (n + 1)) c)) r (ValueIdx.ix2 x y)
      + partAt (F := Ideal) P (dirDev (!d) (upstream d (way d - 1 - (n + 1)) c)) d ⟨n + 1, h⟩ r (ValueIdx.ix2 x y) = _
    rw [e, e']

/-- The chunk a device reduces is the sum of the sixteen partial products. -/
theorem redAt_sum (c : Dev nD) (r : Fin 2) (x : Fin 32) (y : Fin 1024) :
    redAt (F := Ideal) P c r (ValueIdx.ix2 x y) = ∑ n : Dev nD, P n (rowOf c r x y) := by
  have b : Function.Bijective (station c) := Finite.injective_iff_bijective.mp (station_injective c)
  have key : ∑ n : Dev nD, P n (rowOf c r x y) = ∑ k : Fin 16, P (station c k) (rowOf c r x y) :=
    (b.sum_comp fun n => P n (rowOf c r x y)).symm
  have h1 := rsVal_sum P c true r x y 7 (by decide) (by decide)
  have h2 := rsVal_sum P c false r x y 6 (by decide) (by decide)
  have h0 : part0At (F := Ideal) P c r (ValueIdx.ix2 x y) = P c (rowOf c r x y) := read_part _ c r x y _ (part0_inb c r) (off_kept c r)
  show (rsVal (F := Ideal) P true 7 _ c r (ValueIdx.ix2 x y) + part0At (F := Ideal) P c r (ValueIdx.ix2 x y)) + rsVal (F := Ideal) P false 6 _ c r (ValueIdx.ix2 x y) = _
  rw [key, show rsVal (F := Ideal) P true 7 _ c r (ValueIdx.ix2 x y) = _ from h1, show rsVal (F := Ideal) P false 6 _ c r (ValueIdx.ix2 x y) = _ from h2, h0,
    Finset.sum_range, Finset.sum_range]
  simp only [Fin.sum_univ_castSucc, Fin.sum_univ_zero, zero_add, add_assoc]
  rfl

/-- The result on every device, element by element: the sum of the sixteen partial products. -/
theorem outAt_sum (c : Dev nD) (b : Fin 2) (i : Fin 512) (y : Fin 1024) :
    outAt (F := Ideal) P c (ValueIdx.ix3 b i y) = ∑ n : Dev nD, P n (ValueIdx.ix2 ⟨b.val * 512 + i.val, by omega⟩ y) := by
  have hb := b.isLt
  have hi := i.isLt
  let k : Dev nD := ⟨(b.val * 512 + i.val) / 64, by show _ < 16; omega⟩
  let r : Fin 2 := ⟨(b.val * 512 + i.val) % 64 / 32, by omega⟩
  let x : Fin 32 := ⟨(b.val * 512 + i.val) % 32, by omega⟩
  have e : (ValueIdx.ix2 ⟨b.val * 512 + i.val, by omega⟩ y : S1024x1024.Idx) = rowOf k r x y := by
    unfold rowOf
    refine congrArg (fun a => ValueIdx.ix2 a y) (Fin.ext ?_)
    show b.val * 512 + i.val = (b.val * 512 + i.val) / 64 * 64 + (b.val * 512 + i.val) % 64 / 32 * 32 + (b.val * 512 + i.val) % 32
    omega
  rw [e, ← redAt_sum]
  show chunkAt (F := Ideal) P c k r (ValueIdx.ix2 x y) = _
  unfold chunkAt
  split
  · next h => rw [h]
  · rfl

end Cert.KernelIdeal.Ring

end
-- ==== Proof.KernelIdealTables.lean ====
/-
  The tables the kernel is called with: the cosines and the sines of the reference, once for each of a device's heads, and the masks
  of the even and the odd columns.
-/
module

public import proofs.«01_k».proof.Proof.KernelIdealWindows
public import proofs.«01_k».proof.Proof.ReferenceValue

@[expose] public section

noncomputable section

namespace Cert.KernelIdeal.Ring

open Cert.KernelIdeal Cert.KernelIdeal.Gen
open Idealize.ShloMosaic
open Idealize.ShloMosaic.TcCoe

section Any

variable {F : FTy → Type} [FloatOps F] (m : (ℓ : Loc nD τ sig) → Buf (Elt F) ℓ) (c : Dev nD)

/-- A table of a head's columns, once for each head. -/
def tiled (T : S512x128.Idx → F .f32) : S512x1024.Idx → F .f32 :=
  shapeCast S512x1024 (broadcastInDim S1x512x8x128 ![0, 1, 2, 3] bcast_S1x512x1x128_S1x512x8x128_0_1_2_3
    (shapeCast S1x512x1x128 T shapeCasts_S512x128_S1x512x1x128)) shapeCasts_S1x512x8x128_S512x1024

/-- The mask of the even columns. -/
def evens : S1x1024.Idx → F .f32 :=
  broadcastInDim S1x1024 ![1] bcast_S1024_S1x1024_1 (shapeCast S1024 (broadcastInDim S512x2 ![0, 1] bcast_S1x2_S512x2_0_1
    (shapeCast S1x2 (fun i : S2.Idx => FloatOps.ofBits .f32 (lit0 (S2.rowMajor i)) : S2.Idx → F .f32) shapeCasts_S2_S1x2)) shapeCasts_S512x2_S1024)

/-- The arrays the kernel is called with: the cosines, -/
theorem V_cos : V m c main_v28 = tiled (Cert.ReferenceIdeal.Read.val_main_v21 (F := F)) := by
  unfold V hostOps0
  after_results
  rfl
/-- the sines, -/
theorem V_sin : V m c main_v31 = tiled (Cert.ReferenceIdeal.Read.val_main_v24 (F := F)) := by
  unfold V hostOps0
  after_results
  rfl
/-- the even columns, -/
theorem V_ev : V m c main_v35 = evens (F := F) := by
  unfold V hostOps0
  after_results
  rfl
/-- and the odd ones. -/
theorem V_od : V m c main_v37 = subf (broadcastInDim S1x1024 ![] bcast_S_S1x1024 (constant S_ .f32 0x3F800000#32)) (evens (F := F)) := by
  unfold V hostOps0
  after_results
  rfl

end Any

open Idealize.ShloMosaic.ValueIdx

/-- A tiled table reads its column within the head. -/
theorem tiled_at (T : S512x128.Idx → EReal) (i : Fin 512) (C : Fin 1024) :
    tiled (F := Ideal) T (ix2 i C) = T (ix2 i ⟨C.val % 128, Nat.mod_lt _ (by decide)⟩) := by
  have hC := C.isLt
  unfold tiled
  rw [shapeCast_apply _ _ (ix2 i C) (ix4 (0 : Fin 1) i (⟨C.val / 128, by omega⟩ : Fin 8) (⟨C.val % 128, Nat.mod_lt _ (by decide)⟩ : Fin 128))
      (by rw [Shape.rowMajor_val_four, Shape.rowMajor_val_two]; show ((0 * 512 + i.val) * 8 + C.val / 128) * 128 + C.val % 128 = i.val * 1024 + C.val; omega),
    broadcastInDim_apply (s := S1x512x1x128) _ _ _ _ (ix4 (0 : Fin 1) i (0 : Fin 1) (⟨C.val % 128, Nat.mod_lt _ (by decide)⟩ : Fin 128)) (fun a => match a with
      | ⟨0, _⟩ => rfl | ⟨1, _⟩ => rfl | ⟨2, _⟩ => rfl | ⟨3, _⟩ => rfl),
    shapeCast_apply _ _ _ (ix2 i (⟨C.val % 128, Nat.mod_lt _ (by decide)⟩ : Fin 128))
      (by rw [Shape.rowMajor_val_four, Shape.rowMajor_val_two]; show i.val * 128 + C.val % 128 = ((0 * 512 + i.val) * 1 + 0) * 128 + C.val % 128; omega)]

/-- The mask is one on the even columns and zero on the odd ones. -/
theorem evens_at (C : Fin 1024) : evens (F := Ideal) (ix2 (0 : Fin 1) C) = if C.val % 2 = 0 then 1 else 0 := by
  have hC := C.isLt
  have h2 : C.val % 2 < 2 := Nat.mod_lt _ (by decide)
  unfold evens
  rw [broadcastInDim_apply (s := S1024) _ _ _ _ (ix1 C) (fun a => match a with | ⟨0, _⟩ => rfl),
    shapeCast_apply _ _ _ (ix2 (⟨C.val / 2, by omega⟩ : Fin 512) (⟨C.val % 2, h2⟩ : Fin 2))
      (by rw [Shape.rowMajor_val_two, Shape.rowMajor_val_one]; show C.val / 2 * 2 + C.val % 2 = C.val; omega),
    broadcastInDim_apply (s := S1x2) _ _ _ _ (ix2 (0 : Fin 1) (⟨C.val % 2, h2⟩ : Fin 2)) (fun a => match a with | ⟨0, _⟩ => rfl | ⟨1, _⟩ => rfl),
    shapeCast_apply _ _ _ (ix1 (⟨C.val % 2, h2⟩ : Fin 2))
      (by rw [Shape.rowMajor_val_two, Shape.rowMajor_val_one]; show C.val % 2 = 0 * 2 + C.val % 2; omega)]
  have hm : ∀ e : Fin 2, S2.rowMajor (ix1 e) = e := fun e => Fin.ext (Shape.rowMajor_val_one _)
  rw [hm]
  by_cases h : C.val % 2 = 0
  · rw [if_pos h, show (⟨C.val % 2, h2⟩ : Fin 2) = 0 from Fin.ext h]
    exact Cert.ReferenceIdeal.Attn.ofBits_one
  · rw [if_neg h, show (⟨C.val % 2, h2⟩ : Fin 2) = 1 from Fin.ext (by show C.val % 2 = 1; omega)]
    exact Ideal.ofBits_zero_f32

/-- The other mask is the one's complement. -/
theorem odds_at (C : Fin 1024) :
    subf (broadcastInDim S1x1024 ![] bcast_S_S1x1024 (constant S_ .f32 0x3F800000#32)) (evens (F := Ideal)) (ix2 (0 : Fin 1) C)
      = if C.val % 2 = 0 then 0 else 1 := by
  show Ideal.ofBits .f32 0x3F800000#32 - evens (F := Ideal) (ix2 (0 : Fin 1) C) = _
  rw [evens_at, Cert.ReferenceIdeal.Attn.ofBits_one]
  by_cases h : C.val % 2 = 0
  · rw [if_pos h, if_pos h]
    exact (EReal.coe_sub 1 1).symm.trans (by norm_num)
  · rw [if_neg h, if_neg h, sub_zero]
    rfl

end Cert.KernelIdeal.Ring

end
-- ==== Proof.KernelIdealValue.lean ====
/-
  A device's partial product read at an index: the sum, over the columns of the device's heads, of the head's row times the device's
  rows of the output projection.
-/
module

public import proofs.«01_k».proof.Proof.KernelIdealBody
public import proofs.«01_k».proof.Proof.AttnMath
public import Idealize.ShloMosaic.Lib.KernelVsHost

@[expose] public section

noncomputable section

namespace Cert.KernelIdeal.Ring

open Cert.KernelIdeal Cert.KernelIdeal.Gen
open Idealize.ShloMosaic Idealize.ShloMosaic.ValueIdx
open Cert.Attn

/-! ## The products -/

/-- A product with one contracted axis, the operands' indices named. -/
theorem matmul_at {sl sr so : Shape} (d : DotDims sl sr so) (K : ℕ) (hr : d.contr.rank = 1) (hs : d.contr.size ⟨0, by omega⟩ = K)
    (lhs : FVec Ideal sl .f32) (rhs : FVec Ideal sr .f32) (j : so.Idx) (L : Fin K → sl.Idx) (R : Fin K → sr.Idx)
    (hL : ∀ q (k : Fin K), (q ⟨0, by omega⟩).val = k.val → d.lhsIdx j q = L k)
    (hR : ∀ q (k : Fin K), (q ⟨0, by omega⟩).val = k.val → d.rhsIdx j q = R k) :
    matmul d none lhs rhs (constant so .f32 0x00000000#32) j = ∑ k, lhs (L k) * rhs (R k) := by
  refine (Ideal.matmul_constant_zero_apply d none lhs rhs j).trans ?_
  rw [← Equiv.sum_comp (contrEquiv1 d K hr hs).symm]
  refine Finset.sum_congr rfl fun k _ => ?_
  rw [hL _ k (contrEquiv1_symm_val d K hr hs k), hR _ k (contrEquiv1_symm_val d K hr hs k)]

theorem matmul_proj (lhs : FVec Ideal S512x1024 .f32) (rhs : FVec Ideal S1024x1024 .f32) (i : Fin 512) (C : Fin 1024) :
    matmul dot_S512x1024_S1024x1024_S512x1024_1_0_0_1_n_n none lhs rhs (constant S512x1024 .f32 0x00000000#32) (ix2 i C)
      = ∑ k : Fin 1024, lhs (ix2 i k) * rhs (ix2 k C) := by
  refine matmul_at _ 1024 rfl rfl lhs rhs _ (fun k => ix2 i k) (fun k => ix2 k C) (fun q k hk => funext fun a => Fin.ext ?_) (fun q k hk => funext fun a => Fin.ext ?_)
  · match a with
    | ⟨0, _⟩ =>
      show (DotDims.lhsIdx _ _ _ 0).val = i.val
      unfold DotDims.lhsIdx
      rw [dif_neg (by decide), dif_pos (by decide)]
      rfl
    | ⟨1, _⟩ => exact (DotDims.lhsIdx_val_of_single _ rfl _ q).trans hk
  · match a with
    | ⟨0, _⟩ => exact (DotDims.rhsIdx_val_of_single _ rfl _ q).trans hk
    | ⟨1, _⟩ =>
      show (DotDims.rhsIdx _ _ _ 1).val = C.val
      unfold DotDims.rhsIdx
      rw [dif_neg (by decide), dif_pos (by decide)]
      rfl

theorem matmul_scores (lhs rhs : FVec Ideal S512x128 .f32) (i j : Fin 512) :
    matmul dot_S512x128_S512x128_S512x512_1_1_0_0_n_n none lhs rhs (constant S512x512 .f32 0x00000000#32) (ix2 i j)
      = ∑ d : Fin 128, lhs (ix2 i d) * rhs (ix2 j d) := by
  refine matmul_at _ 128 rfl rfl lhs rhs _ (fun k => ix2 i k) (fun k => ix2 j k) (fun q k hk => funext fun a => Fin.ext ?_) (fun q k hk => funext fun a => Fin.ext ?_)
  · match a with
    | ⟨0, _⟩ =>
      show (DotDims.lhsIdx _ _ _ 0).val = i.val
      unfold DotDims.lhsIdx
      rw [dif_neg (by decide), dif_pos (by decide)]
      rfl
    | ⟨1, _⟩ => exact (DotDims.lhsIdx_val_of_single _ rfl _ q).trans hk
  · match a with
    | ⟨0, _⟩ =>
      show (DotDims.rhsIdx _ _ _ 0).val = j.val
      unfold DotDims.rhsIdx
      rw [dif_neg (by decide), dif_pos (by decide)]
      rfl
    | ⟨1, _⟩ => exact (DotDims.rhsIdx_val_of_single _ rfl _ q).trans hk

theorem matmul_rows (lhs : FVec Ideal S512x512 .f32) (rhs : FVec Ideal S512x128 .f32) (i : Fin 512) (d : Fin 128) :
    matmul dot_S512x512_S512x128_S512x128_1_0_0_1_n_n none lhs rhs (constant S512x128 .f32 0x00000000#32) (ix2 i d)
      = ∑ j : Fin 512, lhs (ix2 i j) * rhs (ix2 j d) := by
  refine matmul_at _ 512 rfl rfl lhs rhs _ (fun k => ix2 i k) (fun k => ix2 k d) (fun q k hk => funext fun a => Fin.ext ?_) (fun q k hk => funext fun a => Fin.ext ?_)
  · match a with
    | ⟨0, _⟩ =>
      show (DotDims.lhsIdx _ _ _ 0).val = i.val
      unfold DotDims.lhsIdx
      rw [dif_neg (by decide), dif_pos (by decide)]
      rfl
    | ⟨1, _⟩ => exact (DotDims.lhsIdx_val_of_single _ rfl _ q).trans hk
  · match a with
    | ⟨0, _⟩ => exact (DotDims.rhsIdx_val_of_single _ rfl _ q).trans hk
    | ⟨1, _⟩ =>
      show (DotDims.rhsIdx _ _ _ 1).val = d.val
      unfold DotDims.rhsIdx
      rw [dif_neg (by decide), dif_pos (by decide)]
      rfl

/-! ## The projections and the rotary embedding -/

theorem projVal_at (x : Vec Ideal S1x512x1024 .f32) (w : Vec Ideal S1024x1024 .f32) (i : Fin 512) (C : Fin 1024) :
    projVal x w (ix2 i C) = ∑ k : Fin 1024, x (ix3 (0 : Fin 1) i k) * w (ix2 k C) := by
  unfold projVal
  rw [matmul_proj, shapeCast_self]
  refine Finset.sum_congr rfl fun k _ => congrArg (· * w (ix2 k C)) ?_
  exact shapeCast_apply x _ (ix2 i k) (ix3 (0 : Fin 1) i k)
    (by rw [Shape.rowMajor_val_three, Shape.rowMajor_val_two]; show (0 * 512 + i.val) * 1024 + k.val = i.val * 1024 + k.val; omega)

/-- A column of a head among a device's. -/
def hcol (h : Fin 8) (d : Fin 128) : Fin 1024 := ⟨h.val * 128 + d.val, by omega⟩

theorem mask_at (m : Vec Ideal S1x1024 .f32) (i : Fin 512) (C : Fin 1024) :
    broadcastTo S512x1024 (shapeCast S1x1024 m shapeCasts_S1x1024_S1x1024 : FVec Ideal S1x1024 .f32) broadcasts_S1x1024_S512x1024 (ix2 i C)
      = m (ix2 (0 : Fin 1) C) := by
  rw [shapeCast_self]
  exact broadcastTo_apply m _ (ix2 i C) (ix2 (0 : Fin 1) C) (fun a => match a with | ⟨0, _⟩ => rfl | ⟨1, _⟩ => rfl)

theorem rotate_back (t : FVec Ideal S512x1024 .f32) (i : Fin 512) (C D : Fin 1024) (h : D.val + 1 = C.val) :
    dynamicRotate 1 1#32 none t rotates_S512x1024_d1 (ix2 i C) = t (ix2 i D) :=
  dynamicRotate_apply (1 : Fin 2) 1#32 t _ (ix2 i C) (ix2 i D) (fun a => match a with
    | ⟨0, _⟩ => rfl
    | ⟨1, _⟩ => by show D.val = (C.val + 1024 - 1 % 1024) % 1024; have := C.isLt; omega)
theorem rotate_on (t : FVec Ideal S512x1024 .f32) (i : Fin 512) (C D : Fin 1024) (h : C.val + 1 = D.val) :
    dynamicRotate 1 1023#32 none t rotates_S512x1024_d1 (ix2 i C) = t (ix2 i D) :=
  dynamicRotate_apply (1 : Fin 2) 1023#32 t _ (ix2 i C) (ix2 i D) (fun a => match a with
    | ⟨0, _⟩ => rfl
    | ⟨1, _⟩ => by show D.val = (C.val + 1024 - 1023 % 1024) % 1024; have := D.isLt; omega)

/-- The rotations of a row under the masks turn each pair of a head's columns. -/
theorem rotVal_at (cos sin : Vec Ideal S512x1024 .f32) (ev od : Vec Ideal S1x1024 .f32) (t : FVec Ideal S512x1024 .f32)
    (hev : ∀ C : Fin 1024, ev (ix2 (0 : Fin 1) C) = if C.val % 2 = 0 then 1 else 0)
    (hod : ∀ C : Fin 1024, od (ix2 (0 : Fin 1) C) = if C.val % 2 = 0 then 0 else 1) (i : Fin 512) (h : Fin 8) (d : Fin 128) :
    rotVal cos sin ev od t (ix2 i (hcol h d))
      = rope (fun d => cos (ix2 i (hcol h d))) (fun d => sin (ix2 i (hcol h d))) (fun d => t (ix2 i (hcol h d))) d := by
  have hh := h.isLt
  have hd := d.isLt
  unfold rotVal rope
  rw [shapeCast_self cos, shapeCast_self sin]
  refine congrArg (fun r => t (ix2 i (hcol h d)) * cos (ix2 i (hcol h d)) + r * sin (ix2 i (hcol h d))) ?_
  show dynamicRotate 1 1#32 none t rotates_S512x1024_d1 (ix2 i (hcol h d)) * broadcastTo S512x1024 _ broadcasts_S1x1024_S512x1024 (ix2 i (hcol h d))
      - dynamicRotate 1 1023#32 none t rotates_S512x1024_d1 (ix2 i (hcol h d)) * broadcastTo S512x1024 _ broadcasts_S1x1024_S512x1024 (ix2 i (hcol h d)) = _
  rw [mask_at, mask_at, hev, hod]
  by_cases he : d.val % 2 = 0
  · have hC : (hcol h d).val % 2 = 0 := by show (h.val * 128 + d.val) % 2 = 0; omega
    rw [if_pos hC, if_pos hC, dif_pos he, mul_zero, mul_one, sub_eq_add_neg, zero_add]
    exact congrArg Neg.neg (rotate_on t i _ (hcol h ⟨d.val + 1, by omega⟩) (by show h.val * 128 + d.val + 1 = h.val * 128 + (d.val + 1); omega))
  · have hC : ¬(hcol h d).val % 2 = 0 := by show ¬(h.val * 128 + d.val) % 2 = 0; omega
    rw [if_neg hC, if_neg hC, dif_neg he, mul_zero, mul_one, sub_zero]
    exact rotate_back t i _ (hcol h ⟨d.val - 1, by omega⟩) (by show h.val * 128 + (d.val - 1) + 1 = h.val * 128 + d.val; omega)

/-! ## The heads -/

theorem colsOf_at (t : FVec Ideal S512x1024 .f32) (h : Fin 8) (i : Fin 512) (d : Fin 128) : colsOf t h (ix2 i d) = t (ix2 i (hcol h d)) :=
  extractStridedSlice_apply _ t _ (ix2 i d) (ix2 i (hcol h d)) (fun a => match a with
    | ⟨0, _⟩ => (Nat.zero_add _).symm
    | ⟨1, _⟩ => rfl)

theorem expVal_at (q k : FVec Ideal S512x128 .f32) (i j : Fin 512) :
    expVal q k (ix2 i j) = Ideal.exp (score scale (fun d => q (ix2 i d)) (fun d => k (ix2 j d))) := by
  unfold expVal score
  rw [← matmul_scores]
  rfl

theorem headVal_at (q k v : FVec Ideal S512x128 .f32) (i : Fin 512) (d : Fin 128) :
    headVal q k v (ix2 i d) = headK (fun j => score scale (fun d => q (ix2 i d)) (fun d => k (ix2 j d))) (fun j => v (ix2 j d)) := by
  unfold headVal headK
  simp only [← expVal_at]
  rw [← matmul_rows]
  refine congrArg (Ideal.div _) ?_
  rw [broadcastTo_apply (s := S512x1) _ _ (ix2 i d) (ix2 i (0 : Fin 1)) (fun a => match a with | ⟨0, _⟩ => rfl | ⟨1, _⟩ => rfl),
    shapeCast_apply (s := S512) _ _ (ix2 i (0 : Fin 1)) (ix1 i) (by rw [Shape.rowMajor_val_one, Shape.rowMajor_val_two]; show i.val = i.val * 1 + 0; omega)]
  refine (Ideal.multiReduction_add_single _ _ _ _ _ _).trans ?_
  exact Finset.sum_congr rfl fun j _ => congrArg (expVal q k) (funext fun a => Fin.ext (by match a with | ⟨0, _⟩ => rfl | ⟨1, _⟩ => rfl))

theorem ctxVal_at (q k v : FVec Ideal S512x1024 .f32) (i : Fin 512) (h : Fin 8) (d : Fin 128) :
    ctxVal q k v (ix2 i (hcol h d)) = headVal (colsOf q h) (colsOf k h) (colsOf v h) (ix2 i d) := by
  have hd := d.isLt
  exact concatenate_ofFn_apply (s₁ := S512x128) (t := S512x1024) 1 (fun h : Fin 8 => headVal (colsOf q h) (colsOf k h) (colsOf v h))
    concatenates_S512x128_S512x128_S512x128_S512x128_S512x128_S512x128_S512x128_S512x128_S512x1024_d1 rfl 128 rfl (ix2 i (hcol h d)) h
    (by show (h.val * 128 + d.val) / 128 = h.val; omega) (ix2 i d) (by show d.val = (h.val * 128 + d.val) % 128; omega)
    (fun a => match a with | ⟨0, _⟩ => fun _ => rfl | ⟨1, _⟩ => fun hne => absurd rfl hne)

theorem partVal_at (cos sin : Vec Ideal S512x1024 .f32) (ev od : Vec Ideal S1x1024 .f32) (x : Vec Ideal S1x512x1024 .f32)
    (wq wk wv wo : Vec Ideal S1024x1024 .f32) (i : Fin 512) (y : Fin 1024) :
    partVal cos sin ev od x wq wk wv wo (ix2 i y)
      = ∑ E : Fin 1024, ctxVal (rotVal cos sin ev od (projVal x wq)) (rotVal cos sin ev od (projVal x wk)) (projVal x wv) (ix2 i E) * wo (ix2 E y) := by
  unfold partVal
  rw [shapeCast_self, matmul_proj, shapeCast_self]

end Cert.KernelIdeal.Ring

end
-- ==== Proof.KernelIdealEqual.lean ====
/-
  The kernel's result on the extended reals is the reference's: a device's partial product is the sum over its own heads' columns, and
  the sum of the sixteen is the reference's sum over every column.
-/
module

public import proofs.«01_k».proof.Proof.KernelIdealSum
public import proofs.«01_k».proof.Proof.KernelIdealTables
public import proofs.«01_k».proof.Proof.KernelIdealValue
public import Idealize.ShloMosaic.Lib.Pointwise.Sums
public import Idealize.ShloMosaic.Lib.Layout

@[expose] public section

noncomputable section

namespace Cert.KernelIdeal.Ring

open Cert.KernelIdeal Cert.KernelIdeal.Gen
open Idealize.ShloMosaic hiding ix2 ix3 eq_ix3
open Idealize.ShloMosaic.ValueIdx
open Idealize.ShloMosaic.TcCoe
open Cert.Attn Cert.ReferenceIdeal.Attn Cert.ReferenceIdeal.Read

/-! ## What the loads read -/

theorem ld_full (X : S512x1024.Idx → EReal) (i : Fin 512) (C : Fin 1024) : ld (F := Ideal) rectFull2 X (ix2 i C) = X (ix2 i C) :=
  congrArg X (funext fun a => Fin.ext (match a with
    | ⟨0, _⟩ => by show 0 + 1 * i.val = i.val; omega
    | ⟨1, _⟩ => by show 0 + 1 * C.val = C.val; omega))
theorem ld_mask (X : S1x1024.Idx → EReal) (C : Fin 1024) : ld (F := Ideal) rectMask X (ix2 (0 : Fin 1) C) = X (ix2 (0 : Fin 1) C) :=
  congrArg X (funext fun a => Fin.ext (match a with
    | ⟨0, _⟩ => rfl
    | ⟨1, _⟩ => by show 0 + 1 * C.val = C.val; omega))
theorem ld_weight (X : S1024x1024.Idx → EReal) (k C : Fin 1024) : ld (F := Ideal) rectW X (ix2 k C) = X (ix2 k C) :=
  congrArg X (funext fun a => Fin.ext (match a with
    | ⟨0, _⟩ => by show 0 + 1 * k.val = k.val; omega
    | ⟨1, _⟩ => by show 0 + 1 * C.val = C.val; omega))
theorem ld_batch (X : S2x512x1024.Idx → EReal) (b : Fin 2) (i : Fin 512) (k : Fin 1024) :
    ld (F := Ideal) (rectX b) X (ix3 (0 : Fin 1) i k) = X (ix3 b i k) :=
  congrArg X (funext fun a => Fin.ext (match a with
    | ⟨0, _⟩ => by show b.val + 1 * 0 = b.val; omega
    | ⟨1, _⟩ => by show 0 + 1 * i.val = i.val; omega
    | ⟨2, _⟩ => by show 0 + 1 * k.val = k.val; omega))

/-- A row of the partial product is a row of its batch's. -/
theorem partBuf_at (I : Ins Ideal) (b : Fin 2) (i : Fin 512) (y : Fin 1024) :
    partBuf I (ix2 ⟨b.val * 512 + i.val, by omega⟩ y) = partRows I b (ix2 i y) := by
  have hb := b.isLt
  have hi := i.isLt
  have same : ∀ (b' : Fin 2) (j' : S512x1024.Idx), b' = b → j' = ix2 i y → partRows I b' j' = partRows I b (ix2 i y) := by
    rintro _ _ rfl rfl; rfl
  exact same _ _ (Fin.ext (by show (b.val * 512 + i.val) / 512 = b.val; omega))
    (congrArg (fun r => ix2 r y) (Fin.ext (by show (b.val * 512 + i.val) % 512 = i.val; omega)))

/-! ## A device's partial product -/

/-- Column `C` of device `n`'s block, among all the columns. -/
def wide (n : Dev nD) (C : Fin 1024) : Fin 16384 := ⟨n.val * 1024 + C.val, by have : n.val < 16 := n.isLt; omega⟩

/-- Head `h` of device `n`, among all the heads. -/
def headOf (n : Dev nD) (h : Fin 8) : Fin 128 := ⟨n.val * 8 + h.val, by have : n.val < 16 := n.isLt; omega⟩

theorem wide_hcol (n : Dev nD) (h : Fin 8) (d : Fin 128) : wide n (hcol h d) = colOf (headOf n h) d :=
  Fin.ext (by show n.val * 1024 + (h.val * 128 + d.val) = (n.val * 8 + h.val) * 128 + d.val; omega)

section Device

variable (I : Ins Ideal) (n : Dev nD) (x : S2x512x1024.Idx → EReal) (Wq Wk Wv : Cert.ReferenceIdeal.S1024x16384.Idx → EReal)

/-- A device's projection is the reference's on the device's columns. -/
theorem proj_at (w : S1024x1024.Idx → EReal) (W : Cert.ReferenceIdeal.S1024x16384.Idx → EReal)
    (hw : ∀ k C, w (ix2 k C) = W (ix2 k (wide n C))) (b : Fin 2) (i : Fin 512) (h : Fin 8) (d : Fin 128) :
    projVal (F := Ideal) (ld (F := Ideal) (rectX b) x) (ld (F := Ideal) rectW w) (ix2 i (hcol h d)) = headProj x W b (headOf n h) i d := by
  rw [projVal_at]
  unfold headProj proj
  refine Finset.sum_congr rfl fun k _ => ?_
  rw [ld_batch, ld_weight, hw, wide_hcol]

theorem table_at (T : Cert.ReferenceIdeal.S512x128.Idx → EReal) (i : Fin 512) (h : Fin 8) (d : Fin 128) :
    ld (F := Ideal) rectFull2 (tiled (F := Ideal) T) (ix2 i (hcol h d)) = T (ix2 i d) := by
  rw [ld_full, tiled_at]
  exact congrArg (fun d => T (ix2 i d)) (Fin.ext (by show (h.val * 128 + d.val) % 128 = d.val; omega))

variable (hcos : I.cos = tiled (F := Ideal) (val_main_v21 (F := Ideal))) (hsin : I.sin = tiled (F := Ideal) (val_main_v24 (F := Ideal)))
  (hev : I.ev = evens (F := Ideal))
  (hod : I.od = subf (broadcastInDim S1x1024 ![] bcast_S_S1x1024 (constant S_ .f32 0x3F800000#32)) (evens (F := Ideal)))

include hcos hsin hev hod in
/-- So is its turned projection. -/
theorem turned_at (w : S1024x1024.Idx → EReal) (W : Cert.ReferenceIdeal.S1024x16384.Idx → EReal)
    (hw : ∀ k C, w (ix2 k C) = W (ix2 k (wide n C))) (b : Fin 2) (i : Fin 512) (h : Fin 8) (d : Fin 128) :
    rotVal (F := Ideal) (ld rectFull2 I.cos) (ld rectFull2 I.sin) (ld rectMask I.ev) (ld rectMask I.od)
        (projVal (F := Ideal) (ld (F := Ideal) (rectX b) x) (ld (F := Ideal) rectW w)) (ix2 i (hcol h d))
      = rope (cosT i) (sinT i) (headProj x W b (headOf n h) i) d := by
  rw [rotVal_at _ _ _ _ _ (fun C => by rw [ld_mask, hev, evens_at]) (fun C => by rw [ld_mask, hod, odds_at])]
  simp only [proj_at n x w W hw, hcos, hsin, table_at]
  rfl

variable (hx : I.x = x) (hq : ∀ k C, I.wq (ix2 k C) = Wq (ix2 k (wide n C))) (hk : ∀ k C, I.wk (ix2 k C) = Wk (ix2 k (wide n C)))
  (hv : ∀ k C, I.wv (ix2 k C) = Wv (ix2 k (wide n C)))
  (rx : ∀ j, Real' (x j)) (rq : ∀ k C, Real' (I.wq (ix2 k C))) (rk : ∀ k C, Real' (I.wk (ix2 k C)))

/-- A head's rows of a projection of real arrays are real numbers. -/
theorem headProj_real (w : S1024x1024.Idx → EReal) (W : Cert.ReferenceIdeal.S1024x16384.Idx → EReal)
    (hw : ∀ k C, w (ix2 k C) = W (ix2 k (wide n C))) (rx : ∀ j, Real' (x j)) (rw' : ∀ k C, Real' (w (ix2 k C)))
    (b : Fin 2) (h : Fin 8) (i : Fin 512) (d : Fin 128) : Real' (headProj x W b (headOf n h) i d) := by
  rw [← proj_at n x w W hw, projVal_at]
  refine Real'.sum _ fun k => ?_
  rw [ld_batch, ld_weight]
  exact (rx _).mul (rw' _ _)

include hcos hsin hev hod hx hq hk hv rx rq rk in
/-- A device's heads hold the reference's. -/
theorem heads_at (b : Fin 2) (i : Fin 512) (C : Fin 1024) :
    ctxVal (F := Ideal)
        (rotVal (F := Ideal) (ld rectFull2 I.cos) (ld rectFull2 I.sin) (ld rectMask I.ev) (ld rectMask I.od) (projVal (ld (rectX b) I.x) (ld rectW I.wq)))
        (rotVal (F := Ideal) (ld rectFull2 I.cos) (ld rectFull2 I.sin) (ld rectMask I.ev) (ld rectMask I.od) (projVal (ld (rectX b) I.x) (ld rectW I.wk)))
        (projVal (ld (rectX b) I.x) (ld rectW I.wv)) (ix2 i C)
      = val_main_v79 (F := Ideal) x Wq Wk Wv (ix3 b i (wide n C)) := by
  have hC := C.isLt
  subst hx
  obtain ⟨h, d, rfl⟩ : ∃ (h : Fin 8) (d : Fin 128), C = hcol h d :=
    ⟨⟨C.val / 128, by omega⟩, ⟨C.val % 128, by omega⟩, Fin.ext (by show C.val = C.val / 128 * 128 + C.val % 128; omega)⟩
  rw [ctxVal_at, headVal_at, wide_hcol, v79_at]
  simp only [colsOf_at, turned_at I n I.x hcos hsin hev hod _ _ hq, turned_at I n I.x hcos hsin hev hod _ _ hk, proj_at n I.x _ _ hv]
  exact headK_eq_headR _ _ fun j => scores_real cosT_real sinT_real
    (headProj_real n I.x _ _ hq rx rq b h) (headProj_real n I.x _ _ hk rx rk b h) i j

include hcos hsin hev hod hx hq hk hv rx rq rk in
/-- A device's partial product is the reference's sum over the device's columns. -/
theorem part_at (Wo : Cert.ReferenceIdeal.S16384x1024.Idx → EReal) (ho : ∀ C y, I.wo (ix2 C y) = Wo (ix2 (wide n C) y))
    (b : Fin 2) (i : Fin 512) (y : Fin 1024) :
    partBuf I (ix2 ⟨b.val * 512 + i.val, by omega⟩ y)
      = ∑ C : Fin 1024, val_main_v79 (F := Ideal) x Wq Wk Wv (ix3 b i (wide n C)) * Wo (ix2 (wide n C) y) := by
  rw [partBuf_at]
  unfold partRows
  rw [partVal_at]
  refine Finset.sum_congr rfl fun C _ => ?_
  rw [heads_at I n x Wq Wk Wv hcos hsin hev hod hx hq hk hv rx rq rk, ld_weight, ho]

end Device

/-! ## The whole -/

section Whole

variable (m : (ℓ : Loc nD τ sig) → Buf (Elt Ideal) ℓ) (x : S2x512x1024.Idx → EReal)
  (Wq Wk Wv : Cert.ReferenceIdeal.S1024x16384.Idx → EReal) (Wo : Cert.ReferenceIdeal.S16384x1024.Idx → EReal)

/-- Sixteen blocks of columns make the first three projections, and sixteen of rows the last. -/
theorem tiles_cols : Layout.Tiles ⟨2, ![1024, 1024]⟩ ⟨2, ![1024, 16384]⟩ 1 16 := by decide
theorem tiles_rows : Layout.Tiles ⟨2, ![1024, 1024]⟩ ⟨2, ![16384, 1024]⟩ 0 16 := by decide

/-- A device's block of columns, and of rows. -/
theorem cut_cols (n : Dev nD) (W : Cert.ReferenceIdeal.S1024x16384.Idx → EReal) (h : Layout.Tiles ⟨2, ![1024, 1024]⟩ ⟨2, ![1024, 16384]⟩ 1 16)
    (k C : Fin 1024) : Layout.block ⟨2, ![1024, 1024]⟩ ⟨2, ![1024, 16384]⟩ 1 16 n W h (ix2 k C) = W (ix2 k (wide n C)) :=
  congrArg W (funext fun a => Fin.ext (match a with | ⟨0, _⟩ => rfl | ⟨1, _⟩ => rfl))
theorem cut_rows (n : Dev nD) (h : Layout.Tiles ⟨2, ![1024, 1024]⟩ ⟨2, ![16384, 1024]⟩ 0 16)
    (C y : Fin 1024) : Layout.block ⟨2, ![1024, 1024]⟩ ⟨2, ![16384, 1024]⟩ 0 16 n Wo h (ix2 C y) = Wo (ix2 (wide n C) y) :=
  congrArg Wo (funext fun a => Fin.ext (match a with | ⟨0, _⟩ => rfl | ⟨1, _⟩ => rfl))

/-- The tables among the arrays the kernel is called with. -/
theorem insAt_cos (n : Dev nD) : (insAt (F := Ideal) m n).cos = tiled (F := Ideal) (val_main_v21 (F := Ideal)) := by
  unfold insAt
  exact V_cos (F := Ideal) m n
theorem insAt_sin (n : Dev nD) : (insAt (F := Ideal) m n).sin = tiled (F := Ideal) (val_main_v24 (F := Ideal)) := by
  unfold insAt
  exact V_sin (F := Ideal) m n
theorem insAt_ev (n : Dev nD) : (insAt (F := Ideal) m n).ev = evens (F := Ideal) := by
  unfold insAt
  exact V_ev (F := Ideal) m n
theorem insAt_od (n : Dev nD) :
    (insAt (F := Ideal) m n).od = subf (broadcastInDim S1x1024 ![] bcast_S_S1x1024 (constant S_ .f32 0x3F800000#32)) (evens (F := Ideal)) := by
  unfold insAt
  exact V_od (F := Ideal) m n

variable (hx : ∀ n : Dev nD, m ((n : Thread nD τ).loc main_arg0) = x)
    (hq : ∀ n : Dev nD, m ((n : Thread nD τ).loc main_arg1) = Layout.block ⟨2, ![1024, 1024]⟩ ⟨2, ![1024, 16384]⟩ 1 16 n Wq tiles_cols)
    (hk : ∀ n : Dev nD, m ((n : Thread nD τ).loc main_arg2) = Layout.block ⟨2, ![1024, 1024]⟩ ⟨2, ![1024, 16384]⟩ 1 16 n Wk tiles_cols)
    (hv : ∀ n : Dev nD, m ((n : Thread nD τ).loc main_arg3) = Layout.block ⟨2, ![1024, 1024]⟩ ⟨2, ![1024, 16384]⟩ 1 16 n Wv tiles_cols)
    (ho : ∀ n : Dev nD, m ((n : Thread nD τ).loc main_arg4) = Layout.block ⟨2, ![1024, 1024]⟩ ⟨2, ![16384, 1024]⟩ 0 16 n Wo tiles_rows)
    (rx : ∀ j, Real' (x j))
    (rq : ∀ (n : Dev nD) (k C : Fin 1024), Real' (Wq (ix2 k (wide n C))))
    (rk : ∀ (n : Dev nD) (k C : Fin 1024), Real' (Wk (ix2 k (wide n C))))

include hx hq hk hv ho rx rq rk in
/-- Each device's partial product is the reference's sum over the device's columns. -/
theorem partsAt_at (n : Dev nD) (b : Fin 2) (i : Fin 512) (y : Fin 1024) :
    partsAt (F := Ideal) m n (ix2 ⟨b.val * 512 + i.val, by omega⟩ y)
      = ∑ C : Fin 1024, val_main_v79 (F := Ideal) x Wq Wk Wv (ix3 b i (wide n C)) * Wo (ix2 (wide n C) y) := by
  have ex : (insAt (F := Ideal) m n).x = x := (V_main_arg0 m n).trans (hx n)
  have eq : (insAt (F := Ideal) m n).wq = Layout.block ⟨2, ![1024, 1024]⟩ ⟨2, ![1024, 16384]⟩ 1 16 n Wq tiles_cols := (V_main_arg1 m n).trans (hq n)
  have ek : (insAt (F := Ideal) m n).wk = Layout.block ⟨2, ![1024, 1024]⟩ ⟨2, ![1024, 16384]⟩ 1 16 n Wk tiles_cols := (V_main_arg2 m n).trans (hk n)
  have ev : (insAt (F := Ideal) m n).wv = Layout.block ⟨2, ![1024, 1024]⟩ ⟨2, ![1024, 16384]⟩ 1 16 n Wv tiles_cols := (V_main_arg3 m n).trans (hv n)
  have eo : (insAt (F := Ideal) m n).wo = Layout.block ⟨2, ![1024, 1024]⟩ ⟨2, ![16384, 1024]⟩ 0 16 n Wo tiles_rows := (V_main_arg4 m n).trans (ho n)
  have cq : ∀ k C, (insAt (F := Ideal) m n).wq (ix2 k C) = Wq (ix2 k (wide n C)) := fun k C => (congrFun eq _).trans (cut_cols n Wq _ k C)
  have ck : ∀ k C, (insAt (F := Ideal) m n).wk (ix2 k C) = Wk (ix2 k (wide n C)) := fun k C => (congrFun ek _).trans (cut_cols n Wk _ k C)
  exact part_at (insAt (F := Ideal) m n) n x Wq Wk Wv (insAt_cos m n) (insAt_sin m n) (insAt_ev m n) (insAt_od m n) ex
    cq ck (fun k C => (congrFun ev _).trans (cut_cols n Wv _ k C)) rx (fun k C => by rw [cq]; exact rq n k C) (fun k C => by rw [ck]; exact rk n k C) Wo
    (fun C y => (congrFun eo _).trans (cut_rows Wo n _ C y)) b i y

include hx hq hk hv ho rx rq rk in
/-- Where each device holds the same activations and its own blocks of the projections, with the activations and the blocks of the first
    two projections real numbers, every device ends with the reference's result. -/
theorem resAt_eq (c : Dev nD) : resAt (F := Ideal) m c = val_main_v80 (F := Ideal) x Wq Wk Wv Wo := by
  have at' : ∀ (b : Fin 2) (i : Fin 512) (y : Fin 1024),
      resAt (F := Ideal) m c (ix3 b i y) = val_main_v80 (F := Ideal) x Wq Wk Wv Wo (ix3 b i y) := fun b i y => by
    refine Eq.trans (outAt_sum (partsAt (F := Ideal) m) c b i y) ?_
    rw [result_at, Fin.sum_univ_tiles 16 1024 rfl]
    exact Finset.sum_congr rfl fun n _ => partsAt_at m x Wq Wk Wv Wo hx hq hk hv ho rx rq rk n b i y
  funext j
  rw [eq_ix3 j]
  exact at' (j 0) (j 1) (j 2)

end Whole

end Cert.KernelIdeal.Ring

end
-- ==== Proof.lean ====
/-
  The kernel is tensor-parallel attention with rotary embedding on a ring of sixteen devices: each device runs its own eight
  heads and its rows of the output projection, and two rings of remote copies add the sixteen partial products and pass the sum
  round. Proved here: the kernel and the reference end with their arguments as they were and every semaphore at zero, and over the
  extended reals every device of the kernel ends with the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.ReferenceValue
public import proofs.«01_k».proof.Proof.KernelLaunch
public import proofs.«01_k».proof.Proof.KernelIdealLaunch
public import proofs.«01_k».proof.Proof.KernelIdealEqual

@[expose] public section

noncomputable section

namespace Cert.Proof

open Idealize.ShloMosaic Idealize.SL.Sem

/-- The kernel over the float words ends with its arguments as they were and every semaphore at zero. -/
theorem quiescent_kernel : Cert.quiescent_Kernel := fun m g _ =>
  (θ_run _ _ _).mono (fun _ h => ⟨fun c => (h.1 c).2, h.2⟩) (Cert.Kernel.Ring.run_main (F := Bits) m g)

/-- The kernel over the reals does too. -/
theorem quiescent_kernelIdeal : Cert.quiescent_KernelIdeal := fun m g _ =>
  (θ_run _ _ _).mono (fun _ h => ⟨fun c => (h.1 c).2, h.2⟩) (Cert.KernelIdeal.Ring.run_main (F := Ideal) m g)

/-- The reference does too. -/
theorem quiescent_referenceIdeal : Cert.quiescent_ReferenceIdeal := fun m g _ =>
  (θ_run _ _ _).mono (fun r h => ⟨fun c => (h c).2, sem_eq_zero_of_no_sems (by decide) r.2⟩) (Cert.ReferenceIdeal.Value.run (F := Ideal) m g)

/-- The predicate's operations take shapes that broadcast. -/
theorem facts_kernel : Cert.Pre_finite_KernelIdeal.Facts := ⟨by decide, by decide⟩
theorem facts_reference : Cert.Pre_finite_ReferenceIdeal.Facts := ⟨by decide, by decide⟩

theorem ofBits_top : Ideal.ofBits .f32 0x7F800000#32 = ⊤ := by
  simp [Ideal.ofBits, Ideal.ieee]

/-- An array whose absolute values are all below infinity holds real numbers. -/
theorem real_of_finite {s : Shape} (h : (⟨0, ![]⟩ : Shape).BroadcastsInDim s (![] : Fin 0 → Fin s.rank)) (X : FVec Ideal s .f32)
    (hX : cmpf .olt (Host.absf X) (broadcastInDim s ![] h (constant ⟨0, ![]⟩ .f32 0x7F800000#32)) = fun _ => 1#1) (j : s.Idx) :
    Cert.Attn.Real' (X j) := by
  have e : BitVec.ofBool (decide (max (X j) (-X j) < Ideal.ofBits .f32 0x7F800000#32)) = 1#1 := congrFun hX j
  rw [ofBits_top] at e
  by_cases hj : max (X j) (-X j) < ⊤
  · exact .of_abs_lt hj
  · rw [decide_eq_false hj] at e
    exact absurd e (by decide)

/-- With the activations and the first two projections finite, every device of the kernel ends with the reference's result. -/
theorem algebraic : Cert.algebraic_KernelIdeal_ReferenceIdeal_pre_finite_KernelIdeal (hPre_finite_KernelIdeal := facts_kernel) := by
  intro m g m' g' hp ha
  have rx : ∀ j, Cert.Attn.Real' (m' (((0 : Dev Cert.ReferenceIdeal.nD).tc : Thread Cert.ReferenceIdeal.nD Cert.ReferenceIdeal.τ).loc Cert.ReferenceIdeal.main_arg0) j) := by
    rw [← (ha 0).1]
    exact real_of_finite _ _ (hp 0).1
  refine ⟨Cert.ReferenceIdeal.Value.res_main_v80 (F := Ideal) m' 0, ?_, ?_⟩
  · refine (θ_run _ _ _).mono (fun _ h c => ⟨((h.1 c).1.trans ?_), (h.1 c).2⟩) (Cert.KernelIdeal.Ring.run_main (F := Ideal) m g)
    rw [Cert.ReferenceIdeal.Read.val_main_v80_eq]
    refine Cert.KernelIdeal.Ring.resAt_eq m _ _ _ _ _ (fun n => (ha n).1) (fun n => (ha n).2.1) (fun n => (ha n).2.2.1) (fun n => (ha n).2.2.2.1)
      (fun n => (ha n).2.2.2.2) rx (fun n k C => ?_) (fun n k C => ?_) c
    · have r := real_of_finite _ _ (hp n).2.1 (ValueIdx.ix2 k C)
      rw [(ha n).2.1] at r
      exact (congrArg Cert.Attn.Real' (Cert.KernelIdeal.Ring.cut_cols n _ _ k C)).mp r
    · have r := real_of_finite _ _ (hp n).2.2 (ValueIdx.ix2 k C)
      rw [(ha n).2.2.1] at r
      exact (congrArg Cert.Attn.Real' (Cert.KernelIdeal.Ring.cut_cols n _ _ k C)).mp r
  · exact (θ_run _ _ _).mono (fun _ h => h 0) (Cert.ReferenceIdeal.Value.run (F := Ideal) m' g')

theorem claim : Cert.Claim := ⟨Cert.Kernel.Gen.facts, Cert.KernelIdeal.Gen.facts, Cert.ReferenceIdeal.Gen.facts, facts_kernel, facts_reference,
  quiescent_kernel, quiescent_kernelIdeal, fun m g _ => quiescent_kernelIdeal m g trivial, quiescent_referenceIdeal,
  fun m g _ => quiescent_referenceIdeal m g trivial, trivial, algebraic⟩

end Cert.Proof

end
